-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 [hPre_experts_in_range : Cert.Pre_experts_in_range.Facts] (m : (ℓ : Loc Cert.Kernel2.nD Cert.Kernel2.τ Cert.Kernel2.sig) → Buf (Elt Bits) ℓ) : Prop :=
  ∀ c : Dev Cert.Kernel2.nD,
    (Cert.Pre_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_experts_in_range : Cert.Pre_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_in_range [hPre_experts_in_range : Cert.Pre_experts_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] [hPre_experts_in_range : Cert.Pre_experts_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_experts_in_range [hReference2Ideal : Cert.Reference2Ideal.Facts] [hPre_experts_in_range : Cert.Pre_experts_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v139)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v139) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) →
    ∃ (v0 : (c : Dev Cert.Kernel3Ideal.nD) → Buf (Elt Ideal) ((c.tc : Thread Cert.Kernel3Ideal.nD Cert.Kernel3Ideal.τ).loc Cert.Kernel3Ideal.main_v3)) (v1 : (c : Dev Cert.Kernel3Ideal.nD) → Buf (Elt Ideal) ((c.tc : Thread Cert.Kernel3Ideal.nD Cert.Kernel3Ideal.τ).loc Cert.Kernel3Ideal.main_v6)) (v2 : (c : Dev Cert.Kernel3Ideal.nD) → Buf (Elt Ideal) ((c.tc : Thread Cert.Kernel3Ideal.nD Cert.Kernel3Ideal.τ).loc Cert.Kernel3Ideal.main_v9)) (v3 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_v6) = v1 c
          ∧ r.2.mem ((c.tc : Thread Cert.Kernel3Ideal.nD Cert.Kernel3Ideal.τ).loc Cert.Kernel3Ideal.main_v9) = v2 c
          ∧ r.2.mem ((c.tc : Thread Cert.Kernel3Ideal.nD Cert.Kernel3Ideal.τ).loc Cert.Kernel3Ideal.main_v12) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_v13) = v1 c
          ∧ r.2.mem ((c.tc : Thread Cert.Reference3Ideal.nD Cert.Reference3Ideal.τ).loc Cert.Reference3Ideal.main_v9) = v2 c
          ∧ r.2.mem ((c.tc : Thread Cert.Reference3Ideal.nD Cert.Reference3Ideal.τ).loc Cert.Reference3Ideal.main_v11) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_experts_in_range : Cert.Pre_experts_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_experts_in_range := hPre_experts_in_range)
    ∧ quiescent_Kernel2Ideal (hKernel2Ideal := hKernel2Ideal) (hPre_experts_in_range := hPre_experts_in_range)
    ∧ quiescent_Reference2Ideal (hReference2Ideal := hReference2Ideal)
    ∧ quiescent_Reference2Ideal_pre_experts_in_range (hReference2Ideal := hReference2Ideal) (hPre_experts_in_range := hPre_experts_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_experts_in_range := hPre_experts_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_experts_in_range.lean ====
abbrev S31 : Shape := ⟨1, ![31]⟩
abbrev S23808x2048 : Shape := ⟨2, ![23808, 2048]⟩
abbrev S1x8x2048x5632 : Shape := ⟨4, ![1, 8, 2048, 5632]⟩
abbrev S1x8x5632x2048 : Shape := ⟨4, ![1, 8, 5632, 2048]⟩
abbrev S_ : Shape := ⟨0, ![]⟩

class Facts : Prop where
  bcast_S_S31 : S_.BroadcastsInDim S31 (![] : Fin 0 → Fin S31.rank)
  reducesTo_S31_S_d0 : S31.ReducesTo [0] S_
  h_S_ : 0 < S_.numel

variable [Facts]

def fn {F : FTy → Type} [FloatOps F] (main_arg0 : IVec S31 32) (main_arg1 : IVec S31 32) (main_arg2 : FVec F S23808x2048 .bf16) (main_arg3 : FVec F S1x8x2048x5632 .f32) (main_arg4 : FVec F S1x8x2048x5632 .f32) (main_arg5 : FVec F S1x8x5632x2048 .f32) : IVec S_ 1 :=
  let main_c : IVec S_ 32 := constantI S_ 32 0#32
  let main_v0 : IVec S31 32 := broadcastInDim S31 ![] bcast_S_S31 main_c
  let main_v1 : IVec S31 1 := cmpi .sge main_arg0 main_v0
  let main_c_0 : IVec S_ 32 := constantI S_ 32 8#32
  let main_v2 : IVec S31 32 := broadcastInDim S31 ![] bcast_S_S31 main_c_0
  let main_v3 : IVec S31 1 := cmpi .slt main_arg0 main_v2
  let main_v4 : IVec S31 1 := andi main_v1 main_v3
  let main_c_1 : IVec S_ 1 := constantI S_ 1 1#1
  let main_v5 : IVec S_ 1 := (fun x v => Host.reduce IntOp.andi x v reducesTo_S31_S_d0 h_S_) main_v4 main_c_1
  main_v5
-- ==== Pre_finite.lean ====
abbrev S9216x8192 : Shape := ⟨2, ![9216, 8192]⟩
abbrev S513x8 : Shape := ⟨2, ![513, 8]⟩
abbrev S_ : Shape := ⟨0, ![]⟩

class Facts : Prop where
  bcast_S_S9216x8192 : S_.BroadcastsInDim S9216x8192 (![] : Fin 0 → Fin S9216x8192.rank)
  reducesTo_S9216x8192_S_d0_1 : S9216x8192.ReducesTo [0, 1] S_
  h_S_ : 0 < S_.numel
  bcast_S_S513x8 : S_.BroadcastsInDim S513x8 (![] : Fin 0 → Fin S513x8.rank)
  reducesTo_S513x8_S_d0_1 : S513x8.ReducesTo [0, 1] S_

variable [Facts]

def fn {F : FTy → Type} [FloatOps F] (main_arg0 : FVec F S9216x8192 .f32) (main_arg1 : FVec F S513x8 .f32) : IVec S_ 1 :=
  let main_cst : FVec F S_ .f32 := constant S_ .f32 0x7F800000#32
  let main_v0 : FVec F S9216x8192 .f32 := broadcastInDim S9216x8192 ![] bcast_S_S9216x8192 main_cst
  let main_v1 : IVec S9216x8192 1 := cmpf .olt main_arg0 main_v0
  let main_cst_0 : FVec F S_ .f32 := constant S_ .f32 0xFF800000#32
  let main_v2 : FVec F S9216x8192 .f32 := broadcastInDim S9216x8192 ![] bcast_S_S9216x8192 main_cst_0
  let main_v3 : IVec S9216x8192 1 := cmpf .ogt main_arg0 main_v2
  let main_v4 : IVec S9216x8192 1 := andi main_v1 main_v3
  let main_c : IVec S_ 1 := constantI S_ 1 1#1
  let main_v5 : IVec S_ 1 := (fun x v => Host.reduce IntOp.andi x v reducesTo_S9216x8192_S_d0_1 h_S_) main_v4 main_c
  let main_cst_1 : FVec F S_ .f32 := constant S_ .f32 0x7F800000#32
  let main_v6 : FVec F S513x8 .f32 := broadcastInDim S513x8 ![] bcast_S_S513x8 main_cst_1
  let main_v7 : IVec S513x8 1 := cmpf .olt main_arg1 main_v6
  let main_cst_2 : FVec F S_ .f32 := constant S_ .f32 0xFF800000#32
  let main_v8 : FVec F S513x8 .f32 := broadcastInDim S513x8 ![] bcast_S_S513x8 main_cst_2
  let main_v9 : IVec S513x8 1 := cmpf .ogt main_arg1 main_v8
  let main_v10 : IVec S513x8 1 := andi main_v7 main_v9
  let main_c_3 : IVec S_ 1 := constantI S_ 1 1#1
  let main_v11 : IVec S_ 1 := (fun x v => Host.reduce IntOp.andi x v reducesTo_S513x8_S_d0_1 h_S_) main_v10 main_c_3
  let main_v12 : IVec S_ 1 := andi main_v5 main_v11
  main_v12
-- ==== Kernel.lean ====
abbrev S9216x8192 : Shape := ⟨2, ![9216, 8192]⟩
abbrev S513x8 : Shape := ⟨2, ![513, 8]⟩
abbrev S1x8 : Shape := ⟨2, ![1, 8]⟩
abbrev S319x8 : Shape := ⟨2, ![319, 8]⟩
abbrev S320x8 : Shape := ⟨2, ![320, 8]⟩
abbrev S639x8 : Shape := ⟨2, ![639, 8]⟩
abbrev S576x8 : Shape := ⟨2, ![576, 8]⟩
abbrev S1x576x8 : Shape := ⟨3, ![1, 576, 8]⟩
abbrev S16x576x8 : Shape := ⟨3, ![16, 576, 8]⟩
abbrev S64x576x8 : Shape := ⟨3, ![64, 576, 8]⟩
abbrev S8x64x576 : Shape := ⟨3, ![8, 64, 576]⟩
abbrev S8192x1024 : Shape := ⟨2, ![8192, 1024]⟩
abbrev S256x1024 : Shape := ⟨2, ![256, 1024]⟩
abbrev S8x256x768 : Shape := ⟨3, ![8, 256, 768]⟩
abbrev S256x768 : Shape := ⟨2, ![256, 768]⟩
abbrev S256x128 : Shape := ⟨2, ![256, 128]⟩
abbrev S768x128 : Shape := ⟨2, ![768, 128]⟩
abbrev S1x256x768 : Shape := ⟨3, ![1, 256, 768]⟩
abbrev S256 : Shape := ⟨1, ![256]⟩
abbrev S256x1 : Shape := ⟨2, ![256, 1]⟩

abbrev nBuf : Space → Nat
  | .hbm => 142
  | .vmem => 18
  | .smem => 0
  | _ => 0

abbrev hbmTy0_0 (i : Nat) : BufTy := match i % 128 with
  | 0 => ⟨S9216x8192, .f32⟩
  | 1 => ⟨S513x8, .f32⟩
  | 2 => ⟨S513x8, .f32⟩
  | 3 => ⟨S1x8, .f32⟩
  | 4 => ⟨S319x8, .f32⟩
  | 5 => ⟨S320x8, .f32⟩
  | 6 => ⟨S639x8, .f32⟩
  | 7 => ⟨S576x8, .f32⟩
  | 8 => ⟨S576x8, .f32⟩
  | 9 => ⟨S576x8, .f32⟩
  | 10 => ⟨S576x8, .f32⟩
  | 11 => ⟨S576x8, .f32⟩
  | 12 => ⟨S576x8, .f32⟩
  | 13 => ⟨S576x8, .f32⟩
  | 14 => ⟨S576x8, .f32⟩
  | 15 => ⟨S576x8, .f32⟩
  | 16 => ⟨S576x8, .f32⟩
  | 17 => ⟨S576x8, .f32⟩
  | 18 => ⟨S576x8, .f32⟩
  | 19 => ⟨S576x8, .f32⟩
  | 20 => ⟨S576x8, .f32⟩
  | 21 => ⟨S576x8, .f32⟩
  | 22 => ⟨S576x8, .f32⟩
  | 23 => ⟨S576x8, .f32⟩
  | 24 => ⟨S576x8, .f32⟩
  | 25 => ⟨S576x8, .f32⟩
  | 26 => ⟨S576x8, .f32⟩
  | 27 => ⟨S576x8, .f32⟩
  | 28 => ⟨S576x8, .f32⟩
  | 29 => ⟨S576x8, .f32⟩
  | 30 => ⟨S576x8, .f32⟩
  | 31 => ⟨S576x8, .f32⟩
  | 32 => ⟨S576x8, .f32⟩
  | 33 => ⟨S576x8, .f32⟩
  | 34 => ⟨S576x8, .f32⟩
  | 35 => ⟨S576x8, .f32⟩
  | 36 => ⟨S576x8, .f32⟩
  | 37 => ⟨S576x8, .f32⟩
  | 38 => ⟨S576x8, .f32⟩
  | 39 => ⟨S576x8, .f32⟩
  | 40 => ⟨S576x8, .f32⟩
  | 41 => ⟨S576x8, .f32⟩
  | 42 => ⟨S576x8, .f32⟩
  | 43 => ⟨S576x8, .f32⟩
  | 44 => ⟨S576x8, .f32⟩
  | 45 => ⟨S576x8, .f32⟩
  | 46 => ⟨S576x8, .f32⟩
  | 47 => ⟨S576x8, .f32⟩
  | 48 => ⟨S576x8, .f32⟩
  | 49 => ⟨S576x8, .f32⟩
  | 50 => ⟨S576x8, .f32⟩
  | 51 => ⟨S576x8, .f32⟩
  | 52 => ⟨S576x8, .f32⟩
  | 53 => ⟨S576x8, .f32⟩
  | 54 => ⟨S576x8, .f32⟩
  | 55 => ⟨S576x8, .f32⟩
  | 56 => ⟨S576x8, .f32⟩
  | 57 => ⟨S576x8, .f32⟩
  | 58 => ⟨S576x8, .f32⟩
  | 59 => ⟨S576x8, .f32⟩
  | 60 => ⟨S576x8, .f32⟩
  | 61 => ⟨S576x8, .f32⟩
  | 62 => ⟨S576x8, .f32⟩
  | 63 => ⟨S576x8, .f32⟩
  | 64 => ⟨S576x8, .f32⟩
  | 65 => ⟨S576x8, .f32⟩
  | 66 => ⟨S576x8, .f32⟩
  | 67 => ⟨S576x8, .f32⟩
  | 68 => ⟨S576x8, .f32⟩
  | 69 => ⟨S576x8, .f32⟩
  | 70 => ⟨S576x8, .f32⟩
  | 71 => ⟨S1x576x8, .f32⟩
  | 72 => ⟨S1x576x8, .f32⟩
  | 73 => ⟨S1x576x8, .f32⟩
  | 74 => ⟨S1x576x8, .f32⟩
  | 75 => ⟨S1x576x8, .f32⟩
  | 76 => ⟨S1x576x8, .f32⟩
  | 77 => ⟨S1x576x8, .f32⟩
  | 78 => ⟨S1x576x8, .f32⟩
  | 79 => ⟨S1x576x8, .f32⟩
  | 80 => ⟨S1x576x8, .f32⟩
  | 81 => ⟨S1x576x8, .f32⟩
  | 82 => ⟨S1x576x8, .f32⟩
  | 83 => ⟨S1x576x8, .f32⟩
  | 84 => ⟨S1x576x8, .f32⟩
  | 85 => ⟨S1x576x8, .f32⟩
  | 86 => ⟨S1x576x8, .f32⟩
  | 87 => ⟨S1x576x8, .f32⟩
  | 88 => ⟨S1x576x8, .f32⟩
  | 89 => ⟨S1x576x8, .f32⟩
  | 90 => ⟨S1x576x8, .f32⟩
  | 91 => ⟨S1x576x8, .f32⟩
  | 92 => ⟨S1x576x8, .f32⟩
  | 93 => ⟨S1x576x8, .f32⟩
  | 94 => ⟨S1x576x8, .f32⟩
  | 95 => ⟨S1x576x8, .f32⟩
  | 96 => ⟨S1x576x8, .f32⟩
  | 97 => ⟨S1x576x8, .f32⟩
  | 98 => ⟨S1x576x8, .f32⟩
  | 99 => ⟨S1x576x8, .f32⟩
  | 100 => ⟨S1x576x8, .f32⟩
  | 101 => ⟨S1x576x8, .f32⟩
  | 102 => ⟨S1x576x8, .f32⟩
  | 103 => ⟨S1x576x8, .f32⟩
  | 104 => ⟨S1x576x8, .f32⟩
  | 105 => ⟨S1x576x8, .f32⟩
  | 106 => ⟨S1x576x8, .f32⟩
  | 107 => ⟨S1x576x8, .f32⟩
  | 108 => ⟨S1x576x8, .f32⟩
  | 109 => ⟨S1x576x8, .f32⟩
  | 110 => ⟨S1x576x8, .f32⟩
  | 111 => ⟨S1x576x8, .f32⟩
  | 112 => ⟨S1x576x8, .f32⟩
  | 113 => ⟨S1x576x8, .f32⟩
  | 114 => ⟨S1x576x8, .f32⟩
  | 115 => ⟨S1x576x8, .f32⟩
  | 116 => ⟨S1x576x8, .f32⟩
  | 117 => ⟨S1x576x8, .f32⟩
  | 118 => ⟨S1x576x8, .f32⟩
  | 119 => ⟨S1x576x8, .f32⟩
  | 120 => ⟨S1x576x8, .f32⟩
  | 121 => ⟨S1x576x8, .f32⟩
  | 122 => ⟨S1x576x8, .f32⟩
  | 123 => ⟨S1x576x8, .f32⟩
  | 124 => ⟨S1x576x8, .f32⟩
  | 125 => ⟨S1x576x8, .f32⟩
  | 126 => ⟨S1x576x8, .f32⟩
  | 127 => ⟨S1x576x8, .f32⟩
  | _ => ⟨S9216x8192, .f32⟩

abbrev hbmTy0_1 (i : Nat) : BufTy := match i % 128 with
  | 0 => ⟨S1x576x8, .f32⟩
  | 1 => ⟨S1x576x8, .f32⟩
  | 2 => ⟨S1x576x8, .f32⟩
  | 3 => ⟨S1x576x8, .f32⟩
  | 4 => ⟨S1x576x8, .f32⟩
  | 5 => ⟨S1x576x8, .f32⟩
  | 6 => ⟨S1x576x8, .f32⟩
  | 7 => ⟨S16x576x8, .f32⟩
  | 8 => ⟨S16x576x8, .f32⟩
  | 9 => ⟨S16x576x8, .f32⟩
  | 10 => ⟨S16x576x8, .f32⟩
  | 11 => ⟨S64x576x8, .f32⟩
  | 12 => ⟨S8x64x576, .f32⟩
  | 13 => ⟨S8192x1024, .bf16⟩
  | _ => ⟨S9216x8192, .f32⟩

abbrev hbmTy (i : Nat) : BufTy := match i / 128 with
  | 0 => hbmTy0_0 i
  | 1 => hbmTy0_1 i
  | _ => ⟨S9216x8192, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S8x64x576, .f32⟩
  | .local _ .vmem, ⟨15, _⟩ => ⟨S256x1024, .bf16⟩
  | .local _ .vmem, ⟨16, _⟩ => ⟨S256x1024, .bf16⟩
  | .local _ .vmem, ⟨17, _⟩ => ⟨S8x256x768, .f32⟩
  | _, _ => ⟨S9216x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_v81 : Ref sig .tc := ⟨.hbm, 83, rfl⟩
abbrev main_v82 : Ref sig .tc := ⟨.hbm, 84, rfl⟩
abbrev main_v83 : Ref sig .tc := ⟨.hbm, 85, rfl⟩
abbrev main_v84 : Ref sig .tc := ⟨.hbm, 86, rfl⟩
abbrev main_v85 : Ref sig .tc := ⟨.hbm, 87, rfl⟩
abbrev main_v86 : Ref sig .tc := ⟨.hbm, 88, rfl⟩
abbrev main_v87 : Ref sig .tc := ⟨.hbm, 89, rfl⟩
abbrev main_v88 : Ref sig .tc := ⟨.hbm, 90, rfl⟩
abbrev main_v89 : Ref sig .tc := ⟨.hbm, 91, rfl⟩
abbrev main_v90 : Ref sig .tc := ⟨.hbm, 92, rfl⟩
abbrev main_v91 : Ref sig .tc := ⟨.hbm, 93, rfl⟩
abbrev main_v92 : Ref sig .tc := ⟨.hbm, 94, rfl⟩
abbrev main_v93 : Ref sig .tc := ⟨.hbm, 95, rfl⟩
abbrev main_v94 : Ref sig .tc := ⟨.hbm, 96, rfl⟩
abbrev main_v95 : Ref sig .tc := ⟨.hbm, 97, rfl⟩
abbrev main_v96 : Ref sig .tc := ⟨.hbm, 98, rfl⟩
abbrev main_v97 : Ref sig .tc := ⟨.hbm, 99, rfl⟩
abbrev main_v98 : Ref sig .tc := ⟨.hbm, 100, rfl⟩
abbrev main_v99 : Ref sig .tc := ⟨.hbm, 101, rfl⟩
abbrev main_v100 : Ref sig .tc := ⟨.hbm, 102, rfl⟩
abbrev main_v101 : Ref sig .tc := ⟨.hbm, 103, rfl⟩
abbrev main_v102 : Ref sig .tc := ⟨.hbm, 104, rfl⟩
abbrev main_v103 : Ref sig .tc := ⟨.hbm, 105, rfl⟩
abbrev main_v104 : Ref sig .tc := ⟨.hbm, 106, rfl⟩
abbrev main_v105 : Ref sig .tc := ⟨.hbm, 107, rfl⟩
abbrev main_v106 : Ref sig .tc := ⟨.hbm, 108, rfl⟩
abbrev main_v107 : Ref sig .tc := ⟨.hbm, 109, rfl⟩
abbrev main_v108 : Ref sig .tc := ⟨.hbm, 110, rfl⟩
abbrev main_v109 : Ref sig .tc := ⟨.hbm, 111, rfl⟩
abbrev main_v110 : Ref sig .tc := ⟨.hbm, 112, rfl⟩
abbrev main_v111 : Ref sig .tc := ⟨.hbm, 113, rfl⟩
abbrev main_v112 : Ref sig .tc := ⟨.hbm, 114, rfl⟩
abbrev main_v113 : Ref sig .tc := ⟨.hbm, 115, rfl⟩
abbrev main_v114 : Ref sig .tc := ⟨.hbm, 116, rfl⟩
abbrev main_v115 : Ref sig .tc := ⟨.hbm, 117, rfl⟩
abbrev main_v116 : Ref sig .tc := ⟨.hbm, 118, rfl⟩
abbrev main_v117 : Ref sig .tc := ⟨.hbm, 119, rfl⟩
abbrev main_v118 : Ref sig .tc := ⟨.hbm, 120, rfl⟩
abbrev main_v119 : Ref sig .tc := ⟨.hbm, 121, rfl⟩
abbrev main_v120 : Ref sig .tc := ⟨.hbm, 122, rfl⟩
abbrev main_v121 : Ref sig .tc := ⟨.hbm, 123, rfl⟩
abbrev main_v122 : Ref sig .tc := ⟨.hbm, 124, rfl⟩
abbrev main_v123 : Ref sig .tc := ⟨.hbm, 125, rfl⟩
abbrev main_v124 : Ref sig .tc := ⟨.hbm, 126, rfl⟩
abbrev main_v125 : Ref sig .tc := ⟨.hbm, 127, rfl⟩
abbrev main_v126 : Ref sig .tc := ⟨.hbm, 128, rfl⟩
abbrev main_v127 : Ref sig .tc := ⟨.hbm, 129, rfl⟩
abbrev main_v128 : Ref sig .tc := ⟨.hbm, 130, rfl⟩
abbrev main_v129 : Ref sig .tc := ⟨.hbm, 131, rfl⟩
abbrev main_v130 : Ref sig .tc := ⟨.hbm, 132, rfl⟩
abbrev main_v131 : Ref sig .tc := ⟨.hbm, 133, rfl⟩
abbrev main_v132 : Ref sig .tc := ⟨.hbm, 134, rfl⟩
abbrev main_v133 : Ref sig .tc := ⟨.hbm, 135, rfl⟩
abbrev main_v134 : Ref sig .tc := ⟨.hbm, 136, rfl⟩
abbrev main_v135 : Ref sig .tc := ⟨.hbm, 137, rfl⟩
abbrev main_v136 : Ref sig .tc := ⟨.hbm, 138, rfl⟩
abbrev main_v137 : Ref sig .tc := ⟨.hbm, 139, rfl⟩
abbrev main_v138 : Ref sig .tc := ⟨.hbm, 140, rfl⟩
abbrev main_v139 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c1_i32 : BitVec 32 := 1#32
  let c0_i32_0 : BitVec 32 := 0#32
  ![v3.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c1_i32_0 : BitVec 32 := 1#32
  let c0_i32_1 : BitVec 32 := 0#32
  ![v3.toNat, c1_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c1_i32 : BitVec 32 := 1#32
  let c0_i32_1 : BitVec 32 := 0#32
  ![v3.toNat, c1_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c2_i32_0 : BitVec 32 := 2#32
  let c0_i32_1 : BitVec 32 := 0#32
  ![v3.toNat, c2_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c2_i32 : BitVec 32 := 2#32
  let c0_i32_0 : BitVec 32 := 0#32
  ![v3.toNat, c2_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c2_i32 : BitVec 32 := 2#32
  let c0_i32_1 : BitVec 32 := 0#32
  ![v3.toNat, c2_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x64x576 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S9216x8192 : Shape := ⟨2, ![9216, 8192]⟩
abbrev S513x8 : Shape := ⟨2, ![513, 8]⟩
abbrev S8192x8192 : Shape := ⟨2, ![8192, 8192]⟩
abbrev S2x4096x8192 : Shape := ⟨3, ![2, 4096, 8192]⟩
abbrev S2x4096x1024 : Shape := ⟨3, ![2, 4096, 1024]⟩
abbrev S2x4096x8x128 : Shape := ⟨4, ![2, 4096, 8, 128]⟩
abbrev S_ : Shape := ⟨0, ![]⟩
abbrev S2x512x8x128 : Shape := ⟨4, ![2, 512, 8, 128]⟩
abbrev S2x4608x8x128 : Shape := ⟨4, ![2, 4608, 8, 128]⟩
abbrev S2x72x64x8x128 : Shape := ⟨5, ![2, 72, 64, 8, 128]⟩
abbrev S64 : Shape := ⟨1, ![64]⟩
abbrev S64x1 : Shape := ⟨2, ![64, 1]⟩
abbrev S9 : Shape := ⟨1, ![9]⟩
abbrev S1x9 : Shape := ⟨2, ![1, 9]⟩
abbrev S64x9 : Shape := ⟨2, ![64, 9]⟩
abbrev S64x9x1 : Shape := ⟨3, ![64, 9, 1]⟩
abbrev S2x64x9x64x8x128 : Shape := ⟨6, ![2, 64, 9, 64, 8, 128]⟩
abbrev S2x64x576x8x128 : Shape := ⟨5, ![2, 64, 576, 8, 128]⟩
abbrev S2x64x64x8x128 : Shape := ⟨5, ![2, 64, 64, 8, 128]⟩
abbrev S2x64x8x64x576 : Shape := ⟨5, ![2, 64, 8, 64, 576]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S64x576x8 : Shape := ⟨3, ![64, 576, 8]⟩
abbrev S8x64x576 : Shape := ⟨3, ![8, 64, 576]⟩
abbrev S1x1x8x64x576 : Shape := ⟨5, ![1, 1, 8, 64, 576]⟩
abbrev S1x64x1x1x576 : Shape := ⟨5, ![1, 64, 1, 1, 576]⟩
abbrev S2x64x8x64 : Shape := ⟨4, ![2, 64, 8, 64]⟩
abbrev S2x64x8x64x1 : Shape := ⟨5, ![2, 64, 8, 64, 1]⟩
abbrev S2x64x8x128x64 : Shape := ⟨5, ![2, 64, 8, 128, 64]⟩
abbrev S8192x1024 : Shape := ⟨2, ![8192, 1024]⟩

abbrev nBuf : Space → Nat
  | .hbm => 122
  | .vmem => 0
  | .smem => 0
  | _ => 0

abbrev bufTy : (tb : Table) → Fin (tcTables nBuf tb) → BufTy
  | .hbm, ⟨0, _⟩ => ⟨S9216x8192, .f32⟩
  | .hbm, ⟨1, _⟩ => ⟨S513x8, .f32⟩
  | .hbm, ⟨2, _⟩ => ⟨S8192x8192, .f32⟩
  | .hbm, ⟨3, _⟩ => ⟨S2x4096x8192, .f32⟩
  | .hbm, ⟨4, _⟩ => ⟨S2x4096x1024, .f32⟩
  | .hbm, ⟨5, _⟩ => ⟨S2x4096x8x128, .f32⟩
  | .hbm, ⟨6, _⟩ => ⟨S2x4096x1024, .f32⟩
  | .hbm, ⟨7, _⟩ => ⟨S2x4096x8x128, .f32⟩
  | .hbm, ⟨8, _⟩ => ⟨S2x4096x1024, .f32⟩
  | .hbm, ⟨9, _⟩ => ⟨S2x4096x8x128, .f32⟩
  | .hbm, ⟨10, _⟩ => ⟨S_, .f32⟩
  | .hbm, ⟨11, _⟩ => ⟨S2x512x8x128, .f32⟩
  | .hbm, ⟨12, _⟩ => ⟨S2x4608x8x128, .f32⟩
  | .hbm, ⟨13, _⟩ => ⟨S2x72x64x8x128, .f32⟩
  | .hbm, ⟨14, _⟩ => ⟨S2x4608x8x128, .f32⟩
  | .hbm, ⟨15, _⟩ => ⟨S2x72x64x8x128, .f32⟩
  | .hbm, ⟨16, _⟩ => ⟨S64, .i32⟩
  | .hbm, ⟨17, _⟩ => ⟨S64x1, .i32⟩
  | .hbm, ⟨18, _⟩ => ⟨S9, .i32⟩
  | .hbm, ⟨19, _⟩ => ⟨S1x9, .i32⟩
  | .hbm, ⟨20, _⟩ => ⟨S64x9, .i32⟩
  | .hbm, ⟨21, _⟩ => ⟨S64x9, .i32⟩
  | .hbm, ⟨22, _⟩ => ⟨S64x9, .i32⟩
  | .hbm, ⟨23, _⟩ => ⟨S_, .i32⟩
  | .hbm, ⟨24, _⟩ => ⟨S64x9, .i32⟩
  | .hbm, ⟨25, _⟩ => ⟨S64x9, .i1⟩
  | .hbm, ⟨26, _⟩ => ⟨S_, .i32⟩
  | .hbm, ⟨27, _⟩ => ⟨S64x9, .i32⟩
  | .hbm, ⟨28, _⟩ => ⟨S64x9, .i32⟩
  | .hbm, ⟨29, _⟩ => ⟨S64x9, .i32⟩
  | .hbm, ⟨30, _⟩ => ⟨S64x9x1, .i32⟩
  | .hbm, ⟨31, _⟩ => ⟨S2x64x9x64x8x128, .f32⟩
  | .hbm, ⟨32, _⟩ => ⟨S2x64x576x8x128, .f32⟩
  | .hbm, ⟨33, _⟩ => ⟨S_, .i32⟩
  | .hbm, ⟨34, _⟩ => ⟨S64x9, .i32⟩
  | .hbm, ⟨35, _⟩ => ⟨S64x9, .i1⟩
  | .hbm, ⟨36, _⟩ => ⟨S_, .i32⟩
  | .hbm, ⟨37, _⟩ => ⟨S64x9, .i32⟩
  | .hbm, ⟨38, _⟩ => ⟨S64x9, .i32⟩
  | .hbm, ⟨39, _⟩ => ⟨S64x9, .i32⟩
  | .hbm, ⟨40, _⟩ => ⟨S64x9x1, .i32⟩
  | .hbm, ⟨41, _⟩ => ⟨S2x64x9x64x8x128, .f32⟩
  | .hbm, ⟨42, _⟩ => ⟨S2x64x576x8x128, .f32⟩
  | .hbm, ⟨43, _⟩ => ⟨S2x64x64x8x128, .f32⟩
  | .hbm, ⟨44, _⟩ => ⟨S2x64x8x64x576, .f32⟩
  | .hbm, ⟨45, _⟩ => ⟨S_, .f32⟩
  | .hbm, ⟨46, _⟩ => ⟨S2x64x8x64x576, .f32⟩
  | .hbm, ⟨47, _⟩ => ⟨S2x64x8x64x576, .f32⟩
  | .hbm, ⟨48, _⟩ => ⟨S64, .i32⟩
  | .hbm, ⟨49, _⟩ => ⟨S64x1, .i32⟩
  | .hbm, ⟨50, _⟩ => ⟨S_, .i32⟩
  | .hbm, ⟨51, _⟩ => ⟨S64x1, .i32⟩
  | .hbm, ⟨52, _⟩ => ⟨S64x1, .i32⟩
  | .hbm, ⟨53, _⟩ => ⟨S576, .i32⟩
  | .hbm, ⟨54, _⟩ => ⟨S1x576, .i32⟩
  | .hbm, ⟨55, _⟩ => ⟨S64x576, .i32⟩
  | .hbm, ⟨56, _⟩ => ⟨S64x576, .i32⟩
  | .hbm, ⟨57, _⟩ => ⟨S64x576, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S64x576, .i32⟩
  | .hbm, ⟨62, _⟩ => ⟨S64x576, .i32⟩
  | .hbm, ⟨63, _⟩ => ⟨S_, .i32⟩
  | .hbm, ⟨64, _⟩ => ⟨S64x576, .i32⟩
  | .hbm, ⟨65, _⟩ => ⟨S64x576, .i32⟩
  | .hbm, ⟨66, _⟩ => ⟨S_, .i32⟩
  | .hbm, ⟨67, _⟩ => ⟨S64x576, .i32⟩
  | .hbm, ⟨68, _⟩ => ⟨S64x576, .i32⟩
  | .hbm, ⟨69, _⟩ => ⟨S_, .i32⟩
  | .hbm, ⟨70, _⟩ => ⟨S64x576, .i32⟩
  | .hbm, ⟨71, _⟩ => ⟨S64x576, .i1⟩
  | .hbm, ⟨72, _⟩ => ⟨S_, .i32⟩
  | .hbm, ⟨73, _⟩ => ⟨S64x576, .i32⟩
  | .hbm, ⟨74, _⟩ => ⟨S64x576, .i32⟩
  | .hbm, ⟨75, _⟩ => ⟨S64x576, .i32⟩
  | .hbm, ⟨76, _⟩ => ⟨S64x576x1, .i32⟩
  | .hbm, ⟨77, _⟩ => ⟨S64x576x8, .f32⟩
  | .hbm, ⟨78, _⟩ => ⟨S8x64x576, .f32⟩
  | .hbm, ⟨79, _⟩ => ⟨S1x1x8x64x576, .f32⟩
  | .hbm, ⟨80, _⟩ => ⟨S2x64x8x64x576, .f32⟩
  | .hbm, ⟨81, _⟩ => ⟨S2x64x8x64x576, .f32⟩
  | .hbm, ⟨82, _⟩ => ⟨S64, .i32⟩
  | .hbm, ⟨83, _⟩ => ⟨S64x1, .i32⟩
  | .hbm, ⟨84, _⟩ => ⟨S_, .i32⟩
  | .hbm, ⟨85, _⟩ => ⟨S64x1, .i32⟩
  | .hbm, ⟨86, _⟩ => ⟨S64x1, .i32⟩
  | .hbm, ⟨87, _⟩ => ⟨S_, .i32⟩
  | .hbm, ⟨88, _⟩ => ⟨S64x1, .i32⟩
  | .hbm, ⟨89, _⟩ => ⟨S64x1, .i32⟩
  | .hbm, ⟨90, _⟩ => ⟨S576, .i32⟩
  | .hbm, ⟨91, _⟩ => ⟨S1x576, .i32⟩
  | .hbm, ⟨92, _⟩ => ⟨S64x576, .i32⟩
  | .hbm, ⟨93, _⟩ => ⟨S64x576, .i32⟩
  | .hbm, ⟨94, _⟩ => ⟨S64x576, .i32⟩
  | .hbm, ⟨95, _⟩ => ⟨S_, .i32⟩
  | .hbm, ⟨96, _⟩ => ⟨S64x576, .i32⟩
  | .hbm, ⟨97, _⟩ => ⟨S64x576, .i1⟩
  | .hbm, ⟨98, _⟩ => ⟨S1x64x1x1x576, .i1⟩
  | .hbm, ⟨99, _⟩ => ⟨S_, .f32⟩
  | .hbm, ⟨100, _⟩ => ⟨S_, .f32⟩
  | .hbm, ⟨101, _⟩ => ⟨S2x64x8x64x576, .i1⟩
  | .hbm, ⟨102, _⟩ => ⟨S2x64x8x64x576, .f32⟩
  | .hbm, ⟨103, _⟩ => ⟨S2x64x8x64x576, .f32⟩
  | .hbm, ⟨104, _⟩ => ⟨S_, .f32⟩
  | .hbm, ⟨105, _⟩ => ⟨S2x64x8x64, .f32⟩
  | .hbm, ⟨106, _⟩ => ⟨S_, .f32⟩
  | .hbm, ⟨107, _⟩ => ⟨S2x64x8x64, .f32⟩
  | .hbm, ⟨108, _⟩ => ⟨S2x64x8x64, .f32⟩
  | .hbm, ⟨109, _⟩ => ⟨S2x64x8x64x1, .f32⟩
  | .hbm, ⟨110, _⟩ => ⟨S2x64x8x64x576, .f32⟩
  | .hbm, ⟨111, _⟩ => ⟨S2x64x8x64x576, .f32⟩
  | .hbm, ⟨112, _⟩ => ⟨S2x64x8x64x576, .f32⟩
  | .hbm, ⟨113, _⟩ => ⟨S_, .f32⟩
  | .hbm, ⟨114, _⟩ => ⟨S2x64x8x64, .f32⟩
  | .hbm, ⟨115, _⟩ => ⟨S2x64x8x64x1, .f32⟩
  | .hbm, ⟨116, _⟩ => ⟨S2x64x8x64x576, .f32⟩
  | .hbm, ⟨117, _⟩ => ⟨S2x64x8x64x576, .f32⟩
  | .hbm, ⟨118, _⟩ => ⟨S2x64x8x128x64, .f32⟩
  | .hbm, ⟨119, _⟩ => ⟨S2x64x64x8x128, .f32⟩
  | .hbm, ⟨120, _⟩ => ⟨S8192x1024, .f32⟩
  | .hbm, ⟨121, _⟩ => ⟨S8192x1024, .bf16⟩
  | _, _ => ⟨S9216x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c : Ref sig .tc := ⟨.hbm, 23, rfl⟩
abbrev main_v20 : Ref sig .tc := ⟨.hbm, 24, rfl⟩
abbrev main_v21 : Ref sig .tc := ⟨.hbm, 25, rfl⟩
abbrev main_c_0 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_c_1 : Ref sig .tc := ⟨.hbm, 33, rfl⟩
abbrev main_v28 : Ref sig .tc := ⟨.hbm, 34, rfl⟩
abbrev main_v29 : Ref sig .tc := ⟨.hbm, 35, rfl⟩
abbrev main_c_2 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_c_4 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_c_5 : Ref sig .tc := ⟨.hbm, 58, rfl⟩
abbrev main_c_6 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_v49 : Ref sig .tc := ⟨.hbm, 65, rfl⟩
abbrev main_c_7 : Ref sig .tc := ⟨.hbm, 66, rfl⟩
abbrev main_v50 : Ref sig .tc := ⟨.hbm, 67, rfl⟩
abbrev main_v51 : Ref sig .tc := ⟨.hbm, 68, rfl⟩
abbrev main_c_8 : Ref sig .tc := ⟨.hbm, 69, rfl⟩
abbrev main_v52 : Ref sig .tc := ⟨.hbm, 70, rfl⟩
abbrev main_v53 : Ref sig .tc := ⟨.hbm, 71, rfl⟩
abbrev main_c_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_c_10 : Ref sig .tc := ⟨.hbm, 84, rfl⟩
abbrev main_v65 : Ref sig .tc := ⟨.hbm, 85, rfl⟩
abbrev main_v66 : Ref sig .tc := ⟨.hbm, 86, rfl⟩
abbrev main_c_11 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_c_12 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_13 : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_v77 : Ref sig .tc := ⟨.hbm, 103, rfl⟩
abbrev main_cst_14 : Ref sig .tc := ⟨.hbm, 104, rfl⟩
abbrev main_v78 : Ref sig .tc := ⟨.hbm, 105, rfl⟩
abbrev main_cst_15 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_16 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩

abbrev nD : Nat := 1
abbrev τ : Topo := Topo.v7x

variable {F : FTy → Type} [FloatOps F]
-- ==== Kernel2.lean ====
abbrev S31 : Shape := ⟨1, ![31]⟩
abbrev S23808x2048 : Shape := ⟨2, ![23808, 2048]⟩
abbrev S1x8x2048x5632 : Shape := ⟨4, ![1, 8, 2048, 5632]⟩
abbrev S1x8x5632x2048 : Shape := ⟨4, ![1, 8, 5632, 2048]⟩
abbrev S768x2048 : Shape := ⟨2, ![768, 2048]⟩
abbrev S1x1x2048x512 : Shape := ⟨4, ![1, 1, 2048, 512]⟩
abbrev S1 : Shape := ⟨1, ![1]⟩
abbrev S1x1x512x2048 : Shape := ⟨4, ![1, 1, 512, 2048]⟩
abbrev S2048x512 : Shape := ⟨2, ![2048, 512]⟩
abbrev S768x512 : Shape := ⟨2, ![768, 512]⟩
abbrev S512x2048 : Shape := ⟨2, ![512, 2048]⟩

abbrev nBuf : Space → Nat
  | .hbm => 5
  | .vmem => 10
  | .smem => 2
  | _ => 0

abbrev bufTy : (tb : Table) → Fin (tcTables nBuf tb) → BufTy
  | .hbm, ⟨0, _⟩ => ⟨S23808x2048, .bf16⟩
  | .hbm, ⟨1, _⟩ => ⟨S1x8x2048x5632, .f32⟩
  | .hbm, ⟨2, _⟩ => ⟨S1x8x2048x5632, .f32⟩
  | .hbm, ⟨3, _⟩ => ⟨S1x8x5632x2048, .f32⟩
  | .hbm, ⟨4, _⟩ => ⟨S23808x2048, .f32⟩
  | .local _ .vmem, ⟨0, _⟩ => ⟨S768x2048, .bf16⟩
  | .local _ .vmem, ⟨1, _⟩ => ⟨S768x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x512x2048, .f32⟩
  | .local _ .vmem, ⟨7, _⟩ => ⟨S1x1x512x2048, .f32⟩
  | .local _ .vmem, ⟨8, _⟩ => ⟨S768x2048, .f32⟩
  | .local _ .vmem, ⟨9, _⟩ => ⟨S768x2048, .f32⟩
  | .local _ .smem, ⟨0, _⟩ => ⟨S31, .i32⟩
  | .local _ .smem, ⟨1, _⟩ => ⟨S31, .i32⟩
  | _, _ => ⟨S23808x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![31, 11], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (v4 : BitVec 32) : BitVec 1 :=
  let c1_i32 : BitVec 32 := 1#32
  let v5 : BitVec 1 := Scalar.cmpi .eq v4 c1_i32
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S31.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S31) ![v0.toNat] S1.size (k0_off1_inb i)) numel1_S1
  let v2 : Index := Scalar.indexCast arg0
  let v3 : BitVec 32 := pf.at 1 (Rect.unit (s := S31) ![v2.toNat] S1.size (k0_off1_inb i)) numel1_S1
  let c1_i32 : BitVec 32 := 1#32
  let v4 : BitVec 1 := Scalar.cmpi .eq v3 c1_i32
  let c10_i32 : BitVec 32 := 10#32
  let v5 : BitVec 32 := Scalar.select v4 arg1 c10_i32
  let c0_i32 : BitVec 32 := 0#32
  let c0_i32_0 : BitVec 32 := 0#32
  let c0_i32_1 : BitVec 32 := 0#32
  ![c0_i32.toNat, v1.toNat, c0_i32_0.toNat, v5.toNat]

def cc0_transform_2 (k0_off1_inb : ∀ i : grid0.Coords, ∀ a, (k0_off1 i) a + S1.size a ≤ S31.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S31) ![v0.toNat] S1.size (k0_off1_inb i)) numel1_S1
  let v2 : Index := Scalar.indexCast arg0
  let v3 : BitVec 32 := pf.at 1 (Rect.unit (s := S31) ![v2.toNat] S1.size (k0_off1_inb i)) numel1_S1
  let c1_i32 : BitVec 32 := 1#32
  let v4 : BitVec 1 := Scalar.cmpi .eq v3 c1_i32
  let c10_i32 : BitVec 32 := 10#32
  let v5 : BitVec 32 := Scalar.select v4 arg1 c10_i32
  let c0_i32 : BitVec 32 := 0#32
  let c0_i32_0 : BitVec 32 := 0#32
  let c0_i32_1 : BitVec 32 := 0#32
  ![c0_i32.toNat, v1.toNat, c0_i32_0.toNat, v5.toNat]

def cc0_transform_3 (k0_off1_inb : ∀ i : grid0.Coords, ∀ a, (k0_off1 i) a + S1.size a ≤ S31.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S31) ![v0.toNat] S1.size (k0_off1_inb i)) numel1_S1
  let v2 : Index := Scalar.indexCast arg0
  let v3 : BitVec 32 := pf.at 1 (Rect.unit (s := S31) ![v2.toNat] S1.size (k0_off1_inb i)) numel1_S1
  let c1_i32 : BitVec 32 := 1#32
  let v4 : BitVec 1 := Scalar.cmpi .eq v3 c1_i32
  let c10_i32 : BitVec 32 := 10#32
  let v5 : BitVec 32 := Scalar.select v4 arg1 c10_i32
  let c0_i32 : BitVec 32 := 0#32
  let c0_i32_0 : BitVec 32 := 0#32
  let c0_i32_1 : BitVec 32 := 0#32
  ![c0_i32.toNat, v1.toNat, v5.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S31 : Shape := ⟨1, ![31]⟩
abbrev S23808x2048 : Shape := ⟨2, ![23808, 2048]⟩
abbrev S1x8x2048x5632 : Shape := ⟨4, ![1, 8, 2048, 5632]⟩
abbrev S1x8x5632x2048 : Shape := ⟨4, ![1, 8, 5632, 2048]⟩
abbrev S31x1 : Shape := ⟨2, ![31, 1]⟩
abbrev S8 : Shape := ⟨1, ![8]⟩
abbrev S1x8 : Shape := ⟨2, ![1, 8]⟩
abbrev S31x8 : Shape := ⟨2, ![31, 8]⟩
abbrev S_ : Shape := ⟨0, ![]⟩
abbrev S31x768x8 : Shape := ⟨3, ![31, 768, 8]⟩
abbrev S23808x8 : Shape := ⟨2, ![23808, 8]⟩
abbrev S8x2048x5632 : Shape := ⟨3, ![8, 2048, 5632]⟩
abbrev S8x5632x2048 : Shape := ⟨3, ![8, 5632, 2048]⟩
abbrev S1x2048x5632 : Shape := ⟨3, ![1, 2048, 5632]⟩
abbrev S2048x5632 : Shape := ⟨2, ![2048, 5632]⟩
abbrev S23808x5632 : Shape := ⟨2, ![23808, 5632]⟩
abbrev S1x5632x2048 : Shape := ⟨3, ![1, 5632, 2048]⟩
abbrev S5632x2048 : Shape := ⟨2, ![5632, 2048]⟩
abbrev S23808x1 : Shape := ⟨2, ![23808, 1]⟩

abbrev nBuf : Space → Nat
  | .hbm => 212
  | .vmem => 0
  | .smem => 0
  | _ => 0

abbrev hbmTy0_0 (i : Nat) : BufTy := match i % 128 with
  | 0 => ⟨S31, .i32⟩
  | 1 => ⟨S31, .i32⟩
  | 2 => ⟨S23808x2048, .bf16⟩
  | 3 => ⟨S1x8x2048x5632, .f32⟩
  | 4 => ⟨S1x8x2048x5632, .f32⟩
  | 5 => ⟨S1x8x5632x2048, .f32⟩
  | 6 => ⟨S31x1, .i32⟩
  | 7 => ⟨S8, .i32⟩
  | 8 => ⟨S1x8, .i32⟩
  | 9 => ⟨S31x8, .i32⟩
  | 10 => ⟨S31x8, .i32⟩
  | 11 => ⟨S31x8, .i1⟩
  | 12 => ⟨S31x1, .i32⟩
  | 13 => ⟨S_, .i32⟩
  | 14 => ⟨S31x1, .i32⟩
  | 15 => ⟨S31x1, .i1⟩
  | 16 => ⟨S31x8, .i1⟩
  | 17 => ⟨S31x8, .i1⟩
  | 18 => ⟨S31x8, .i32⟩
  | 19 => ⟨S31x8, .f32⟩
  | 20 => ⟨S31x768x8, .f32⟩
  | 21 => ⟨S23808x8, .f32⟩
  | 22 => ⟨S8x2048x5632, .f32⟩
  | 23 => ⟨S8x2048x5632, .f32⟩
  | 24 => ⟨S8x5632x2048, .f32⟩
  | 25 => ⟨S23808x2048, .f32⟩
  | 26 => ⟨S_, .f32⟩
  | 27 => ⟨S23808x2048, .f32⟩
  | 28 => ⟨S1x2048x5632, .f32⟩
  | 29 => ⟨S2048x5632, .f32⟩
  | 30 => ⟨S23808x5632, .f32⟩
  | 31 => ⟨S23808x5632, .f32⟩
  | 32 => ⟨S23808x5632, .f32⟩
  | 33 => ⟨S_, .f32⟩
  | 34 => ⟨S23808x5632, .f32⟩
  | 35 => ⟨S23808x5632, .f32⟩
  | 36 => ⟨S_, .f32⟩
  | 37 => ⟨S23808x5632, .f32⟩
  | 38 => ⟨S23808x5632, .f32⟩
  | 39 => ⟨S23808x5632, .f32⟩
  | 40 => ⟨S1x2048x5632, .f32⟩
  | 41 => ⟨S2048x5632, .f32⟩
  | 42 => ⟨S23808x5632, .f32⟩
  | 43 => ⟨S23808x5632, .f32⟩
  | 44 => ⟨S1x5632x2048, .f32⟩
  | 45 => ⟨S5632x2048, .f32⟩
  | 46 => ⟨S23808x2048, .f32⟩
  | 47 => ⟨S23808x1, .f32⟩
  | 48 => ⟨S23808x2048, .f32⟩
  | 49 => ⟨S23808x2048, .f32⟩
  | 50 => ⟨S23808x2048, .f32⟩
  | 51 => ⟨S1x2048x5632, .f32⟩
  | 52 => ⟨S2048x5632, .f32⟩
  | 53 => ⟨S23808x5632, .f32⟩
  | 54 => ⟨S23808x5632, .f32⟩
  | 55 => ⟨S23808x5632, .f32⟩
  | 56 => ⟨S_, .f32⟩
  | 57 => ⟨S23808x5632, .f32⟩
  | 58 => ⟨S23808x5632, .f32⟩
  | 59 => ⟨S_, .f32⟩
  | 60 => ⟨S23808x5632, .f32⟩
  | 61 => ⟨S23808x5632, .f32⟩
  | 62 => ⟨S23808x5632, .f32⟩
  | 63 => ⟨S1x2048x5632, .f32⟩
  | 64 => ⟨S2048x5632, .f32⟩
  | 65 => ⟨S23808x5632, .f32⟩
  | 66 => ⟨S23808x5632, .f32⟩
  | 67 => ⟨S1x5632x2048, .f32⟩
  | 68 => ⟨S5632x2048, .f32⟩
  | 69 => ⟨S23808x2048, .f32⟩
  | 70 => ⟨S23808x1, .f32⟩
  | 71 => ⟨S23808x2048, .f32⟩
  | 72 => ⟨S23808x2048, .f32⟩
  | 73 => ⟨S23808x2048, .f32⟩
  | 74 => ⟨S1x2048x5632, .f32⟩
  | 75 => ⟨S2048x5632, .f32⟩
  | 76 => ⟨S23808x5632, .f32⟩
  | 77 => ⟨S23808x5632, .f32⟩
  | 78 => ⟨S23808x5632, .f32⟩
  | 79 => ⟨S_, .f32⟩
  | 80 => ⟨S23808x5632, .f32⟩
  | 81 => ⟨S23808x5632, .f32⟩
  | 82 => ⟨S_, .f32⟩
  | 83 => ⟨S23808x5632, .f32⟩
  | 84 => ⟨S23808x5632, .f32⟩
  | 85 => ⟨S23808x5632, .f32⟩
  | 86 => ⟨S1x2048x5632, .f32⟩
  | 87 => ⟨S2048x5632, .f32⟩
  | 88 => ⟨S23808x5632, .f32⟩
  | 89 => ⟨S23808x5632, .f32⟩
  | 90 => ⟨S1x5632x2048, .f32⟩
  | 91 => ⟨S5632x2048, .f32⟩
  | 92 => ⟨S23808x2048, .f32⟩
  | 93 => ⟨S23808x1, .f32⟩
  | 94 => ⟨S23808x2048, .f32⟩
  | 95 => ⟨S23808x2048, .f32⟩
  | 96 => ⟨S23808x2048, .f32⟩
  | 97 => ⟨S1x2048x5632, .f32⟩
  | 98 => ⟨S2048x5632, .f32⟩
  | 99 => ⟨S23808x5632, .f32⟩
  | 100 => ⟨S23808x5632, .f32⟩
  | 101 => ⟨S23808x5632, .f32⟩
  | 102 => ⟨S_, .f32⟩
  | 103 => ⟨S23808x5632, .f32⟩
  | 104 => ⟨S23808x5632, .f32⟩
  | 105 => ⟨S_, .f32⟩
  | 106 => ⟨S23808x5632, .f32⟩
  | 107 => ⟨S23808x5632, .f32⟩
  | 108 => ⟨S23808x5632, .f32⟩
  | 109 => ⟨S1x2048x5632, .f32⟩
  | 110 => ⟨S2048x5632, .f32⟩
  | 111 => ⟨S23808x5632, .f32⟩
  | 112 => ⟨S23808x5632, .f32⟩
  | 113 => ⟨S1x5632x2048, .f32⟩
  | 114 => ⟨S5632x2048, .f32⟩
  | 115 => ⟨S23808x2048, .f32⟩
  | 116 => ⟨S23808x1, .f32⟩
  | 117 => ⟨S23808x2048, .f32⟩
  | 118 => ⟨S23808x2048, .f32⟩
  | 119 => ⟨S23808x2048, .f32⟩
  | 120 => ⟨S1x2048x5632, .f32⟩
  | 121 => ⟨S2048x5632, .f32⟩
  | 122 => ⟨S23808x5632, .f32⟩
  | 123 => ⟨S23808x5632, .f32⟩
  | 124 => ⟨S23808x5632, .f32⟩
  | 125 => ⟨S_, .f32⟩
  | 126 => ⟨S23808x5632, .f32⟩
  | 127 => ⟨S23808x5632, .f32⟩
  | _ => ⟨S31, .i32⟩

abbrev hbmTy0_1 (i : Nat) : BufTy := match i % 128 with
  | 0 => ⟨S_, .f32⟩
  | 1 => ⟨S23808x5632, .f32⟩
  | 2 => ⟨S23808x5632, .f32⟩
  | 3 => ⟨S23808x5632, .f32⟩
  | 4 => ⟨S1x2048x5632, .f32⟩
  | 5 => ⟨S2048x5632, .f32⟩
  | 6 => ⟨S23808x5632, .f32⟩
  | 7 => ⟨S23808x5632, .f32⟩
  | 8 => ⟨S1x5632x2048, .f32⟩
  | 9 => ⟨S5632x2048, .f32⟩
  | 10 => ⟨S23808x2048, .f32⟩
  | 11 => ⟨S23808x1, .f32⟩
  | 12 => ⟨S23808x2048, .f32⟩
  | 13 => ⟨S23808x2048, .f32⟩
  | 14 => ⟨S23808x2048, .f32⟩
  | 15 => ⟨S1x2048x5632, .f32⟩
  | 16 => ⟨S2048x5632, .f32⟩
  | 17 => ⟨S23808x5632, .f32⟩
  | 18 => ⟨S23808x5632, .f32⟩
  | 19 => ⟨S23808x5632, .f32⟩
  | 20 => ⟨S_, .f32⟩
  | 21 => ⟨S23808x5632, .f32⟩
  | 22 => ⟨S23808x5632, .f32⟩
  | 23 => ⟨S_, .f32⟩
  | 24 => ⟨S23808x5632, .f32⟩
  | 25 => ⟨S23808x5632, .f32⟩
  | 26 => ⟨S23808x5632, .f32⟩
  | 27 => ⟨S1x2048x5632, .f32⟩
  | 28 => ⟨S2048x5632, .f32⟩
  | 29 => ⟨S23808x5632, .f32⟩
  | 30 => ⟨S23808x5632, .f32⟩
  | 31 => ⟨S1x5632x2048, .f32⟩
  | 32 => ⟨S5632x2048, .f32⟩
  | 33 => ⟨S23808x2048, .f32⟩
  | 34 => ⟨S23808x1, .f32⟩
  | 35 => ⟨S23808x2048, .f32⟩
  | 36 => ⟨S23808x2048, .f32⟩
  | 37 => ⟨S23808x2048, .f32⟩
  | 38 => ⟨S1x2048x5632, .f32⟩
  | 39 => ⟨S2048x5632, .f32⟩
  | 40 => ⟨S23808x5632, .f32⟩
  | 41 => ⟨S23808x5632, .f32⟩
  | 42 => ⟨S23808x5632, .f32⟩
  | 43 => ⟨S_, .f32⟩
  | 44 => ⟨S23808x5632, .f32⟩
  | 45 => ⟨S23808x5632, .f32⟩
  | 46 => ⟨S_, .f32⟩
  | 47 => ⟨S23808x5632, .f32⟩
  | 48 => ⟨S23808x5632, .f32⟩
  | 49 => ⟨S23808x5632, .f32⟩
  | 50 => ⟨S1x2048x5632, .f32⟩
  | 51 => ⟨S2048x5632, .f32⟩
  | 52 => ⟨S23808x5632, .f32⟩
  | 53 => ⟨S23808x5632, .f32⟩
  | 54 => ⟨S1x5632x2048, .f32⟩
  | 55 => ⟨S5632x2048, .f32⟩
  | 56 => ⟨S23808x2048, .f32⟩
  | 57 => ⟨S23808x1, .f32⟩
  | 58 => ⟨S23808x2048, .f32⟩
  | 59 => ⟨S23808x2048, .f32⟩
  | 60 => ⟨S23808x2048, .f32⟩
  | 61 => ⟨S1x2048x5632, .f32⟩
  | 62 => ⟨S2048x5632, .f32⟩
  | 63 => ⟨S23808x5632, .f32⟩
  | 64 => ⟨S23808x5632, .f32⟩
  | 65 => ⟨S23808x5632, .f32⟩
  | 66 => ⟨S_, .f32⟩
  | 67 => ⟨S23808x5632, .f32⟩
  | 68 => ⟨S23808x5632, .f32⟩
  | 69 => ⟨S_, .f32⟩
  | 70 => ⟨S23808x5632, .f32⟩
  | 71 => ⟨S23808x5632, .f32⟩
  | 72 => ⟨S23808x5632, .f32⟩
  | 73 => ⟨S1x2048x5632, .f32⟩
  | 74 => ⟨S2048x5632, .f32⟩
  | 75 => ⟨S23808x5632, .f32⟩
  | 76 => ⟨S23808x5632, .f32⟩
  | 77 => ⟨S1x5632x2048, .f32⟩
  | 78 => ⟨S5632x2048, .f32⟩
  | 79 => ⟨S23808x2048, .f32⟩
  | 80 => ⟨S23808x1, .f32⟩
  | 81 => ⟨S23808x2048, .f32⟩
  | 82 => ⟨S23808x2048, .f32⟩
  | 83 => ⟨S23808x2048, .f32⟩
  | _ => ⟨S31, .i32⟩

abbrev hbmTy (i : Nat) : BufTy := match i / 128 with
  | 0 => hbmTy0_0 i
  | 1 => hbmTy0_1 i
  | _ => ⟨S31, .i32⟩

abbrev bufTy : (tb : Table) → Fin (tcTables nBuf tb) → BufTy
  | .hbm, ⟨i, _⟩ => hbmTy i
  | _, _ => ⟨S31, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call2_v0 : Ref sig .tc := ⟨.hbm, 77, rfl⟩
abbrev main_call2_v1 : Ref sig .tc := ⟨.hbm, 78, rfl⟩
abbrev main_call2_cst : Ref sig .tc := ⟨.hbm, 79, rfl⟩
abbrev main_call2_v2 : Ref sig .tc := ⟨.hbm, 80, rfl⟩
abbrev main_call2_v3 : Ref sig .tc := ⟨.hbm, 81, rfl⟩
abbrev main_call2_cst_0 : Ref sig .tc := ⟨.hbm, 82, rfl⟩
abbrev main_call2_v4 : Ref sig .tc := ⟨.hbm, 83, rfl⟩
abbrev main_call2_v5 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_call3_v0 : Ref sig .tc := ⟨.hbm, 100, rfl⟩
abbrev main_call3_v1 : Ref sig .tc := ⟨.hbm, 101, rfl⟩
abbrev main_call3_cst : Ref sig .tc := ⟨.hbm, 102, rfl⟩
abbrev main_call3_v2 : Ref sig .tc := ⟨.hbm, 103, rfl⟩
abbrev main_call3_v3 : Ref sig .tc := ⟨.hbm, 104, rfl⟩
abbrev main_call3_cst_0 : Ref sig .tc := ⟨.hbm, 105, rfl⟩
abbrev main_call3_v4 : Ref sig .tc := ⟨.hbm, 106, rfl⟩
abbrev main_call3_v5 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_call4_v0 : Ref sig .tc := ⟨.hbm, 123, rfl⟩
abbrev main_call4_v1 : Ref sig .tc := ⟨.hbm, 124, rfl⟩
abbrev main_call4_cst : Ref sig .tc := ⟨.hbm, 125, rfl⟩
abbrev main_call4_v2 : Ref sig .tc := ⟨.hbm, 126, rfl⟩
abbrev main_call4_v3 : Ref sig .tc := ⟨.hbm, 127, rfl⟩
abbrev main_call4_cst_0 : Ref sig .tc := ⟨.hbm, 128, rfl⟩
abbrev main_call4_v4 : Ref sig .tc := ⟨.hbm, 129, rfl⟩
abbrev main_call4_v5 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_call5_v0 : Ref sig .tc := ⟨.hbm, 146, rfl⟩
abbrev main_call5_v1 : Ref sig .tc := ⟨.hbm, 147, rfl⟩
abbrev main_call5_cst : Ref sig .tc := ⟨.hbm, 148, rfl⟩
abbrev main_call5_v2 : Ref sig .tc := ⟨.hbm, 149, rfl⟩
abbrev main_call5_v3 : Ref sig .tc := ⟨.hbm, 150, rfl⟩
abbrev main_call5_cst_0 : Ref sig .tc := ⟨.hbm, 151, rfl⟩
abbrev main_call5_v4 : Ref sig .tc := ⟨.hbm, 152, rfl⟩
abbrev main_call5_v5 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_call6_v0 : Ref sig .tc := ⟨.hbm, 169, rfl⟩
abbrev main_call6_v1 : Ref sig .tc := ⟨.hbm, 170, rfl⟩
abbrev main_call6_cst : Ref sig .tc := ⟨.hbm, 171, rfl⟩
abbrev main_call6_v2 : Ref sig .tc := ⟨.hbm, 172, rfl⟩
abbrev main_call6_v3 : Ref sig .tc := ⟨.hbm, 173, rfl⟩
abbrev main_call6_cst_0 : Ref sig .tc := ⟨.hbm, 174, rfl⟩
abbrev main_call6_v4 : Ref sig .tc := ⟨.hbm, 175, rfl⟩
abbrev main_call6_v5 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_call7_v0 : Ref sig .tc := ⟨.hbm, 192, rfl⟩
abbrev main_call7_v1 : Ref sig .tc := ⟨.hbm, 193, rfl⟩
abbrev main_call7_cst : Ref sig .tc := ⟨.hbm, 194, rfl⟩
abbrev main_call7_v2 : Ref sig .tc := ⟨.hbm, 195, rfl⟩
abbrev main_call7_v3 : Ref sig .tc := ⟨.hbm, 196, rfl⟩
abbrev main_call7_cst_0 : Ref sig .tc := ⟨.hbm, 197, rfl⟩
abbrev main_call7_v4 : Ref sig .tc := ⟨.hbm, 198, rfl⟩
abbrev main_call7_v5 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩

abbrev nD : Nat := 1
abbrev τ : Topo := Topo.v7x

variable {F : FTy → Type} [FloatOps F]
-- ==== Kernel3.lean ====
abbrev S9216x8192 : Shape := ⟨2, ![9216, 8192]⟩
abbrev S2x2048x8x128 : Shape := ⟨4, ![2, 2048, 8, 128]⟩
abbrev S512x1024 : Shape := ⟨2, ![512, 1024]⟩
abbrev S1x512x8x128 : Shape := ⟨4, ![1, 512, 8, 128]⟩
abbrev S512x128 : Shape := ⟨2, ![512, 128]⟩
abbrev S1x512x1x128 : Shape := ⟨4, ![1, 512, 1, 128]⟩
abbrev S1x1024x8x128 : Shape := ⟨4, ![1, 1024, 8, 128]⟩
abbrev S1024x8x128 : Shape := ⟨3, ![1024, 8, 128]⟩
abbrev S2x512x8x128 : Shape := ⟨4, ![2, 512, 8, 128]⟩
abbrev S16x64x8x128 : Shape := ⟨4, ![16, 64, 8, 128]⟩

abbrev nBuf : Space → Nat
  | .hbm => 14
  | .vmem => 4
  | .smem => 0
  | _ => 0

abbrev bufTy : (tb : Table) → Fin (tcTables nBuf tb) → BufTy
  | .hbm, ⟨0, _⟩ => ⟨S9216x8192, .f32⟩
  | .hbm, ⟨1, _⟩ => ⟨S2x2048x8x128, .f32⟩
  | .hbm, ⟨2, _⟩ => ⟨S1x1024x8x128, .f32⟩
  | .hbm, ⟨3, _⟩ => ⟨S1024x8x128, .f32⟩
  | .hbm, ⟨4, _⟩ => ⟨S2x512x8x128, .f32⟩
  | .hbm, ⟨5, _⟩ => ⟨S1x1024x8x128, .f32⟩
  | .hbm, ⟨6, _⟩ => ⟨S1024x8x128, .f32⟩
  | .hbm, ⟨7, _⟩ => ⟨S2x512x8x128, .f32⟩
  | .hbm, ⟨8, _⟩ => ⟨S1x1024x8x128, .f32⟩
  | .hbm, ⟨9, _⟩ => ⟨S1024x8x128, .f32⟩
  | .hbm, ⟨10, _⟩ => ⟨S16x64x8x128, .f32⟩
  | .hbm, ⟨11, _⟩ => ⟨S1x1024x8x128, .f32⟩
  | .hbm, ⟨12, _⟩ => ⟨S1024x8x128, .f32⟩
  | .hbm, ⟨13, _⟩ => ⟨S16x64x8x128, .f32⟩
  | .local _ .vmem, ⟨0, _⟩ => ⟨S512x1024, .f32⟩
  | .local _ .vmem, ⟨1, _⟩ => ⟨S512x1024, .f32⟩
  | .local _ .vmem, ⟨2, _⟩ => ⟨S1x512x8x128, .f32⟩
  | .local _ .vmem, ⟨3, _⟩ => ⟨S1x512x8x128, .f32⟩
  | _, _ => ⟨S9216x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c1_i32 : BitVec 32 := 1#32
  let v1 : BitVec 32 := Scalar.addi arg1 c1_i32
  let c8_i32 : BitVec 32 := 8#32
  let v2 : BitVec 32 := Scalar.muli v1 c8_i32
  let c1_i32_0 : BitVec 32 := 1#32
  let v3 : BitVec 32 := Scalar.subi v2 c1_i32_0
  let c2_i32_1 : BitVec 32 := 2#32
  let v4 : BitVec 32 := Scalar.subi arg1 c2_i32_1
  let c16_i32 : BitVec 32 := 16#32
  let v5 : BitVec 32 := Scalar.addi c16_i32 v4
  let v6 : BitVec 32 := Scalar.select v0 v3 v5
  let c1_i32_2 : BitVec 32 := 1#32
  let v7 : BitVec 32 := Scalar.addi c1_i32_2 arg0
  let c0_i32 : BitVec 32 := 0#32
  ![v6.toNat, v7.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference3Ideal.lean ====
abbrev S9216x8192 : Shape := ⟨2, ![9216, 8192]⟩
abbrev S8192x8192 : Shape := ⟨2, ![8192, 8192]⟩
abbrev S2x4096x8192 : Shape := ⟨3, ![2, 4096, 8192]⟩
abbrev S1024x8192 : Shape := ⟨2, ![1024, 8192]⟩
abbrev S16x64x8192 : Shape := ⟨3, ![16, 64, 8192]⟩
abbrev S2x4096x1024 : Shape := ⟨3, ![2, 4096, 1024]⟩
abbrev S2x4096x8x128 : Shape := ⟨4, ![2, 4096, 8, 128]⟩
abbrev S16x64x1024 : Shape := ⟨3, ![16, 64, 1024]⟩
abbrev S16x64x8x128 : Shape := ⟨4, ![16, 64, 8, 128]⟩
abbrev S2x512x8x128 : Shape := ⟨4, ![2, 512, 8, 128]⟩

abbrev nBuf : Space → Nat
  | .hbm => 15
  | .vmem => 0
  | .smem => 0
  | _ => 0

abbrev bufTy : (tb : Table) → Fin (tcTables nBuf tb) → BufTy
  | .hbm, ⟨0, _⟩ => ⟨S9216x8192, .f32⟩
  | .hbm, ⟨1, _⟩ => ⟨S8192x8192, .f32⟩
  | .hbm, ⟨2, _⟩ => ⟨S2x4096x8192, .f32⟩
  | .hbm, ⟨3, _⟩ => ⟨S1024x8192, .f32⟩
  | .hbm, ⟨4, _⟩ => ⟨S16x64x8192, .f32⟩
  | .hbm, ⟨5, _⟩ => ⟨S2x4096x1024, .f32⟩
  | .hbm, ⟨6, _⟩ => ⟨S2x4096x8x128, .f32⟩
  | .hbm, ⟨7, _⟩ => ⟨S2x4096x1024, .f32⟩
  | .hbm, ⟨8, _⟩ => ⟨S2x4096x8x128, .f32⟩
  | .hbm, ⟨9, _⟩ => ⟨S16x64x1024, .f32⟩
  | .hbm, ⟨10, _⟩ => ⟨S16x64x8x128, .f32⟩
  | .hbm, ⟨11, _⟩ => ⟨S16x64x1024, .f32⟩
  | .hbm, ⟨12, _⟩ => ⟨S16x64x8x128, .f32⟩
  | .hbm, ⟨13, _⟩ => ⟨S2x512x8x128, .f32⟩
  | .hbm, ⟨14, _⟩ => ⟨S2x512x8x128, .f32⟩
  | _, _ => ⟨S9216x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩

abbrev nD : Nat := 1
abbrev τ : Topo := Topo.v7x

variable {F : FTy → Type} [FloatOps F]
-- ==== Kernel4.lean ====
abbrev S9216x2048 : Shape := ⟨2, ![9216, 2048]⟩
abbrev S1x2048x5632 : Shape := ⟨3, ![1, 2048, 5632]⟩
abbrev S1x5632x2048 : Shape := ⟨3, ![1, 5632, 2048]⟩
abbrev S768x2048 : Shape := ⟨2, ![768, 2048]⟩
abbrev S1x2048x512 : Shape := ⟨3, ![1, 2048, 512]⟩
abbrev S1x512x2048 : Shape := ⟨3, ![1, 512, 2048]⟩
abbrev S2048x512 : Shape := ⟨2, ![2048, 512]⟩
abbrev S768x512 : Shape := ⟨2, ![768, 512]⟩
abbrev S512x2048 : Shape := ⟨2, ![512, 2048]⟩

abbrev nBuf : Space → Nat
  | .hbm => 5
  | .vmem => 10
  | .smem => 0
  | _ => 0

abbrev bufTy : (tb : Table) → Fin (tcTables nBuf tb) → BufTy
  | .hbm, ⟨0, _⟩ => ⟨S9216x2048, .bf16⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S9216x2048, .f32⟩
  | .local _ .vmem, ⟨0, _⟩ => ⟨S768x2048, .bf16⟩
  | .local _ .vmem, ⟨1, _⟩ => ⟨S768x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S768x2048, .f32⟩
  | .local _ .vmem, ⟨9, _⟩ => ⟨S768x2048, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S9216x2048 : Shape := ⟨2, ![9216, 2048]⟩
abbrev S1x2048x5632 : Shape := ⟨3, ![1, 2048, 5632]⟩
abbrev S1x5632x2048 : Shape := ⟨3, ![1, 5632, 2048]⟩
abbrev S2048x5632 : Shape := ⟨2, ![2048, 5632]⟩
abbrev S5632x2048 : Shape := ⟨2, ![5632, 2048]⟩
abbrev S9216x5632 : Shape := ⟨2, ![9216, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S9216x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S9216x5632, .f32⟩
  | .hbm, ⟨9, _⟩ => ⟨S9216x5632, .f32⟩
  | .hbm, ⟨10, _⟩ => ⟨S9216x5632, .f32⟩
  | .hbm, ⟨11, _⟩ => ⟨S_, .f32⟩
  | .hbm, ⟨12, _⟩ => ⟨S9216x5632, .f32⟩
  | .hbm, ⟨13, _⟩ => ⟨S9216x5632, .f32⟩
  | .hbm, ⟨14, _⟩ => ⟨S_, .f32⟩
  | .hbm, ⟨15, _⟩ => ⟨S9216x5632, .f32⟩
  | .hbm, ⟨16, _⟩ => ⟨S9216x5632, .f32⟩
  | .hbm, ⟨17, _⟩ => ⟨S9216x5632, .f32⟩
  | .hbm, ⟨18, _⟩ => ⟨S9216x5632, .f32⟩
  | .hbm, ⟨19, _⟩ => ⟨S9216x5632, .f32⟩
  | .hbm, ⟨20, _⟩ => ⟨S9216x2048, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]
-- ==== Kernel5.lean ====
abbrev S9216x2048 : Shape := ⟨2, ![9216, 2048]⟩
abbrev S2x2048x2048 : Shape := ⟨3, ![2, 2048, 2048]⟩
abbrev S2x24x12288 : Shape := ⟨3, ![2, 24, 12288]⟩
abbrev S2x2x12288 : Shape := ⟨3, ![2, 2, 12288]⟩
abbrev S2x2x1x12288 : Shape := ⟨4, ![2, 2, 1, 12288]⟩
abbrev S2x2x64x12288 : Shape := ⟨4, ![2, 2, 64, 12288]⟩
abbrev S2x128x12288 : Shape := ⟨3, ![2, 128, 12288]⟩
abbrev S2x16x12288 : Shape := ⟨3, ![2, 16, 12288]⟩
abbrev S2x144x12288 : Shape := ⟨3, ![2, 144, 12288]⟩
abbrev S1024x2048 : Shape := ⟨2, ![1024, 2048]⟩
abbrev S1x2048x1024 : Shape := ⟨3, ![1, 2048, 1024]⟩
abbrev S1024x1024 : Shape := ⟨2, ![1024, 1024]⟩
abbrev S1x16x1024 : Shape := ⟨3, ![1, 16, 1024]⟩
abbrev S2048x1024 : Shape := ⟨2, ![2048, 1024]⟩
abbrev S64x1024 : Shape := ⟨2, ![64, 1024]⟩
abbrev S1x1x1024 : Shape := ⟨3, ![1, 1, 1024]⟩
abbrev S1x1024 : Shape := ⟨2, ![1, 1024]⟩

abbrev nBuf : Space → Nat
  | .hbm => 11
  | .vmem => 10
  | .smem => 0
  | _ => 0

abbrev bufTy : (tb : Table) → Fin (tcTables nBuf tb) → BufTy
  | .hbm, ⟨0, _⟩ => ⟨S9216x2048, .bf16⟩
  | .hbm, ⟨1, _⟩ => ⟨S2x2048x2048, .f32⟩
  | .hbm, ⟨2, _⟩ => ⟨S9216x2048, .f32⟩
  | .hbm, ⟨3, _⟩ => ⟨S2x24x12288, .f32⟩
  | .hbm, ⟨4, _⟩ => ⟨S2x2x12288, .f32⟩
  | .hbm, ⟨5, _⟩ => ⟨S2x2x1x12288, .f32⟩
  | .hbm, ⟨6, _⟩ => ⟨S2x2x64x12288, .f32⟩
  | .hbm, ⟨7, _⟩ => ⟨S2x128x12288, .f32⟩
  | .hbm, ⟨8, _⟩ => ⟨S2x16x12288, .f32⟩
  | .hbm, ⟨9, _⟩ => ⟨S2x144x12288, .f32⟩
  | .hbm, ⟨10, _⟩ => ⟨S9216x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S1x16x1024, .f32⟩
  | .local _ .vmem, ⟨7, _⟩ => ⟨S1x16x1024, .f32⟩
  | .local _ .vmem, ⟨8, _⟩ => ⟨S1024x1024, .f32⟩
  | .local _ .vmem, ⟨9, _⟩ => ⟨S1024x1024, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![9, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c1_i32 : BitVec 32 := 1#32
  let c0_i32 : BitVec 32 := 0#32
  ![c1_i32.toNat, arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S9216x2048 : Shape := ⟨2, ![9216, 2048]⟩
abbrev S2x2048x2048 : Shape := ⟨3, ![2, 2048, 2048]⟩
abbrev S2x24x12288 : Shape := ⟨3, ![2, 24, 12288]⟩
abbrev S1x24x2048 : Shape := ⟨3, ![1, 24, 2048]⟩
abbrev S24x2048 : Shape := ⟨2, ![24, 2048]⟩
abbrev S1x2048x2048 : Shape := ⟨3, ![1, 2048, 2048]⟩
abbrev S2048x2048 : Shape := ⟨2, ![2048, 2048]⟩
abbrev S8192x2048 : Shape := ⟨2, ![8192, 2048]⟩
abbrev S2x4096x2048 : Shape := ⟨3, ![2, 4096, 2048]⟩
abbrev S2x2048 : Shape := ⟨2, ![2, 2048]⟩
abbrev S2x1x2048 : Shape := ⟨3, ![2, 1, 2048]⟩
abbrev S1024x2048 : Shape := ⟨2, ![1024, 2048]⟩
abbrev S16x64x2048 : Shape := ⟨3, ![16, 64, 2048]⟩
abbrev S16x2048 : Shape := ⟨2, ![16, 2048]⟩
abbrev S16x1x2048 : Shape := ⟨3, ![16, 1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2x2048x2048, .f32⟩
  | .hbm, ⟨2, _⟩ => ⟨S9216x2048, .f32⟩
  | .hbm, ⟨3, _⟩ => ⟨S2x24x12288, .f32⟩
  | .hbm, ⟨4, _⟩ => ⟨S1x24x2048, .f32⟩
  | .hbm, ⟨5, _⟩ => ⟨S24x2048, .f32⟩
  | .hbm, ⟨6, _⟩ => ⟨S9216x2048, .f32⟩
  | .hbm, ⟨7, _⟩ => ⟨S1x2048x2048, .f32⟩
  | .hbm, ⟨8, _⟩ => ⟨S2048x2048, .f32⟩
  | .hbm, ⟨9, _⟩ => ⟨S8192x2048, .f32⟩
  | .hbm, ⟨10, _⟩ => ⟨S2x4096x2048, .f32⟩
  | .hbm, ⟨11, _⟩ => ⟨S8192x2048, .f32⟩
  | .hbm, ⟨12, _⟩ => ⟨S2x4096x2048, .f32⟩
  | .hbm, ⟨13, _⟩ => ⟨S2x2048, .f32⟩
  | .hbm, ⟨14, _⟩ => ⟨S2x1x2048, .f32⟩
  | .hbm, ⟨15, _⟩ => ⟨S2x4096x2048, .f32⟩
  | .hbm, ⟨16, _⟩ => ⟨S2x4096x2048, .f32⟩
  | .hbm, ⟨17, _⟩ => ⟨S2x4096x2048, .f32⟩
  | .hbm, ⟨18, _⟩ => ⟨S2x4096x2048, .f32⟩
  | .hbm, ⟨19, _⟩ => ⟨S1024x2048, .f32⟩
  | .hbm, ⟨20, _⟩ => ⟨S16x64x2048, .f32⟩
  | .hbm, ⟨21, _⟩ => ⟨S1024x2048, .f32⟩
  | .hbm, ⟨22, _⟩ => ⟨S16x64x2048, .f32⟩
  | .hbm, ⟨23, _⟩ => ⟨S16x2048, .f32⟩
  | .hbm, ⟨24, _⟩ => ⟨S16x1x2048, .f32⟩
  | .hbm, ⟨25, _⟩ => ⟨S16x64x2048, .f32⟩
  | .hbm, ⟨26, _⟩ => ⟨S16x64x2048, .f32⟩
  | .hbm, ⟨27, _⟩ => ⟨S16x64x2048, .f32⟩
  | .hbm, ⟨28, _⟩ => ⟨S16x64x2048, .f32⟩
  | .hbm, ⟨29, _⟩ => ⟨S8192x2048, .f32⟩
  | .hbm, ⟨30, _⟩ => ⟨S1024x2048, .f32⟩
  | .hbm, ⟨31, _⟩ => ⟨S9216x2048, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩

abbrev nD : Nat := 1
abbrev τ : Topo := Topo.v7x

variable {F : FTy → Type} [FloatOps F]
-- ==== Proof.MoeSpec.lean ====
/-
What one expert makes of a row: the mathematics the two programs share, over the extended reals.
-/
module

public import Idealize.ShloMosaic.Lib.Pointwise
public import Idealize.ShloMosaic.PureOps.Ideal.Laws

@[expose] public section

noncomputable section

namespace Cert.Moe

open Idealize.ShloMosaic

/-- One hidden unit of an expert: the gate's product through its own logistic, times the other product. -/
def unit (x g u : Fin 2048 → EReal) : EReal :=
  (∑ q, x q * g q) * Ideal.logistic (∑ q, x q * g q) * ∑ q, x q * u q

variable (X : FVec Ideal ⟨2, ![23808, 2048]⟩ .bf16) (G U : FVec Ideal ⟨4, ![1, 8, 2048, 5632]⟩ .f32) (D : FVec Ideal ⟨4, ![1, 8, 5632, 2048]⟩ .f32)

/-- What hidden unit `f` of expert `e` adds to column `l` of row `R`. -/
def term (e : Fin 8) (R : Fin 23808) (l : Fin 2048) (f : Fin 5632) : EReal :=
  unit (fun q => X (ix2 R q)) (fun q => G (ix4 0 e q f)) (fun q => U (ix4 0 e q f)) * D (ix4 0 e f l)

/-- The same, numbered by the naturals: nothing past the last unit. -/
def termN (e : Fin 8) (R : Fin 23808) (l : Fin 2048) (f : ℕ) : EReal :=
  if h : f < 5632 then term X G U D e R l ⟨f, h⟩ else 0

/-- What the first `n` column blocks of 512 hidden units add up to. -/
def partSum (e : Fin 8) (R : Fin 23808) (l : Fin 2048) (n : ℕ) : EReal :=
  ∑ f ∈ Finset.range (512 * n), termN X G U D e R l f

/-- What expert `e` makes of row `R`, at column `l`. -/
def expert (e : Fin 8) (R : Fin 23808) (l : Fin 2048) : EReal := ∑ f : Fin 5632, term X G U D e R l f

theorem partSum_zero (e R l) : partSum X G U D e R l 0 = 0 := by
  unfold partSum
  rw [Nat.mul_zero, Finset.range_zero, Finset.sum_empty]

/-- One more column block. -/
theorem partSum_succ (e : Fin 8) (R : Fin 23808) (l : Fin 2048) (n : ℕ) (hn : n < 11) :
    partSum X G U D e R l (n + 1)
      = partSum X G U D e R l n + ∑ k : Fin 512, term X G U D e R l ⟨n * 512 + k, by omega⟩ := by
  unfold partSum
  rw [Nat.mul_add, Nat.mul_one, Finset.sum_range_add, Finset.sum_range (n := 512)]
  refine congrArg _ (Finset.sum_congr rfl fun k _ => ?_)
  unfold termN
  rw [dif_pos (by omega)]
  exact congrArg _ (Fin.ext (by show 512 * n + (k : ℕ) = n * 512 + k; omega))

/-- All eleven column blocks are the expert. -/
theorem partSum_all (e R l) : partSum X G U D e R l 11 = expert X G U D e R l := by
  unfold partSum expert
  rw [show 512 * 11 = 5632 from rfl, Finset.sum_range]
  refine Finset.sum_congr rfl fun k _ => ?_
  unfold termN
  rw [dif_pos k.isLt]

end Cert.Moe

end
-- ==== Proof.MoeRef.lean ====
/-
The reference of the experts, read entry by entry: each expert's feed-forward layer on every row,
weighted by whether the row's tile is that expert's.
-/
module

public import proofs.«01_k».proof.Proof.Gen.Reference2Ideal.Read
public import proofs.«01_k».proof.Proof.Gen.Reference2Ideal.Run
public import proofs.«01_k».proof.Proof.MoeSpec
public import Idealize.ShloMosaic.Lib.Pointwise

@[expose] public section

set_option maxRecDepth 16384

noncomputable section

namespace Cert.Reference2Ideal.Experts

open Idealize.ShloMosaic Idealize.ShloMosaic.TcCoe
open Cert.Reference2Ideal Cert.Reference2Ideal.Read

/-- The side conditions the stages of one expert cite. -/
structure Cuts (e : Fin 8) : Prop where
  inW : S8x2048x5632.Slices ![e.val, 0, 0] S1x2048x5632
  inD : S8x5632x2048.Slices ![e.val, 0, 0] S1x5632x2048
  inG : S23808x8.Slices ![0, e.val] S23808x1
  dropW : S1x2048x5632.ShapeCasts S2048x5632
  dropD : S1x5632x2048.ShapeCasts S5632x2048
  wide : S23808x1.BroadcastsInDim S23808x2048 ![0, 1]
  fill : S_.BroadcastsInDim S23808x5632 ![]

/-- One expert's weights, cut out of the eight. -/
def cutW {e : Fin 8} (h : Cuts e) (W : FVec Ideal S8x2048x5632 .f32) : FVec Ideal S2048x5632 .f32 :=
  shapeCast S2048x5632 (extractStridedSlice S1x2048x5632 ![e.val, 0, 0] W h.inW) h.dropW
def cutD {e : Fin 8} (h : Cuts e) (W : FVec Ideal S8x5632x2048 .f32) : FVec Ideal S5632x2048 .f32 :=
  shapeCast S5632x2048 (extractStridedSlice S1x5632x2048 ![e.val, 0, 0] W h.inD) h.dropD

theorem cutW_at {e : Fin 8} (h : Cuts e) (W : FVec Ideal S8x2048x5632 .f32) (q : Fin 2048) (f : Fin 5632) :
    cutW h W (ix2 q f) = W (ix3 e q f) := by
  pointwise [cutW]
theorem cutD_at {e : Fin 8} (h : Cuts e) (W : FVec Ideal S8x5632x2048 .f32) (f : Fin 5632) (l : Fin 2048) :
    cutD h W (ix2 f l) = W (ix3 e f l) := by
  pointwise [cutD]

/-- The hidden units of one expert, on every row. -/
def hiddenOf {e : Fin 8} (h : Cuts e) (X : FVec Ideal S23808x2048 .f32) (G U : FVec Ideal S8x2048x5632 .f32) : FVec Ideal S23808x5632 .f32 :=
  let g := Host.dotGeneral dot_S23808x2048_S2048x5632_S23808x5632_1_0_0_1_n_n none X (cutW h G)
  mulf (mulf g (Host.divf (broadcastInDim S23808x5632 ![] h.fill (constant S_ .f32 0x3F800000#32))
      (addf (broadcastInDim S23808x5632 ![] h.fill (constant S_ .f32 0x3F800000#32)) (Host.exp (Host.negf g)))))
    (Host.dotGeneral dot_S23808x2048_S2048x5632_S23808x5632_1_0_0_1_n_n none X (cutW h U))

theorem hidden_at {e : Fin 8} (h : Cuts e) (X : FVec Ideal S23808x2048 .f32) (G U : FVec Ideal S8x2048x5632 .f32) (R : Fin 23808) (f : Fin 5632) :
    hiddenOf h X G U (ix2 R f)
      = Cert.Moe.unit (fun q => X (ix2 R q)) (fun q => G (ix3 e q f)) (fun q => U (ix3 e q f)) := by
  pointwise [hiddenOf, cutW]
  rfl

/-- One expert's addend: its layer on every row, weighted. -/
def addend {e : Fin 8} (h : Cuts e) (A : FVec Ideal S23808x8 .f32) (X : FVec Ideal S23808x2048 .f32) (G U : FVec Ideal S8x2048x5632 .f32)
    (D : FVec Ideal S8x5632x2048 .f32) : FVec Ideal S23808x2048 .f32 :=
  mulf (broadcastInDim S23808x2048 ![0, 1] h.wide (extractStridedSlice S23808x1 ![0, e.val] A h.inG))
    (Host.dotGeneral dot_S23808x5632_S5632x2048_S23808x2048_1_0_0_1_n_n none (hiddenOf h X G U) (cutD h D))

theorem addend_at {e : Fin 8} (h : Cuts e) (A : FVec Ideal S23808x8 .f32) (X : FVec Ideal S23808x2048 .f32) (G U : FVec Ideal S8x2048x5632 .f32)
    (D : FVec Ideal S8x5632x2048 .f32) (R : Fin 23808) (l : Fin 2048) :
    addend h A X G U D (ix2 R l) = A (ix2 R e) * ∑ f : Fin 5632, hiddenOf h X G U (ix2 R f) * D (ix3 e f l) := by
  unfold addend cutD
  generalize hiddenOf h X G U = Y
  pointwise

variable (x0 x1 : S31.Idx → BitVec 32) (x2 : FVec Ideal S23808x2048 .bf16) (x3 x4 : FVec Ideal S1x8x2048x5632 .f32) (x5 : FVec Ideal S1x8x5632x2048 .f32)

theorem cuts (e : Fin 8) : Cuts e := by
  fin_cases e <;> exact ⟨by decide, by decide, by decide, by decide, by decide, by decide, by decide⟩

/-- The addend of expert `e` in the reference. -/
abbrev addendR (e : Fin 8) : FVec Ideal S23808x2048 .f32 :=
  addend (cuts e) (val_main_v14 (F := Ideal) x0 x1) (val_main_v18 (F := Ideal) x2) (val_main_v15 (F := Ideal) x3) (val_main_v16 (F := Ideal) x4) (val_main_v17 (F := Ideal) x5)

theorem stage0 : val_main_v34 (F := Ideal) x0 x1 x2 x3 x4 x5 = addf (val_main_v19 (F := Ideal)) (addendR x0 x1 x2 x3 x4 x5 0) := rfl
theorem stage1 : val_main_v49 (F := Ideal) x0 x1 x2 x3 x4 x5 = addf (val_main_v34 (F := Ideal) x0 x1 x2 x3 x4 x5) (addendR x0 x1 x2 x3 x4 x5 1) := rfl
theorem stage2 : val_main_v64 (F := Ideal) x0 x1 x2 x3 x4 x5 = addf (val_main_v49 (F := Ideal) x0 x1 x2 x3 x4 x5) (addendR x0 x1 x2 x3 x4 x5 2) := rfl
theorem stage3 : val_main_v79 (F := Ideal) x0 x1 x2 x3 x4 x5 = addf (val_main_v64 (F := Ideal) x0 x1 x2 x3 x4 x5) (addendR x0 x1 x2 x3 x4 x5 3) := rfl
theorem stage4 : val_main_v94 (F := Ideal) x0 x1 x2 x3 x4 x5 = addf (val_main_v79 (F := Ideal) x0 x1 x2 x3 x4 x5) (addendR x0 x1 x2 x3 x4 x5 4) := rfl
theorem stage5 : val_main_v109 (F := Ideal) x0 x1 x2 x3 x4 x5 = addf (val_main_v94 (F := Ideal) x0 x1 x2 x3 x4 x5) (addendR x0 x1 x2 x3 x4 x5 5) := rfl
theorem stage6 : val_main_v124 (F := Ideal) x0 x1 x2 x3 x4 x5 = addf (val_main_v109 (F := Ideal) x0 x1 x2 x3 x4 x5) (addendR x0 x1 x2 x3 x4 x5 6) := rfl
theorem stage7 : val_main_v139 (F := Ideal) x0 x1 x2 x3 x4 x5 = addf (val_main_v124 (F := Ideal) x0 x1 x2 x3 x4 x5) (addendR x0 x1 x2 x3 x4 x5 7) := rfl

/-- The reference's sum starts from zero. -/
theorem zero_at (i : S23808x2048.Idx) : val_main_v19 (F := Ideal) i = 0 := by
  rw [val_main_v19_apply, val_main_cst_apply]
  show Ideal.ofBits .f32 0x00000000#32 = 0
  simp [Ideal.ofBits, Ideal.ieee]

/-- The reference's result is the sum of the eight addends. -/
theorem sum_at (i : S23808x2048.Idx) :
    val_main_v139 (F := Ideal) x0 x1 x2 x3 x4 x5 i = ∑ e : Fin 8, addendR x0 x1 x2 x3 x4 x5 e i := by
  rw [stage7, stage6, stage5, stage4, stage3, stage2, stage1, stage0, Fin.sum_univ_eight]
  generalize addendR x0 x1 x2 x3 x4 x5 = a
  show val_main_v19 (F := Ideal) i + a 0 i + a 1 i + a 2 i + a 3 i + a 4 i + a 5 i + a 6 i + a 7 i = _
  rw [zero_at, zero_add]

/-- The weights, without their leading axis of one. -/
theorem gate_w (e : Fin 8) (q : Fin 2048) (f : Fin 5632) : val_main_v15 (F := Ideal) x3 (ix3 e q f) = x3 (ix4 0 e q f) := by
  pointwise [val_main_v15]
theorem up_w (e : Fin 8) (q : Fin 2048) (f : Fin 5632) : val_main_v16 (F := Ideal) x4 (ix3 e q f) = x4 (ix4 0 e q f) := by
  pointwise [val_main_v16]
theorem down_w (e : Fin 8) (f : Fin 5632) (l : Fin 2048) : val_main_v17 (F := Ideal) x5 (ix3 e f l) = x5 (ix4 0 e f l) := by
  pointwise [val_main_v17]

/-- A comparison of words, as a bit. -/
theorem eq_bit (a b : BitVec 32) : IntOp.cmpi .eq a b = if a = b then 1#1 else 0#1 := by
  show BitVec.ofBool (a == b) = _
  by_cases h : a = b
  · rw [if_pos h, beq_iff_eq.2 h]; rfl
  · rw [if_neg h, beq_eq_false_iff_ne.2 h]; rfl

/-- Two bits joined, widened and made a number. -/
theorem both_bits (p q : Prop) [Decidable p] [Decidable q] :
    FloatOps.sitofp (F := Ideal) .f32 ((IntOp.andi (if p then 1#1 else 0#1) (if q then 1#1 else 0#1)).setWidth 32)
      = if p ∧ q then (1 : EReal) else 0 := by
  have h1 : FloatOps.sitofp (F := Ideal) .f32 ((1#1 : BitVec 1).setWidth 32) = (1 : EReal) := by
    show ((((1#1 : BitVec 1).setWidth 32).toInt : ℝ) : EReal) = 1
    rw [show ((1#1 : BitVec 1).setWidth 32).toInt = 1 by decide]; simp
  have h0 : FloatOps.sitofp (F := Ideal) .f32 ((0#1 : BitVec 1).setWidth 32) = (0 : EReal) := by
    show ((((0#1 : BitVec 1).setWidth 32).toInt : ℝ) : EReal) = 0
    rw [show ((0#1 : BitVec 1).setWidth 32).toInt = 0 by decide]; simp
  by_cases hp : p
  · by_cases hq : q
    · rw [if_pos hp, if_pos hq, if_pos ⟨hp, hq⟩]; exact h1
    · rw [if_pos hp, if_neg hq, if_neg fun h => hq h.2]; exact h0
  · by_cases hq : q
    · rw [if_neg hp, if_pos hq, if_neg fun h => hp h.1]; exact h0
    · rw [if_neg hp, if_neg hq, if_neg fun h => hp h.1]; exact h0

/-- The weight of expert `e` on a row: one if the row's tile holds rows and is that expert's, else zero. -/
theorem weight_at (R : Fin 23808) (e : Fin 8) :
    val_main_v14 (F := Ideal) x0 x1 (ix2 R e)
      = if x0 (ix1 ⟨(R : ℕ) / 768, by omega⟩) = BitVec.ofNat 32 e ∧ x1 (ix1 ⟨(R : ℕ) / 768, by omega⟩) = 1#32 then 1 else 0 := by
  have hR := R.isLt; have he := e.isLt
  have i14 : idx_main_v14 (ix2 R e) = ix3 ⟨(R : ℕ) / 768, by omega⟩ ⟨(R : ℕ) % 768, by omega⟩ e := by
    funext a
    match a with
    | ⟨0, _⟩ => exact Fin.ext (by show ((R : ℕ) * 8 + e) / 6144 = (R : ℕ) / 768; omega)
    | ⟨1, _⟩ => exact Fin.ext (by show ((R : ℕ) * 8 + e) / 8 % 768 = (R : ℕ) % 768; omega)
    | ⟨2, _⟩ => exact Fin.ext (by show ((R : ℕ) * 8 + e) % 8 = e; omega)
  rw [val_main_v14_apply, i14]
  generalize (⟨(R : ℕ) / 768, _⟩ : Fin 31) = i
  generalize (⟨(R : ℕ) % 768, _⟩ : Fin 768) = r
  rw [val_main_v13_apply, val_main_v12_apply, val_main_v11_apply, val_main_v10_apply, val_main_v9_apply, val_main_v8_apply, val_main_v7_apply, val_main_v6_apply,
    val_main_v5_apply, val_main_v4_apply, val_main_v3_apply, val_main_v2_apply, val_main_v1_apply, val_main_v0_apply, val_main_c_apply]
  have e0 : idx_main_v0 (idx_main_v3 (idx_main_v13 (ix3 i r e))) = ix1 i := by
    funext a
    match a with
    | ⟨0, _⟩ => rfl
  have e1 : idx_main_v6 (idx_main_v9 (idx_main_v13 (ix3 i r e))) = ix1 i := by
    funext a
    match a with
    | ⟨0, _⟩ => rfl
  rw [e0, e1]
  show FloatOps.sitofp (F := Ideal) .f32 ((IntOp.andi (IntOp.cmpi .eq (x0 (ix1 i)) (BitVec.ofNat 32 e)) (IntOp.cmpi .eq (x1 (ix1 i)) 1#32)).setWidth 32) = _
  rw [eq_bit, eq_bit]
  exact both_bits _ _

/-- The reference's result: the expert's sum where the row's tile holds rows, zero elsewhere. -/
theorem result_at (hE : ∀ x, (x0 x).toNat < 8) (R : Fin 23808) (l : Fin 2048) :
    val_main_v139 (F := Ideal) x0 x1 x2 x3 x4 x5 (ix2 R l)
      = if x1 (ix1 ⟨(R : ℕ) / 768, by omega⟩) = 1#32 then
          Cert.Moe.expert x2 x3 x4 x5 ⟨(x0 (ix1 ⟨(R : ℕ) / 768, by omega⟩)).toNat, hE _⟩ R l
        else 0 := by
  have one : ∀ e : Fin 8, addendR x0 x1 x2 x3 x4 x5 e (ix2 R l)
      = val_main_v14 (F := Ideal) x0 x1 (ix2 R e) * Cert.Moe.expert x2 x3 x4 x5 e R l := fun e => by
    refine (addend_at (cuts e) _ _ _ _ _ R l).trans ?_
    refine congrArg _ (Finset.sum_congr rfl fun f _ => ?_)
    rw [hidden_at, down_w, funext fun q => gate_w x3 e q f, funext fun q => up_w x4 e q f]
    rfl
  rw [sum_at, Finset.sum_congr rfl fun e _ => (one e).trans (congrArg (· * _) (weight_at x0 x1 R e))]
  generalize (⟨(R : ℕ) / 768, _⟩ : Fin 31) = i
  by_cases hv : x1 (ix1 i) = 1#32
  · rw [if_pos hv]
    have hw : ∀ e : Fin 8, (if x0 (ix1 i) = BitVec.ofNat 32 e ∧ x1 (ix1 i) = 1#32 then (1 : EReal) else 0)
        = if (⟨(x0 (ix1 i)).toNat, hE _⟩ : Fin 8) = e then 1 else 0 := fun e => by
      refine if_congr ?_ rfl rfl
      have he := e.isLt
      constructor
      · rintro ⟨h, -⟩
        refine Fin.ext ?_
        show (x0 (ix1 i)).toNat = e
        rw [h, BitVec.toNat_ofNat]; omega
      · intro h
        refine ⟨BitVec.eq_of_toNat_eq ?_, hv⟩
        rw [BitVec.toNat_ofNat, ← h]
        show (x0 (ix1 i)).toNat = (x0 (ix1 i)).toNat % 2 ^ 32
        have := hE (ix1 i); omega
    simp only [hw, ite_mul, one_mul, zero_mul, Finset.sum_ite_eq, Finset.mem_univ, if_true]
  · rw [if_neg hv]
    refine Finset.sum_eq_zero fun e _ => ?_
    rw [if_neg (fun h => hv h.2), zero_mul]

end Cert.Reference2Ideal.Experts

end
-- ==== Proof.MoeBody.lean ====
/-
One grid point of the expert feed-forward kernel, on staging buffers of any contents.

The body clears its output tile at the first column block of a tile of rows, and, where the
tile holds routed rows, adds the product of that column block to it.
-/
module

public import proofs.«01_k».proof.Defs
public import proofs.«01_k».proof.Proof.Gen.Kernel2Ideal
public import proofs.«01_k».proof.Proof.Gen.Kernel2Ideal.Launch
public import proofs.«01_k».proof.Proof.Gen.Kernel2Ideal.Skeleton
public import Idealize.ShloMosaic.Lib.Pipeline.Kit
public import Idealize.ShloMosaic.Lib.Pipeline.TableIdle
public import Idealize.ShloMosaic.Lib.Pipeline.FrameBody
public import Idealize.ShloMosaic.Lib.Pointwise
public import Idealize.ShloMosaic.Lib.VecWindow
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Proof.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources the run is stated over. -/
abbrev Mon (F : FTy → Type) [FloatOps F] : Type := MT nD τ sig Unit (Elt F) ℕ (UR sig nD τ) ℕ

/-- The two tables, whole: which expert a tile of rows takes, and whether the tile holds rows. -/
abbrev tabE : Memref sig .tc .smem S31 .i32 := Memref.whole main_arg0
abbrev tabV : Memref sig .tc .smem S31 .i32 := Memref.whole main_arg1

/-- The word the body reads from the second table at a grid point. -/
abbrev word (T : S31.Idx → Elt F .i32) (i : grid0.Coords) : BitVec 32 :=
  View.readAt (Elt F) tabV.view (Rect.unit (s := S31) (k0_off1 i) S1.size (k0_off1_inb i)).toLoadRect T
    (Shape.Idx.first (numel1_S1.symm ▸ Nat.one_pos))

/-- The output tile before the product is added: cleared at the first column block. -/
def cleared (i : grid0.Coords) (y : S768x2048.Idx → Elt F .f32) : S768x2048.Idx → Elt F .f32 :=
  if k0_cond1 i = 1#1 then k0_pay1 else y

/-- The output tile after one grid point. -/
def tile (i : grid0.Coords) (w : BitVec 32) (x0 : S768x2048.Idx → Elt F .bf16)
    (x1 x2 : S1x1x2048x512.Idx → Elt F .f32) (x3 : S1x1x512x2048.Idx → Elt F .f32)
    (y : S768x2048.Idx → Elt F .f32) : S768x2048.Idx → Elt F .f32 :=
  if k0_cond2 w = 1#1 then k0_pay2 (cleared i y) x0 x1 x2 x3 else cleared i y

theorem pay2_congr {y y' : S768x2048.Idx → Elt F .f32} {a a' : S768x2048.Idx → Elt F .bf16}
    {b b' c c' : S1x1x2048x512.Idx → Elt F .f32} {d d' : S1x1x512x2048.Idx → Elt F .f32}
    (hy : y = y') (ha : a = a') (hb : b = b') (hc : c = c') (hd : d = d') :
    k0_pay2 y a b c d = k0_pay2 y' a' b' c' d' := by
  rw [hy, ha, hb, hc, hd]

set_option maxHeartbeats 8000000 in
/-- The body's triple. -/
theorem body (c : Dev nD) (i : grid0.Coords)
    (arg4 : Memref sig .tc .vmem S768x2048 .bf16) (harg4 : arg4.IsWhole)
    (arg5 : Memref sig .tc .vmem S1x1x2048x512 .f32) (harg5 : arg5.IsWhole)
    (arg6 : Memref sig .tc .vmem S1x1x2048x512 .f32) (harg6 : arg6.IsWhole)
    (arg7 : Memref sig .tc .vmem S1x1x512x2048 .f32) (harg7 : arg7.IsWhole)
    (arg8 : Memref sig .tc .vmem S768x2048 .f32) (harg8 : arg8.IsWhole)
    (T0 T1 : S31.Idx → Elt F .i32) (x0 : S768x2048.Idx → Elt F .bf16)
    (x1 x2 : S1x1x2048x512.Idx → Elt F .f32) (x3 : S1x1x512x2048.Idx → Elt F .f32)
    (y : S768x2048.Idx → Elt F .f32) (K : PUnit → sProp (Mon F)) :
    iprop(owns (c : Thread nD τ) arg4 fullShare x0 ∗ owns (c : Thread nD τ) arg5 fullShare x1
        ∗ owns (c : Thread nD τ) arg6 fullShare x2 ∗ owns (c : Thread nD τ) arg7 fullShare x3
        ∗ (tabE.view.loc (c : Thread nD τ) ↦{fullShare.right} T0)
        ∗ (tabV.view.loc (c : Thread nD τ) ↦{fullShare.right} T1)
        ∗ owns (c : Thread nD τ) arg8 fullShare y
        ∗ (iprop(owns (c : Thread nD τ) arg4 fullShare x0 ∗ owns (c : Thread nD τ) arg5 fullShare x1
            ∗ owns (c : Thread nD τ) arg6 fullShare x2 ∗ owns (c : Thread nD τ) arg7 fullShare x3
            ∗ (tabE.view.loc (c : Thread nD τ) ↦{fullShare.right} T0)
            ∗ (tabV.view.loc (c : Thread nD τ) ↦{fullShare.right} T1)
            ∗ owns (c : Thread nD τ) arg8 fullShare (tile i (word T1 i) x0 x1 x2 x3 y)) -∗ K ⟨⟩))
      ⊢ wp frame (wpE (defs₀ (F := F)) Variants.none c none) Set.univ
          (cc0_moe_ffn i tabE (Memref.isWhole_whole _) tabV (Memref.isWhole_whole _)
            arg4 harg4 arg5 harg5 arg6 harg6 arg7 harg7 arg8 harg8) K := by
  unfold owns
  rw [cc0_moe_ffn_eq_skeleton]; unfold cc0_moe_ffn_skel
  iintro ⟨⟨%f0, %e0, H0⟩, ⟨%f1, %e1, H1⟩, ⟨%f2, %e2, H2⟩, ⟨%f3, %e3, H3⟩, HT0, HT1, ⟨%f4, %e4, H4⟩, Hk⟩
  obtain rfl := harg4.eq_unread e0
  obtain rfl := harg5.eq_unread e1
  obtain rfl := harg6.eq_unread e2
  obtain rfl := harg7.eq_unread e3
  obtain rfl := harg8.eq_unread e4
  have hT0 : tabE.IsWhole := Memref.isWhole_whole _
  have hT1 : tabV.IsWhole := Memref.isWhole_whole _
  by_cases h1 : k0_cond1 i = 1#1 <;> by_cases h2 : k0_cond2 (word T1 i) = 1#1
  all_goals
    sl_exec! (disch := first | exact h1 | exact h2)
    sl_step
    iapply Hk
    isplitl [H0]; · iexists _; isplitr; swap; · iexact H0
                    ipureintro; exact e0
    isplitl [H1]; · iexists _; isplitr; swap; · iexact H1
                    ipureintro; exact e1
    isplitl [H2]; · iexists _; isplitr; swap; · iexact H2
                    ipureintro; exact e2
    isplitl [H3]; · iexists _; isplitr; swap; · iexact H3
                    ipureintro; exact e3
    isplitl [HT0]; · iexact HT0
    isplitl [HT1]; · iexact HT1
    iexists _; isplitr; swap; · iexact H4
    ipureintro
  · delta body.sl.H4_2 body.sl.v8 body.sl.H4_1
    refine (View.read_writes_full _ _ _ _ _).trans ?_
    unfold tile cleared; rw [if_pos h2, if_pos h1]
    exact pay2_congr (View.readCov_full _ _ _ _ _) ((View.readAt_full _ _ _).trans e0)
      ((View.readAt_full _ _ _).trans e1) ((View.readAt_full _ _ _).trans e2) ((View.readAt_full _ _ _).trans e3)
  · delta body.sl.H4_1_1
    refine (View.read_writes_full _ _ _ _ _).trans ?_
    unfold tile cleared; rw [if_neg h2, if_pos h1]
  · delta body.sl.H4_1_2
    refine (View.read_writes_full _ _ _ _ _).trans ?_
    unfold tile cleared; rw [if_pos h2, if_neg h1]
    exact pay2_congr ((View.readAt_full _ _ _).trans e4) ((View.readAt_full _ _ _).trans e0)
      ((View.readAt_full _ _ _).trans e1) ((View.readAt_full _ _ _).trans e2) ((View.readAt_full _ _ _).trans e3)
  · exact e4.trans (by unfold tile cleared; rw [if_neg h2, if_neg h1])

/-- The offset of a table's word at a grid point is the point's tile of rows. -/
theorem off1_eq (i : grid0.Coords) : k0_off1 i 0 = (i 0).val := by
  have h : (i 0).val < 31 := (i 0).isLt
  show (BitVec.ofNat 32 (i 0).val).toNat = _
  rw [BitVec.toNat_ofNat]; omega

/-- The word read at a grid point is the table's entry for the point's tile of rows. -/
theorem word_eq (T : S31.Idx → Elt F .i32) (i : grid0.Coords) : word T i = T (ix1 (i 0)) := by
  unfold word
  rw [View.readAt_apply]
  show T _ = _
  refine congrArg T ?_
  funext a
  match a with
  | ⟨0, _⟩ =>
    apply Fin.ext
    show k0_off1 i 0 + 1 * 0 = (i 0).val
    rw [off1_eq]; rfl

end Cert.Proof.Moe

end
-- ==== Proof.MoeGrid.lean ====
/-
The grid of the expert feed-forward kernel: 31 tiles of rows by 11 column blocks, and which
blocks each point takes, for any tables whose experts are among the eight.
-/
module

public import proofs.«01_k».proof.Proof.MoeBody

@[expose] public section

set_option maxRecDepth 16384
set_option Elab.async false

noncomputable section

namespace Cert.Proof.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- A point's coordinates: the tile of rows and the column block. -/
theorem coords_eq : ∀ t : Fin grid0.N, (grid0.coords t 0).val = t.val / 11 ∧ (grid0.coords t 1).val = t.val % 11 := by
  decide +kernel

/-- The output is cleared exactly at the first column block. -/
theorem cond1_iff : ∀ i : grid0.Coords, k0_cond1 i = 1#1 ↔ (i 1).val = 0 := by
  decide +kernel

/-- The product is added exactly where the tile's word is one. -/
theorem cond2_iff (w : BitVec 32) : k0_cond2 w = 1#1 ↔ w = 1#32 := by
  unfold k0_cond2
  by_cases h : w = 1#32
  · subst h; decide
  · refine iff_of_false ?_ h
    have hb : (w == 1#32) = false := by simpa using h
    simp [Scalar.cmpi, Scalar.extui, IntOp.cmpi, hb, h]

variable (T0 T1 : S31.Idx → BitVec 32)

/-- The two tables' contents as the pipeline takes them. -/
def tables : pre0.Contents (Elt F) := fun
  | ⟨0, _⟩ => T0
  | ⟨1, _⟩ => T1
  | ⟨_ + 2, h⟩ => absurd h (by simp)

theorem at_eq (T : S31.Idx → BitVec 32) (i : grid0.Coords) (off : Fin 1 → ℕ) (ho : off 0 = (i 0).val)
    (inb : ∀ a, off a + S1.size a ≤ S31.size a) (h1) :
    T ((Rect.unit (s := S31) off S1.size inb).emb (Shape.Idx.first h1)) = T (ix1 (i 0)) := by
  refine congrArg T ?_
  funext a
  match a with
  | ⟨0, _⟩ =>
    apply Fin.ext
    show off 0 + 1 * 0 = (i 0).val
    rw [ho]; rfl

/-- The column block a point takes: its own where the tile holds rows, else the last. -/
def col (i : grid0.Coords) : ℕ := if T1 (ix1 (i 0)) = 1#32 then (i 1).val else 10

theorem col_lt (i : grid0.Coords) : col T1 i < 11 := by
  unfold col
  split
  · exact (i 1).isLt
  · omega

theorem sel_eq (i : grid0.Coords) (w : BitVec 32) :
    (Scalar.select (Scalar.cmpi .eq w 1#32) (BitVec.ofNat 32 (i 1).val) (10#32)).toNat
      = if w = 1#32 then (i 1).val else 10 := by
  have h : (i 1).val < 11 := (i 1).isLt
  by_cases hw : w = 1#32
  · subst hw
    rw [if_pos rfl]
    show (BitVec.ofNat 32 (i 1).val).toNat = _
    rw [BitVec.toNat_ofNat]; omega
  · rw [if_neg hw]
    have hb : (w == 1#32) = false := by simpa using hw
    have hc : Scalar.cmpi .eq w 1#32 = 0#1 := by
      show BitVec.ofBool (w == 1#32) = 0#1
      rw [hb]; rfl
    rw [hc]; rfl

theorem transform1_eq (i : grid0.Coords) :
    cc0_transform_1 (F := F) k0_off1_inb numel1_S1 (tables T0 T1) i = ![0, (T0 (ix1 (i 0))).toNat, 0, col T1 i] := by
  have e0 := at_eq T0 i (k0_off1 i) (off1_eq i) (k0_off1_inb i) (numel1_S1.symm ▸ Nat.one_pos)
  have e1 := at_eq T1 i (k0_off1 i) (off1_eq i) (k0_off1_inb i) (numel1_S1.symm ▸ Nat.one_pos)
  have e2 := sel_eq i (T1 (ix1 (i 0)))
  rw [← e1] at e2
  unfold col
  rw [← e1, ← e2, ← e0]
  rfl

theorem transform2_eq (i : grid0.Coords) :
    cc0_transform_2 (F := F) k0_off1_inb numel1_S1 (tables T0 T1) i = ![0, (T0 (ix1 (i 0))).toNat, 0, col T1 i] :=
  (by rfl : _ = cc0_transform_1 (F := F) k0_off1_inb numel1_S1 (tables T0 T1) i).trans (transform1_eq T0 T1 i)

theorem transform3_eq (i : grid0.Coords) :
    cc0_transform_3 (F := F) k0_off1_inb numel1_S1 (tables T0 T1) i = ![0, (T0 (ix1 (i 0))).toNat, col T1 i, 0] := by
  have e0 := at_eq T0 i (k0_off1 i) (off1_eq i) (k0_off1_inb i) (numel1_S1.symm ▸ Nat.one_pos)
  have e1 := at_eq T1 i (k0_off1 i) (off1_eq i) (k0_off1_inb i) (numel1_S1.symm ▸ Nat.one_pos)
  have e2 := sel_eq i (T1 (ix1 (i 0)))
  rw [← e1] at e2
  unfold col
  rw [← e1, ← e2, ← e0]
  rfl

/-- With every expert among the eight, every block lies inside its array. -/
theorem ok (hE : ∀ x, (T0 x).toNat < 8) : ok0 (F := F) (tables T0 T1) := by
  refine ⟨fun i => ⟨fun a => ?_, .inl rfl⟩, fun i => ⟨fun a => ?_, .inl rfl⟩, fun i => ⟨fun a => ?_, .inl rfl⟩⟩
  · rw [transform1_eq]
    have h := hE (ix1 (i 0)); have h' := col_lt T1 i
    match a with
    | ⟨0, _⟩ => show (0 + 1) * 1 ≤ 1; omega
    | ⟨1, _⟩ => show ((T0 (ix1 (i 0))).toNat + 1) * 1 ≤ 8; omega
    | ⟨2, _⟩ => show (0 + 1) * 2048 ≤ 2048; omega
    | ⟨3, _⟩ => show (col T1 i + 1) * 512 ≤ 5632; omega
  · rw [transform2_eq]
    have h := hE (ix1 (i 0)); have h' := col_lt T1 i
    match a with
    | ⟨0, _⟩ => show (0 + 1) * 1 ≤ 1; omega
    | ⟨1, _⟩ => show ((T0 (ix1 (i 0))).toNat + 1) * 1 ≤ 8; omega
    | ⟨2, _⟩ => show (0 + 1) * 2048 ≤ 2048; omega
    | ⟨3, _⟩ => show (col T1 i + 1) * 512 ≤ 5632; omega
  · rw [transform3_eq]
    have h := hE (ix1 (i 0)); have h' := col_lt T1 i
    match a with
    | ⟨0, _⟩ => show (0 + 1) * 1 ≤ 1; omega
    | ⟨1, _⟩ => show ((T0 (ix1 (i 0))).toNat + 1) * 1 ≤ 8; omega
    | ⟨2, _⟩ => show (col T1 i + 1) * 512 ≤ 5632; omega
    | ⟨3, _⟩ => show (0 + 1) * 2048 ≤ 2048; omega

variable (hE : ∀ x, (T0 x).toNat < 8)

/-- The tables as the pipeline admits them, and the pipeline at them. -/
def admitted : (pcfg0 (F := F)).Adm := ⟨tables T0 T1, ok T0 T1 hE⟩
abbrev cfgT : Pipeline.Cfg sig Λ₀ := cfg0 (F := F) (admitted T0 T1 hE)

/-- The output block of a point is its tile of rows. -/
theorem transform4_eq : ∀ t : Fin grid0.N, cc0_transform_4 (grid0.coords t) = ![t.val / 11, 0] := by
  decide +kernel

/-- The output is written back exactly at the last column block. -/
theorem flush_eq (t : Fin (cfgT (F := F) T0 T1 hE).N) :
    ((cfgT (F := F) T0 T1 hE).win (4 : Fin 5)).flush t = decide ((t.val + 1) % 11 = 0) := by
  have hN : (cfgT (F := F) T0 T1 hE).N = 341 := N_0
  have ht := t.isLt
  rw [Pipeline.Window.flush_eq_flushF]
  unfold Pipeline.Window.flushF
  have key : (t.val + 1 = (cfgT (F := F) T0 T1 hE).N ∨ ∃ h : t.val + 1 < (cfgT (F := F) T0 T1 hE).N,
      ∃ a, ((cfgT (F := F) T0 T1 hE).win (4 : Fin 5)).index ⟨t.val + 1, h⟩ a ≠ ((cfgT (F := F) T0 T1 hE).win (4 : Fin 5)).index t a)
      ↔ (t.val + 1) % 11 = 0 := by
    have hi : ∀ u : Fin (cfgT (F := F) T0 T1 hE).N,
        ((cfgT (F := F) T0 T1 hE).win (4 : Fin 5)).index u = ![u.val / 11, 0] := fun u => transform4_eq u
    constructor
    · rintro (h | ⟨h, a, ha⟩)
      · omega
      · rw [hi, hi] at ha
        match a with
        | ⟨0, _⟩ => have ha' : (t.val + 1) / 11 ≠ t.val / 11 := ha
                    omega
        | ⟨1, _⟩ => exact absurd rfl ha
    · intro h
      by_cases hl : t.val + 1 = (cfgT (F := F) T0 T1 hE).N
      · exact .inl hl
      · refine .inr ⟨by omega, (0 : Fin 2), ?_⟩
        rw [hi, hi]
        show (t.val + 1) / 11 ≠ t.val / 11
        omega
  show (true && (decide _ || decide _)) = _
  rw [Bool.true_and, ← Bool.decide_or]
  exact decide_eq_decide.2 key

/-- Where the body leaves the output alone. -/
theorem idle_eq (t : Fin (cfgT (F := F) T0 T1 hE).N) :
    (cfgT (F := F) T0 T1 hE).idle (4 : Fin 5) ((cfgT (F := F) T0 T1 hE).grid.coords t) = true ↔
      t.val % 11 ≠ 0 ∧ T1 (ix1 (grid0.coords t 0)) ≠ 1#32 := by
  have h1 := cond1_iff (grid0.coords t)
  rw [(coords_eq t).2] at h1
  have hd : (tables (F := F) T0 T1).atD 1 (k0_off1 (grid0.coords t)) = T1 (ix1 (grid0.coords t 0)) := by
    have hb : ∀ a, k0_off1 (grid0.coords t) a + 1 ≤ S31.size a := fun a => match a with
      | ⟨0, _⟩ => k0_off1_inb (grid0.coords t) 0
    show (if h : ∀ a, k0_off1 (grid0.coords t) a + 1 ≤ S31.size a then T1 (fun a => ⟨k0_off1 (grid0.coords t) a, h a⟩) else default) = _
    rw [dif_pos hb]
    refine congrArg T1 (funext fun a => ?_)
    match a with
    | ⟨0, _⟩ => exact Fin.ext (off1_eq _)
  show (!(k0_cond1 (grid0.coords t) == 1#1) && !(k0_cond2 ((tables (F := F) T0 T1).atD 1 (k0_off1 (grid0.coords t))) == 1#1)) = true ↔ _
  rw [hd, Bool.and_eq_true, Bool.not_eq_true', Bool.not_eq_true', beq_eq_false_iff_ne, beq_eq_false_iff_ne, ne_eq, ne_eq, h1, cond2_iff]

/-- The output holds nothing of the body's exactly at the first column block. -/
theorem fresh_eq (n : ℕ) (hn : n ≤ (cfgT (F := F) T0 T1 hE).N) :
    (cfgT (F := F) T0 T1 hE).fresh (4 : Fin 5) n = decide (n % 11 = 0) := by
  refine Pipeline.Cfg.fresh_tab _ (4 : Fin 5) (fun n => decide (n % 11 = 0)) rfl (fun t => ?_) n hn
  rw [flush_eq]
  by_cases h : t.val % 11 = 0
  · have hi : (cfgT (F := F) T0 T1 hE).idle (4 : Fin 5) ((cfgT (F := F) T0 T1 hE).grid.coords t) = false := by
      rw [← Bool.not_eq_true, idle_eq]; exact fun hh => hh.1 h
    rw [hi, Bool.false_and, Bool.or_false]
  · rw [show decide (t.val % 11 = 0) = false from decide_eq_false h, Bool.and_false, Bool.or_false]

end Cert.Proof.Moe

end
-- ==== Proof.MoeRun.lean ====
/-
The expert feed-forward kernel run over its whole grid, for any tables whose experts are among
the eight: what the output tile holds after every point, and what the launch leaves.
-/
module

public import proofs.«01_k».proof.Proof.MoeGrid
public import Idealize.ShloMosaic.Lib.Pipeline.Quiescent
public import Idealize.ShloMosaic.Lib.Claim

@[expose] public section

set_option maxRecDepth 16384
set_option Elab.async false

noncomputable section

namespace Cert.Proof.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (T0 T1 : S31.Idx → BitVec 32) (hE : ∀ x, (T0 x).toNat < 8)
variable (m : (ℓ : Loc nD τ sig) → Buf (Elt F) ℓ) (ρ : Dev nD → PrngReg)

/-- The launch's one pipeline, and a point's coordinates and staging buffers. -/
abbrev pcsT : Fin 1 → Pipeline.Cfg sig Λ₀ := Pipeline.pin (pcfgs (F := F)) fun _ => admitted T0 T1 hE

abbrev pt (t : Fin (cfgT (F := F) T0 T1 hE).N) : grid0.Coords := (cfgT (F := F) T0 T1 hE).grid.coords t
abbrev stg0 (t : Fin (cfgT (F := F) T0 T1 hE).N) : Memref sig .tc .vmem S768x2048 .bf16 := spec0_0.stage ((cfgT (F := F) T0 T1 hE).slots t (0 : Fin 5))
abbrev stg1 (t : Fin (cfgT (F := F) T0 T1 hE).N) : Memref sig .tc .vmem S1x1x2048x512 .f32 := spec0_1.stage ((cfgT (F := F) T0 T1 hE).slots t (1 : Fin 5))
abbrev stg2 (t : Fin (cfgT (F := F) T0 T1 hE).N) : Memref sig .tc .vmem S1x1x2048x512 .f32 := spec0_2.stage ((cfgT (F := F) T0 T1 hE).slots t (2 : Fin 5))
abbrev stg3 (t : Fin (cfgT (F := F) T0 T1 hE).N) : Memref sig .tc .vmem S1x1x512x2048 .f32 := spec0_3.stage ((cfgT (F := F) T0 T1 hE).slots t (3 : Fin 5))
abbrev stg4 (t : Fin (cfgT (F := F) T0 T1 hE).N) : Memref sig .tc .vmem S768x2048 .f32 := spec0_4.stage ((cfgT (F := F) T0 T1 hE).slots t (4 : Fin 5))

/-- A window's block at a point, read off its array at launch. -/
def blockAt (c : Dev nD) (w : Fin (cfgT (F := F) T0 T1 hE).W) (t : Fin (cfgT (F := F) T0 T1 hE).N) :
    (((cfgT (F := F) T0 T1 hE).win w).xblock (pt T0 T1 hE t)).Idx → Elt F ((cfgT (F := F) T0 T1 hE).win w).elt :=
  (((cfgT (F := F) T0 T1 hE).win w).blk t).view.read (Elt F) ((s₀ m ρ).mem (((cfgT (F := F) T0 T1 hE).win w).arr.view.loc (c : Thread nD τ)))

/-- The output tile after a point, from what it held before. -/
def next (c : Dev nD) (t : Fin (cfgT (F := F) T0 T1 hE).N) (y : S768x2048.Idx → Elt F .f32) : S768x2048.Idx → Elt F .f32 :=
  tile (pt T0 T1 hE t) (word (F := F) T1 (pt T0 T1 hE t)) (blockAt T0 T1 hE m ρ c (0 : Fin 5) t) (blockAt T0 T1 hE m ρ c (1 : Fin 5) t)
    (blockAt T0 T1 hE m ρ c (2 : Fin 5) t) (blockAt T0 T1 hE m ρ c (3 : Fin 5) t) y

/-- The output tile after the point of a given number. -/
def tileAt (c : Dev nD) : (n : ℕ) → n < (cfgT (F := F) T0 T1 hE).N → S768x2048.Idx → Elt F .f32
  | 0, h => next T0 T1 hE m ρ c ⟨0, h⟩ k0_pay1
  | n + 1, h => next T0 T1 hE m ρ c ⟨n + 1, h⟩ (tileAt c n (Nat.lt_of_succ_lt h))

/-- The output tile before a point. -/
def tileBefore (c : Dev nD) (t : Fin (cfgT (F := F) T0 T1 hE).N) : S768x2048.Idx → Elt F .f32 :=
  if h : t.val = 0 then k0_pay1 else tileAt T0 T1 hE m ρ c (t.val - 1) (by omega)

theorem tileAt_eq (c : Dev nD) (t : Fin (cfgT (F := F) T0 T1 hE).N) :
    tileAt T0 T1 hE m ρ c t.val t.isLt = next T0 T1 hE m ρ c t (tileBefore T0 T1 hE m ρ c t) := by
  obtain ⟨n, hn⟩ := t
  cases n with
  | zero => rfl
  | succ n => unfold tileBefore; rw [dif_neg (Nat.succ_ne_zero n)]; rfl

/-- At the first column block the point leaves the same whatever the tile held. -/
theorem next_first (c : Dev nD) (t : Fin (cfgT (F := F) T0 T1 hE).N) (y y') (h : t.val % 11 = 0) :
    next T0 T1 hE m ρ c t y = next T0 T1 hE m ρ c t y' := by
  have h1 : k0_cond1 (pt T0 T1 hE t) = 1#1 := (cond1_iff _).2 ((coords_eq t).2.trans h)
  unfold next tile cleared
  rw [if_pos h1, if_pos h1]

/-- Where the body leaves the output alone, the tile stays. -/
theorem next_idle (c : Dev nD) (t : Fin (cfgT (F := F) T0 T1 hE).N) (y)
    (h : (cfgT (F := F) T0 T1 hE).idle (4 : Fin 5) ((cfgT (F := F) T0 T1 hE).grid.coords t) = true) :
    next T0 T1 hE m ρ c t y = y := by
  obtain ⟨hf, hv⟩ := (idle_eq T0 T1 hE t).1 h
  have h1 : ¬ k0_cond1 (pt T0 T1 hE t) = 1#1 := fun hh => hf ((coords_eq t).2.symm.trans ((cond1_iff _).1 hh))
  have h2 : ¬ k0_cond2 (word (F := F) T1 (pt T0 T1 hE t)) = 1#1 := by
    rw [cond2_iff]
    exact fun hh => hv ((word_eq (F := F) T1 _).symm.trans hh)
  unfold next tile cleared
  rw [if_neg h2, if_neg h1]

/-- What the body keeps between points: its halves of the two tables. -/
def inv (c : Dev nD) : sProp (Mon F) :=
  iprop((tabE.view.loc (c : Thread nD τ) ↦{fullShare.right} T0) ∗ (tabV.view.loc (c : Thread nD τ) ↦{fullShare.right} T1))

/-- The pipeline's proof data. -/
def data (_ : Fin 1) (c : Dev nD) : Dat τ (Elt F) Unit ℕ (UR sig nD τ) ℕ (cfgT (F := F) T0 T1 hE) c where
  A w := (s₀ m ρ).mem (((cfgT (F := F) T0 T1 hE).win w).arr.view.loc (c : Thread nD τ))
  after w t := match w with
    | ⟨0, _⟩ => blockAt T0 T1 hE m ρ c (0 : Fin 5) t
    | ⟨1, _⟩ => blockAt T0 T1 hE m ρ c (1 : Fin 5) t
    | ⟨2, _⟩ => blockAt T0 T1 hE m ρ c (2 : Fin 5) t
    | ⟨3, _⟩ => blockAt T0 T1 hE m ρ c (3 : Fin 5) t
    | ⟨4, _⟩ => tileAt T0 T1 hE m ρ c t.val t.isLt
  Φ _ := inv T0 T1 c
  q _ := fullShare
  owed _ := 0

theorem after_out (c : Dev nD) (t) : (data T0 T1 hE m ρ 0 c).after (4 : Fin 5) t = tileAt T0 T1 hE m ρ c t.val t.isLt := rfl

theorem before_0 (c : Dev nD) (t d) : (data T0 T1 hE m ρ 0 c).before (0 : Fin 5) t d = blockAt T0 T1 hE m ρ c (0 : Fin 5) t :=
  ((data T0 T1 hE m ρ 0 c).before_in_eq_fetched (0 : Fin 5) rfl (fun _ => rfl) (fun _ _ _ => rfl)
    (fun t => by unfold Dat.blockOf; rfl) t d).trans (by unfold Dat.fetched Dat.blockOf blockAt; rfl)
theorem before_1 (c : Dev nD) (t d) : (data T0 T1 hE m ρ 0 c).before (1 : Fin 5) t d = blockAt T0 T1 hE m ρ c (1 : Fin 5) t :=
  ((data T0 T1 hE m ρ 0 c).before_in_eq_fetched (1 : Fin 5) rfl (fun _ => rfl) (fun _ _ _ => rfl)
    (fun t => by unfold Dat.blockOf; rfl) t d).trans (by unfold Dat.fetched Dat.blockOf blockAt; rfl)
theorem before_2 (c : Dev nD) (t d) : (data T0 T1 hE m ρ 0 c).before (2 : Fin 5) t d = blockAt T0 T1 hE m ρ c (2 : Fin 5) t :=
  ((data T0 T1 hE m ρ 0 c).before_in_eq_fetched (2 : Fin 5) rfl (fun _ => rfl) (fun _ _ _ => rfl)
    (fun t => by unfold Dat.blockOf; rfl) t d).trans (by unfold Dat.fetched Dat.blockOf blockAt; rfl)
theorem before_3 (c : Dev nD) (t d) : (data T0 T1 hE m ρ 0 c).before (3 : Fin 5) t d = blockAt T0 T1 hE m ρ c (3 : Fin 5) t :=
  ((data T0 T1 hE m ρ 0 c).before_in_eq_fetched (3 : Fin 5) rfl (fun _ => rfl) (fun _ _ _ => rfl)
    (fun t => by unfold Dat.blockOf; rfl) t d).trans (by unfold Dat.fetched Dat.blockOf blockAt; rfl)

/-- Through a point that leaves the output alone its contents carry over. -/
theorem carries (c : Dev nD) (t : Fin (cfgT (F := F) T0 T1 hE).N) (ht : t.val ≠ 0)
    (hi : (cfgT (F := F) T0 T1 hE).idle (4 : Fin 5) ((cfgT (F := F) T0 T1 hE).grid.coords t) = true) :
    (data T0 T1 hE m ρ 0 c).after (4 : Fin 5) t = (data T0 T1 hE m ρ 0 c).after (4 : Fin 5) ⟨t.val - 1, by omega⟩ := by
  rw [after_out, after_out, tileAt_eq, next_idle T0 T1 hE m ρ c t _ hi]
  unfold tileBefore; rw [dif_neg ht]

theorem before_4 (c : Dev nD) (t d) : (data T0 T1 hE m ρ 0 c).before (4 : Fin 5) t d
    = if t.val % 11 = 0 then d else tileBefore T0 T1 hE m ρ c t := by
  rw [(data T0 T1 hE m ρ 0 c).before_out_traj (4 : Fin 5) rfl (fun _ _ => rfl)
    (fun t ht hi _ => carries T0 T1 hE m ρ c t ht hi) t.val t rfl d, fresh_eq T0 T1 hE t.val t.isLt.le]
  by_cases h : t.val % 11 = 0
  · rw [if_pos h, decide_eq_true h, if_pos rfl]
  · rw [if_neg h, decide_eq_false h, if_neg Bool.false_ne_true, after_out]
    unfold tileBefore; rw [dif_neg (fun h0 => h (by rw [h0]))]

/-- The point's result, from the tile as the body finds it. -/
theorem next_before (c : Dev nD) (t d) :
    next T0 T1 hE m ρ c t ((data T0 T1 hE m ρ 0 c).before (4 : Fin 5) t d) = tileAt T0 T1 hE m ρ c t.val t.isLt := by
  rw [before_4, tileAt_eq]
  by_cases h : t.val % 11 = 0
  · exact next_first T0 T1 hE m ρ c t _ _ h
  · rw [if_neg h]

/-- What the obligation asks of the output after a point. -/
theorem post_out (c : Dev nD) (t : Fin (cfgT (F := F) T0 T1 hE).N) :
    (owns (c : Thread nD τ) (stg4 T0 T1 hE t) fullShare (tileAt T0 T1 hE m ρ c t.val t.isLt) : sProp (Mon F)) ⊢
      (match (cfgT (F := F) T0 T1 hE).idle (4 : Fin 5) ((cfgT (F := F) T0 T1 hE).grid.coords t) with
        | true =>
          match ((cfgT (F := F) T0 T1 hE).win (4 : Fin 5)).flush t with
          | false => iprop(∃ d, owns (c : Thread nD τ) (((cfgT (F := F) T0 T1 hE).win (4 : Fin 5)).stage ((cfgT (F := F) T0 T1 hE).slots t (4 : Fin 5))) fullShare ((data T0 T1 hE m ρ 0 c).before (4 : Fin 5) t d))
          | true => owns (c : Thread nD τ) (((cfgT (F := F) T0 T1 hE).win (4 : Fin 5)).stage ((cfgT (F := F) T0 T1 hE).slots t (4 : Fin 5))) fullShare ((data T0 T1 hE m ρ 0 c).after (4 : Fin 5) t)
        | false => owns (c : Thread nD τ) (((cfgT (F := F) T0 T1 hE).win (4 : Fin 5)).stage ((cfgT (F := F) T0 T1 hE).slots t (4 : Fin 5))) fullShare ((data T0 T1 hE m ρ 0 c).after (4 : Fin 5) t)) := by
  cases hi : (cfgT (F := F) T0 T1 hE).idle (4 : Fin 5) ((cfgT (F := F) T0 T1 hE).grid.coords t)
  · iintro H; iexact H
  · cases hf : ((cfgT (F := F) T0 T1 hE).win (4 : Fin 5)).flush t
    · have hm := ((idle_eq T0 T1 hE t).1 hi).1
      have e : ∀ d, (data T0 T1 hE m ρ 0 c).before (4 : Fin 5) t d = tileAt T0 T1 hE m ρ c t.val t.isLt := fun d => by
        rw [before_4, if_neg hm, tileAt_eq, next_idle T0 T1 hE m ρ c t _ hi]
      iintro H
      iexists (tileAt T0 T1 hE m ρ c t.val t.isLt)
      rw [e]
      iexact H
    · iintro H; iexact H

/-- The kernel's body at a point, as the pipeline calls it. -/
abbrev bodyAt (t : Fin (cfgT (F := F) T0 T1 hE).N) : Prog (TpuEff nD τ sig (Elt F) Λ₀ .tc) PUnit :=
  cc0_moe_ffn (pt T0 T1 hE t) tabE (Memref.isWhole_whole _) tabV (Memref.isWhole_whole _)
    (stg0 T0 T1 hE t) (hstage0_0 (((cfgT (F := F) T0 T1 hE).slots t (0 : Fin 5)).cast nbuf0_0))
    (stg1 T0 T1 hE t) (hstage0_1 (((cfgT (F := F) T0 T1 hE).slots t (1 : Fin 5)).cast nbuf0_1))
    (stg2 T0 T1 hE t) (hstage0_2 (((cfgT (F := F) T0 T1 hE).slots t (2 : Fin 5)).cast nbuf0_2))
    (stg3 T0 T1 hE t) (hstage0_3 (((cfgT (F := F) T0 T1 hE).slots t (3 : Fin 5)).cast nbuf0_3))
    (stg4 T0 T1 hE t) (hstage0_4 (((cfgT (F := F) T0 T1 hE).slots t (4 : Fin 5)).cast nbuf0_4))

set_option maxHeartbeats 4000000 in
/-- The body's obligation at a point. -/
theorem point (c : Dev nD) (t : Fin (cfgT (F := F) T0 T1 hE).N) :
    iprop((data T0 T1 hE m ρ 0 c).Φ t.castSucc ∗ (data T0 T1 hE m ρ 0 c).owesAt () t.castSucc
        ∗ (∃ d, owns (c : Thread nD τ) (stg0 T0 T1 hE t) fullShare ((data T0 T1 hE m ρ 0 c).before (0 : Fin 5) t d))
        ∗ (∃ d, owns (c : Thread nD τ) (stg1 T0 T1 hE t) fullShare ((data T0 T1 hE m ρ 0 c).before (1 : Fin 5) t d))
        ∗ (∃ d, owns (c : Thread nD τ) (stg2 T0 T1 hE t) fullShare ((data T0 T1 hE m ρ 0 c).before (2 : Fin 5) t d))
        ∗ (∃ d, owns (c : Thread nD τ) (stg3 T0 T1 hE t) fullShare ((data T0 T1 hE m ρ 0 c).before (3 : Fin 5) t d))
        ∗ (∃ d, owns (c : Thread nD τ) (stg4 T0 T1 hE t) fullShare ((data T0 T1 hE m ρ 0 c).before (4 : Fin 5) t d)))
      ⊢ wp frame (wpE (defs₀ (F := F)) Variants.none c none) Set.univ (bodyAt T0 T1 hE t) fun _ =>
          iprop((data T0 T1 hE m ρ 0 c).Φ t.succ ∗ (data T0 T1 hE m ρ 0 c).owesAt () t.succ
            ∗ bigSep Finset.univ fun w : Fin (cfgT (F := F) T0 T1 hE).W =>
                match (cfgT (F := F) T0 T1 hE).idle w ((cfgT (F := F) T0 T1 hE).grid.coords t) with
                | true =>
                  match ((cfgT (F := F) T0 T1 hE).win w).flush t with
                  | false => iprop(∃ d, owns (c : Thread nD τ) (((cfgT (F := F) T0 T1 hE).win w).stage ((cfgT (F := F) T0 T1 hE).slots t w)) fullShare ((data T0 T1 hE m ρ 0 c).before w t d))
                  | true => owns (c : Thread nD τ) (((cfgT (F := F) T0 T1 hE).win w).stage ((cfgT (F := F) T0 T1 hE).slots t w)) fullShare ((data T0 T1 hE m ρ 0 c).after w t)
                | false => owns (c : Thread nD τ) (((cfgT (F := F) T0 T1 hE).win w).stage ((cfgT (F := F) T0 T1 hE).slots t w)) fullShare ((data T0 T1 hE m ρ 0 c).after w t)) := by
  rw [bigSep_W0]
  simp only [before_0, before_1, before_2, before_3]
  rewrite [show (data T0 T1 hE m ρ 0 c).Φ t.succ = inv T0 T1 c from rfl, show (data T0 T1 hE m ρ 0 c).Φ t.castSucc = inv T0 T1 c from rfl,
    show (data T0 T1 hE m ρ 0 c).owesAt () t.succ = (data T0 T1 hE m ρ 0 c).owesAt () t.castSucc from rfl]
  unfold inv
  iintro ⟨⟨HE, HV⟩, Ho, ⟨%d0, H0⟩, ⟨%d1, H1⟩, ⟨%d2, H2⟩, ⟨%d3, H3⟩, ⟨%d4, H4⟩⟩
  iapply (body c (pt T0 T1 hE t) (stg0 T0 T1 hE t) _ (stg1 T0 T1 hE t) _ (stg2 T0 T1 hE t) _ (stg3 T0 T1 hE t) _ (stg4 T0 T1 hE t) _
    T0 T1 (blockAt T0 T1 hE m ρ c (0 : Fin 5) t) (blockAt T0 T1 hE m ρ c (1 : Fin 5) t) (blockAt T0 T1 hE m ρ c (2 : Fin 5) t)
    (blockAt T0 T1 hE m ρ c (3 : Fin 5) t) ((data T0 T1 hE m ρ 0 c).before (4 : Fin 5) t d4))
  isplitl [H0]; · iexact H0
  isplitl [H1]; · iexact H1
  isplitl [H2]; · iexact H2
  isplitl [H3]; · iexact H3
  isplitl [HE]; · iexact HE
  isplitl [HV]; · iexact HV
  isplitl [H4]; · iexact H4
  rewrite [show tile (pt T0 T1 hE t) (word (F := F) T1 (pt T0 T1 hE t)) (blockAt T0 T1 hE m ρ c (0 : Fin 5) t) (blockAt T0 T1 hE m ρ c (1 : Fin 5) t)
    (blockAt T0 T1 hE m ρ c (2 : Fin 5) t) (blockAt T0 T1 hE m ρ c (3 : Fin 5) t) ((data T0 T1 hE m ρ 0 c).before (4 : Fin 5) t d4)
      = tileAt T0 T1 hE m ρ c t.val t.isLt from next_before T0 T1 hE m ρ c t d4]
  iintro ⟨H0, H1, H2, H3, HE, HV, H4⟩
  isplitl [HE HV]
  · isplitl [HE]
    · iexact HE
    iexact HV
  isplitl [Ho]; · iexact Ho
  isplitl [H0]; · iexact H0
  isplitl [H1]; · iexact H1
  isplitl [H2]; · iexact H2
  isplitl [H3]; · iexact H3
  iapply (post_out T0 T1 hE m ρ c t); iexact H4

/-- The obligation at every point. -/
theorem obligation (c : Dev nD) : BodyObligation (data T0 T1 hE m ρ 0 c) (defs₀ (F := F)) Variants.none () Set.univ := fun t => by
  rw [bigSep_W0]
  exact point T0 T1 hE m ρ c t

end Cert.Proof.Moe

end
-- ==== Proof.MoeLaunch.lean ====
/-
The launch of the expert feed-forward kernel: it ends, keeps its arguments, leaves every
counter at zero, and its output array is what the pipeline writes back point by point.
-/
module

public import proofs.«01_k».proof.Proof.MoeRun

@[expose] public section

set_option maxRecDepth 16384
set_option Elab.async false

noncomputable section

namespace Cert.Proof.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (T0 T1 : S31.Idx → BitVec 32) (hE : ∀ x, (T0 x).toNat < 8)
variable (m : (ℓ : Loc nD τ sig) → Buf (Elt F) ℓ) (ρ : Dev nD → PrngReg)

/-- The launch memory holds the two tables. -/
def Holds : Prop :=
  (∀ c : Dev nD, m ((c : Thread nD τ).loc main_arg0) = T0) ∧ (∀ c : Dev nD, m ((c : Thread nD τ).loc main_arg1) = T1)

/-- What the launch hands the staging cells. -/
def start : UR sig nD τ :=
  initOf (Pipeline.cells (pcsT (F := F) T0 T1 hE) ((launch0 (F := F)).cellOf_inj fun _ => admitted T0 T1 hE))
    (Pipeline.launchToks (pcsT (F := F) T0 T1 hE) ((launch0 (F := F)).cellOf_inj fun _ => admitted T0 T1 hE))

theorem share_full (c : Dev nD) (w) : (data T0 T1 hE m ρ 0 c).share w = fullShare := by unfold Dat.share; split <;> rfl

/-- The tables as the launch hands them over, one by one. -/
theorem held_eq (c : Dev nD) (q : Fin 2 → PosShare TreeShare) (v : pre0.Contents (Elt F)) :
    (Pipeline.prefHeld (Ix := Unit) (Name := ℕ) (U := UR sig nD τ) (Lvl := ℕ) pre0 c q v : sProp (Mon F))
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The first point's invariant comes from the tables, -/
theorem enter (c : Dev nD) :
    iprop(BI.emp ∗ Pipeline.prefHeld pre0 c (fun _ => fullShare.right) (admitted (F := F) T0 T1 hE).1 ∗ Pipeline.scopedRest spec0 c)
      ⊢ (data T0 T1 hE m ρ 0 c).Φ 0 := by
  rw [held_eq, scopedRest0_eq, show (data T0 T1 hE m ρ 0 c).Φ 0 = inv T0 T1 c from rfl]
  unfold inv
  iintro ⟨-, ⟨HE, HV⟩, -⟩
  isplitl [HE]
  · iexact HE
  iexact HV

/-- and the last point's is let go. -/
theorem leave (c : Dev nD) :
    (data T0 T1 hE m ρ 0 c).Φ (Fin.last (cfgT (F := F) T0 T1 hE).N) ⊢ iprop(BI.emp ∗ Pipeline.scopedRest spec0 c) := by
  rw [scopedRest0_eq, show (data T0 T1 hE m ρ 0 c).Φ (Fin.last (cfgT (F := F) T0 T1 hE).N) = inv T0 T1 c from rfl]
  unfold inv
  iintro ⟨-, -⟩
  isplitr; · iempintro
  iempintro

theorem tables_held (hp : Holds T0 T1 m) (c : Dev nD) (j : Fin 2) :
    m ((c : Thread nD τ).loc (pre0.ref j)) = (admitted (F := F) T0 T1 hE).1 j := by
  fin_cases j
  · exact hp.1 c
  · exact hp.2 c

/-- Every array as the pipeline computes it, every table as it was. -/
def Ends : PUnit × MemSt nD τ sig (Elt F) → Prop := fun r =>
  ∀ c : Dev nD, (∀ w : Fin (cfgT (F := F) T0 T1 hE).W,
      r.2.mem (((cfgT (F := F) T0 T1 hE).win w).arr.view.loc (c : Thread nD τ)) = (data T0 T1 hE m ρ 0 c).arrAt w (cfgT (F := F) T0 T1 hE).N)
    ∧ ∀ j, r.2.mem ((c : Thread nD τ).loc (pre0.ref j)) = (admitted (F := F) T0 T1 hE).1 j

set_option backward.isDefEq.respectTransparency.types false in
set_option maxHeartbeats 4000000 in
/-- The launch runs to its end, from any memory that holds the tables. -/
theorem run_all (hp : Holds T0 T1 m) :
    θ_run (defs (F := F)) (onTc (τ := τ) (main (F := F))) (s₀ m ρ) (fun r => Ends T0 T1 hE m ρ r ∧ r.2.sem = fun _ => 0) :=
  Pipeline.θ_run_region_noSem_pf_quiescent pcfgs (fun _ => admitted T0 T1 hE) (data T0 T1 hE m ρ) ()
    ((launch0 (F := F)).cellOf_inj fun _ => admitted T0 T1 hE) (0 : Fin 1)
    (launch0 (F := F)).win.to₀ (launch0 (F := F)).pre emb₁ defs₀ Variants.none m ρ main
    (hbody := fun c => (obligation T0 T1 hE m ρ c).loose) (hne := (launch0 (F := F)).block_pos)
    (harr := (launch0 (F := F)).arr_whole) (hstage := (launch0 (F := F)).stage_whole) (howed := fun _ _ => rfl)
    (u₀ := start (F := F) T0 T1 hE) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcsT (F := F) T0 T1 hE) (data T0 T1 hE m ρ) 0 (launch0 (F := F)).win.arr_inj c
      (launch0 (F := F)).arr_whole (share_full T0 T1 hE m ρ c) _ _ fun _ => rfl)
    (hpf := tables_held T0 T1 hE m hp)
    (X := fun _ => iprop(emp)) (Y := fun _ => iprop(emp)) (Z := fun _ => iprop(emp))
    (hX := fun c => by rw [unscopedRestP0_eq]; iintro -; isplitr <;> iempintro)
    (hin := enter T0 T1 hE m ρ)
    (hout := leave T0 T1 hE m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- After a launch the arguments are as they were. -/
theorem kept (hp : Holds T0 T1 m) (r : PUnit × MemSt nD τ sig (Elt F)) (h : Ends T0 T1 hE m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨((h c).2 0).trans (hp.1 c).symm, ((h c).2 1).trans (hp.2 c).symm,
    ((h c).1 (0 : Fin 5)).trans ((data T0 T1 hE m ρ 0 c).arrAt_in (0 : Fin 5) rfl _),
    ((h c).1 (1 : Fin 5)).trans ((data T0 T1 hE m ρ 0 c).arrAt_in (1 : Fin 5) rfl _),
    ((h c).1 (2 : Fin 5)).trans ((data T0 T1 hE m ρ 0 c).arrAt_in (2 : Fin 5) rfl _),
    ((h c).1 (3 : Fin 5)).trans ((data T0 T1 hE m ρ 0 c).arrAt_in (3 : Fin 5) rfl _)⟩

/-- What a frame claim asks, from any memory whose experts are among the eight. -/
theorem frame_run (hE' : ∀ (c : Dev nD) (x : S31.Idx), (show BitVec 32 from m ((c.tc : Thread nD τ).loc main_arg0) x).toNat < 8) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  have hp : Holds (m (((0 : Dev nD) : Thread nD τ).loc main_arg0)) (m (((0 : Dev nD) : Thread nD τ).loc main_arg1)) m :=
    ⟨fun c => by rw [Subsingleton.elim c 0], fun c => by rw [Subsingleton.elim c 0]⟩
  exact (θ_run defs _ _).mono (fun r h => ⟨fun c => kept _ _ (hE' 0) m ρ hp r h.1 c, h.2⟩) (run_all _ _ (hE' 0) m ρ hp)

end Cert.Proof.Moe

end
-- ==== Proof.RefBand.lean ====
module
public import proofs.«01_k».proof.Proof.Gen.ReferenceIdeal.Read
public import Idealize.ShloMosaic.Lib.Routing.OpsPair
public import Idealize.ShloMosaic.Lib.Pointwise
set_option maxRecDepth 16384
@[expose] public noncomputable section
open Idealize.ShloMosaic Idealize.ShloMosaic.TcCoe Idealize.SL.Sem
namespace Cert.ReferenceIdeal.Band
open Cert.ReferenceIdeal Cert.ReferenceIdeal.Read

variable (Z : S9216x8192.Idx → EReal)

/-- The queries, as the reference cuts them out of the projection. -/
theorem q_at (b : Fin 2) (t : Fin 4096) (h : Fin 8) (d : Fin 128) :
    val_main_v3 (F := Ideal) Z (ix4 b t h d) = Z (ix2 ⟨b.val * 4096 + t.val, by omega⟩ ⟨h.val * 128 + d.val, by omega⟩) := by
  rw [val_main_v3_apply, val_main_v2_apply, val_main_v1_apply, val_main_v0_apply]
  have hb := b.isLt; have ht := t.isLt; have hh := h.isLt; have hd := d.isLt
  refine congrArg Z (funext fun a => ?_)
  match a with
  | ⟨0, _⟩ => exact Fin.ext (by show _ = b.val * 4096 + t.val; dsimp only [idx_main_v0, idx_main_v1, idx_main_v2, idx_main_v3, ix4_0, ix4_1, ix4_2, ix4_3]; omega)
  | ⟨1, _⟩ => exact Fin.ext (by show _ = h.val * 128 + d.val; dsimp only [idx_main_v0, idx_main_v1, idx_main_v2, idx_main_v3, ix4_0, ix4_1, ix4_2, ix4_3]; omega)

/-- The keys. -/
theorem k_at (b : Fin 2) (t : Fin 4096) (h : Fin 8) (d : Fin 128) :
    val_main_v5 (F := Ideal) Z (ix4 b t h d) = Z (ix2 ⟨b.val * 4096 + t.val, by omega⟩ ⟨1024 + (h.val * 128 + d.val), by omega⟩) := by
  rw [val_main_v5_apply, val_main_v4_apply, val_main_v1_apply, val_main_v0_apply]
  have hb := b.isLt; have ht := t.isLt; have hh := h.isLt; have hd := d.isLt
  refine congrArg Z (funext fun a => ?_)
  match a with
  | ⟨0, _⟩ => exact Fin.ext (by show _ = b.val * 4096 + t.val; dsimp only [idx_main_v0, idx_main_v1, idx_main_v4, idx_main_v5, ix4_0, ix4_1, ix4_2, ix4_3]; omega)
  | ⟨1, _⟩ => exact Fin.ext (by show _ = 1024 + (h.val * 128 + d.val); dsimp only [idx_main_v0, idx_main_v1, idx_main_v4, idx_main_v5, ix4_0, ix4_1, ix4_2, ix4_3]; omega)

/-- The values. -/
theorem v_at (b : Fin 2) (t : Fin 4096) (h : Fin 8) (d : Fin 128) :
    val_main_v7 (F := Ideal) Z (ix4 b t h d) = Z (ix2 ⟨b.val * 4096 + t.val, by omega⟩ ⟨2048 + (h.val * 128 + d.val), by omega⟩) := by
  rw [val_main_v7_apply, val_main_v6_apply, val_main_v1_apply, val_main_v0_apply]
  have hb := b.isLt; have ht := t.isLt; have hh := h.isLt; have hd := d.isLt
  refine congrArg Z (funext fun a => ?_)
  match a with
  | ⟨0, _⟩ => exact Fin.ext (by show _ = b.val * 4096 + t.val; dsimp only [idx_main_v0, idx_main_v1, idx_main_v6, idx_main_v7, ix4_0, ix4_1, ix4_2, ix4_3]; omega)
  | ⟨1, _⟩ => exact Fin.ext (by show _ = 2048 + (h.val * 128 + d.val); dsimp only [idx_main_v0, idx_main_v1, idx_main_v6, idx_main_v7, ix4_0, ix4_1, ix4_2, ix4_3]; omega)

/-- Behind the 512 rows of padding, row `t` of the padded array is row `t - 512`. -/
theorem pad_at (P : S2x512x8x128.Idx → EReal) (Q : S2x4096x8x128.Idx → EReal) (hc) (b : Fin 2) (t : Fin 4608) (ht : 512 ≤ t.val) (h : Fin 8) (d : Fin 128) :
    concatenate S2x4608x8x128 1 [⟨S2x512x8x128, P⟩, ⟨S2x4096x8x128, Q⟩] hc (ix4 b t h d) = Q (ix4 b ⟨t.val - 512, by omega⟩ h d) := by
  pointwise
  rw [dif_neg (by omega)]

section Gather
variable {sh si t : Shape} (d : GatherDims sh si t)

/-- The operand's coordinate on a kept axis: the result's coordinate on the offset axis in its position. -/
theorem offCoord_val (j : t.Idx) (a : Fin sh.rank) (ha : a ∈ d.sKept) (k : Fin t.rank) (hk : d.offsetDims[d.sKept.idxOf a]? = some k) :
    d.offCoord j a = (j k).val := by
  unfold GatherDims.offCoord
  rw [dif_pos ha]
  have hl : d.sKept.idxOf a < d.offsetDims.length := by rw [d.offset_length]; exact List.idxOf_lt_length_iff.2 ha
  rw [List.getElem?_eq_getElem hl] at hk
  rw [Option.some.inj hk]

/-- The start index read by result index `j`, on a batch axis: the result's coordinate on the batch axis in its position. -/
theorem siIdx_val (j : t.Idx) (c) (b : Fin si.rank) (hb : b.val ≠ d.indexVectorDim) (k : Fin t.rank)
    (hk : d.batchDims[d.siKept.idxOf b]? = some k) : (d.siIdx j c b).val = (j k).val := by
  unfold GatherDims.siIdx
  rw [dif_neg hb]
  unfold GatherDims.siCoord
  have hm : b ∈ d.siKept := List.mem_filter.2 ⟨List.mem_finRange b, by simpa using hb⟩
  have hl : d.siKept.idxOf b < d.batchDims.length := by rw [d.batch_length]; exact List.idxOf_lt_length_iff.2 hm
  rw [List.getElem?_eq_getElem hl] at hk
  simp only [Fin.val_cast]
  rw [Option.some.inj hk]

end Gather

/-- The dimension numbers of the two gathers along the blocks, and of the gather from the table of biases. -/
abbrev dBlocks := gather_S2x72x64x8x128_S64x9x1_S2x64x9x64x8x128_0345_1_n_n_1_2_21648128
abbrev dBias := gather_S513x8_S64x576x1_S64x576x8_2_0_n_n_0_2_18

/-- The two band gathers read block `n + p` for block `p` of the band of block `n`. -/
theorem band_gather (x : S2x72x64x8x128.Idx → EReal) (idx : IVec S64x9x1 32)
    (hidx : ∀ (n : Fin 64) (p : Fin 9), idx (ix3 n p 0) = BitVec.ofNat 32 (n.val + p.val))
    (b : Fin 2) (n : Fin 64) (p : Fin 9) (s : Fin 64) (h : Fin 8) (d : Fin 128) :
    Host.gather dBlocks x idx (ix6 b n p s h d) = x (ix5 b ⟨n.val + p.val, by omega⟩ s h d) := by
  unfold Host.gather
  refine congrArg x (funext fun a => Fin.ext ?_)
  match a with
  | ⟨0, _⟩ =>
    show dBlocks.start _ _ 0 + dBlocks.batchCoord _ 0 + dBlocks.offCoord _ 0 = _
    rw [dBlocks.batchCoord_eq_zero _ _ List.not_mem_nil, GatherDims.start, dif_neg (by decide), offCoord_val dBlocks _ 0 (by decide) 0 (by decide)]
    exact Nat.zero_add _
  | ⟨1, _⟩ =>
    show dBlocks.start _ _ 1 + dBlocks.batchCoord _ 1 + dBlocks.offCoord _ 1 = n.val + p.val
    rw [dBlocks.batchCoord_eq_zero _ _ List.not_mem_nil, GatherDims.start, dif_pos (by decide), GatherDims.offCoord_eq_zero _ _ _ (by decide)]
    have e : dBlocks.siIdx (ix6 b n p s h d) ⟨0, by decide⟩ = ix3 n p 0 := by
      funext c
      match c with
      | ⟨0, _⟩ => exact Fin.ext (siIdx_val dBlocks _ _ 0 (by decide) 1 (by decide))
      | ⟨1, _⟩ => exact Fin.ext (siIdx_val dBlocks _ _ 1 (by decide) 2 (by decide))
      | ⟨2, _⟩ => exact Fin.ext rfl
    have e' : min (idx (dBlocks.siIdx (ix6 b n p s h d) ⟨0, by decide⟩)).toInt.toNat 71 = n.val + p.val := by
      rw [e, hidx, StableHlo.Predicate.toInt_ofNat_small _ (by omega)]
      omega
    exact e'
  | ⟨2, _⟩ =>
    show dBlocks.start _ _ 2 + dBlocks.batchCoord _ 2 + dBlocks.offCoord _ 2 = _
    rw [dBlocks.batchCoord_eq_zero _ _ List.not_mem_nil, GatherDims.start, dif_neg (by decide), offCoord_val dBlocks _ 2 (by decide) 3 (by decide)]
    exact Nat.zero_add _
  | ⟨3, _⟩ =>
    show dBlocks.start _ _ 3 + dBlocks.batchCoord _ 3 + dBlocks.offCoord _ 3 = _
    rw [dBlocks.batchCoord_eq_zero _ _ List.not_mem_nil, GatherDims.start, dif_neg (by decide), offCoord_val dBlocks _ 3 (by decide) 4 (by decide)]
    exact Nat.zero_add _
  | ⟨4, _⟩ =>
    show dBlocks.start _ _ 4 + dBlocks.batchCoord _ 4 + dBlocks.offCoord _ 4 = _
    rw [dBlocks.batchCoord_eq_zero _ _ List.not_mem_nil, GatherDims.start, dif_neg (by decide), offCoord_val dBlocks _ 4 (by decide) 5 (by decide)]
    exact Nat.zero_add _

/-- The gather from the table of biases reads the row the index names. -/
theorem bias_gather (x : S513x8.Idx → EReal) (idx : IVec S64x576x1 32) (q : Fin 64) (k : Fin 576) (r : Fin 513)
    (hidx : idx (ix3 q k 0) = BitVec.ofNat 32 r.val) (h : Fin 8) :
    Host.gather dBias x idx (ix3 q k h) = x (ix2 r h) := by
  unfold Host.gather
  refine congrArg x (funext fun a => Fin.ext ?_)
  match a with
  | ⟨0, _⟩ =>
    show dBias.start _ _ 0 + dBias.batchCoord _ 0 + dBias.offCoord _ 0 = r.val
    rw [dBias.batchCoord_eq_zero _ _ List.not_mem_nil, GatherDims.start, dif_pos (by decide), GatherDims.offCoord_eq_zero _ _ _ (by decide)]
    have e : dBias.siIdx (ix3 q k h) ⟨0, by decide⟩ = ix3 q k 0 := by
      funext c
      match c with
      | ⟨0, _⟩ => exact Fin.ext (siIdx_val dBias _ _ 0 (by decide) 0 (by decide))
      | ⟨1, _⟩ => exact Fin.ext (siIdx_val dBias _ _ 1 (by decide) 1 (by decide))
      | ⟨2, _⟩ => exact Fin.ext rfl
    have e' : min (idx (dBias.siIdx (ix3 q k h) ⟨0, by decide⟩)).toInt.toNat 512 = r.val := by
      rw [e, hidx, StableHlo.Predicate.toInt_ofNat_small _ (by omega)]
      omega
    exact e'
  | ⟨1, _⟩ =>
    show dBias.start _ _ 1 + dBias.batchCoord _ 1 + dBias.offCoord _ 1 = _
    rw [dBias.batchCoord_eq_zero _ _ List.not_mem_nil, GatherDims.start, dif_neg (by decide), offCoord_val dBias _ 1 (by decide) 2 (by decide)]
    exact Nat.zero_add _

/-- The block an entry of a band lies in. -/
theorem block_word (n : Fin 64) (p : Fin 9) : val_main_v25 (F := Ideal) (ix3 n p 0) = BitVec.ofNat 32 (n.val + p.val) := by
  have e : val_main_v19 (F := Ideal) (ix2 n p) = BitVec.ofNat 32 (n.val + p.val) := by
    show BitVec.ofNat 32 n.val + BitVec.ofNat 32 p.val = _
    exact (BitVec.ofNat_add ..).symm
  have w : Scalar.select (IntOp.cmpi .slt (val_main_v19 (F := Ideal) (ix2 n p)) 0#32) (val_main_v23 (F := Ideal) (ix2 n p)) (val_main_v19 (F := Ideal) (ix2 n p))
      = val_main_v19 (F := Ideal) (ix2 n p) := Routing.wrap_of_lt _ _ (by rw [e, BitVec.toNat_ofNat]; omega)
  rw [← e, ← w, val_main_v25_apply]
  rfl

/-- The block an entry of a band lies in, as the values are gathered. -/
theorem block_word' (n : Fin 64) (p : Fin 9) : val_main_v33 (F := Ideal) (ix3 n p 0) = BitVec.ofNat 32 (n.val + p.val) := by
  have e : val_main_v19 (F := Ideal) (ix2 n p) = BitVec.ofNat 32 (n.val + p.val) := by
    show BitVec.ofNat 32 n.val + BitVec.ofNat 32 p.val = _
    exact (BitVec.ofNat_add ..).symm
  have w : Scalar.select (IntOp.cmpi .slt (val_main_v19 (F := Ideal) (ix2 n p)) 0#32) (val_main_v31 (F := Ideal) (ix2 n p)) (val_main_v19 (F := Ideal) (ix2 n p))
      = val_main_v19 (F := Ideal) (ix2 n p) := Routing.wrap_of_lt _ _ (by rw [e, BitVec.toNat_ofNat]; omega)
  rw [← e, ← w, val_main_v33_apply]
  rfl

/-- A reshape that splits 72 blocks of 64 rows off the padded rows. -/
theorem blocks_at (x : S2x4608x8x128.Idx → EReal) (hc) (b : Fin 2) (g : Fin 72) (s : Fin 64) (h : Fin 8) (d : Fin 128) :
    shapeCast S2x72x64x8x128 x hc (ix5 b g s h d) = x (ix4 b ⟨g.val * 64 + s.val, by omega⟩ h d) := by
  refine shapeCast_apply x hc _ _ ?_
  rw [Shape.rowMajor_val_four, Shape.rowMajor_val_five]
  show ((b.val * 4608 + (g.val * 64 + s.val)) * 8 + h.val) * 128 + d.val = (((b.val * 72 + g.val) * 64 + s.val) * 8 + h.val) * 128 + d.val
  omega

/-- A reshape that lays the nine blocks of a band one behind another. -/
theorem band_at (x : S2x64x9x64x8x128.Idx → EReal) (hc) (b : Fin 2) (n : Fin 64) (k : Fin 576) (h : Fin 8) (d : Fin 128) :
    shapeCast S2x64x576x8x128 x hc (ix5 b n k h d) = x (ix6 b n ⟨k.val / 64, by omega⟩ ⟨k.val % 64, by omega⟩ h d) := by
  refine shapeCast_apply x hc _ _ ?_
  rw [Shape.rowMajor_val_five, Shape.rowMajor_val_six]
  show ((((b.val * 64 + n.val) * 9 + k.val / 64) * 64 + k.val % 64) * 8 + h.val) * 128 + d.val
    = (((b.val * 64 + n.val) * 576 + k.val) * 8 + h.val) * 128 + d.val
  omega

/-- The keys of a band, where the band lies inside the sequence. -/
theorem kband_at (b : Fin 2) (n : Fin 64) (k : Fin 576) (h : Fin 8) (d : Fin 128) (hk : 512 ≤ n.val * 64 + k.val) :
    val_main_v27 (F := Ideal) Z (ix5 b n k h d)
      = Z (ix2 ⟨b.val * 4096 + (n.val * 64 + k.val - 512), by omega⟩ ⟨1024 + (h.val * 128 + d.val), by omega⟩) := by
  unfold val_main_v27 val_main_v26
  rw [band_at, band_gather _ _ block_word]
  unfold val_main_v10
  rw [blocks_at]
  unfold val_main_v9
  rw [pad_at _ _ _ _ _ (by show 512 ≤ (n.val + k.val / 64) * 64 + k.val % 64; omega), k_at]
  refine congrArg Z (congrArg (fun r => ix2 r _) (Fin.ext ?_))
  show b.val * 4096 + ((n.val + k.val / 64) * 64 + k.val % 64 - 512) = b.val * 4096 + (n.val * 64 + k.val - 512)
  omega

/-- The values of a band, where the band lies inside the sequence. -/
theorem vband_at (b : Fin 2) (n : Fin 64) (k : Fin 576) (h : Fin 8) (d : Fin 128) (hk : 512 ≤ n.val * 64 + k.val) :
    val_main_v35 (F := Ideal) Z (ix5 b n k h d)
      = Z (ix2 ⟨b.val * 4096 + (n.val * 64 + k.val - 512), by omega⟩ ⟨2048 + (h.val * 128 + d.val), by omega⟩) := by
  unfold val_main_v35 val_main_v34
  rw [band_at, band_gather _ _ block_word']
  unfold val_main_v12
  rw [blocks_at]
  unfold val_main_v11
  rw [pad_at _ _ _ _ _ (by show 512 ≤ (n.val + k.val / 64) * 64 + k.val % 64; omega), v_at]
  refine congrArg Z (congrArg (fun r => ix2 r _) (Fin.ext ?_))
  show b.val * 4096 + ((n.val + k.val / 64) * 64 + k.val % 64 - 512) = b.val * 4096 + (n.val * 64 + k.val - 512)
  omega

/-- The queries of a block. -/
theorem qblock_at (b : Fin 2) (n : Fin 64) (q : Fin 64) (h : Fin 8) (d : Fin 128) :
    val_main_v36 (F := Ideal) Z (ix5 b n q h d)
      = Z (ix2 ⟨b.val * 4096 + (n.val * 64 + q.val), by omega⟩ ⟨h.val * 128 + d.val, by omega⟩) := by
  have e : val_main_v36 (F := Ideal) Z (ix5 b n q h d) = val_main_v3 (F := Ideal) Z (ix4 b ⟨n.val * 64 + q.val, by omega⟩ h d) := by
    unfold val_main_v36
    refine shapeCast_apply _ _ _ _ ?_
    rw [Shape.rowMajor_val_four, Shape.rowMajor_val_five]
    show ((b.val * 4096 + (n.val * 64 + q.val)) * 8 + h.val) * 128 + d.val = (((b.val * 64 + n.val) * 64 + q.val) * 8 + h.val) * 128 + d.val
    omega
  rw [e, q_at]

end Cert.ReferenceIdeal.Band
-- ==== Proof.RefWords.lean ====
module
public import proofs.«01_k».proof.Proof.RefBand
set_option maxRecDepth 16384

@[expose] public noncomputable section
open Idealize.ShloMosaic Idealize.ShloMosaic.TcCoe Idealize.SL.Sem
open Cert.ReferenceIdeal Cert.ReferenceIdeal.Read
namespace Cert.ReferenceIdeal.Band

/-- The distance from a query to a key, as the reference's words hold it. -/
theorem dist_toInt (q : Fin 64) (k : Fin 576) :
    ((512#32 + BitVec.ofNat 32 q.val) - BitVec.ofNat 32 k.val).toInt = 512 + (q.val : ℤ) - k.val := by
  have hq := q.isLt
  have hk := k.isLt
  rw [BitVec.toInt_sub, BitVec.toInt_add, show (512#32 : BitVec 32).toInt = 512 from by decide,
    StableHlo.Predicate.toInt_ofNat_small q.val (by omega), StableHlo.Predicate.toInt_ofNat_small k.val (by omega)]
  rw [Int.bmod_def, Int.bmod_def]
  omega

/-- A distance clipped to the table's reach and shifted is a row of the table. -/
theorem clip_word (w : BitVec 32) (q k : ℕ) (hq : q < 64) (hk : k < 576) (hw : w.toInt = 512 + (q : ℤ) - k) :
    IntOp.minsi 256#32 (IntOp.maxsi 4294967040#32 w) + 256#32 = BitVec.ofNat 32 (512 - (k - (q + 256))) := by
  have e1 : IntOp.maxsi 4294967040#32 w = w := by
    unfold IntOp.maxsi
    rw [BitVec.slt_eq_decide, hw, show (4294967040#32 : BitVec 32).toInt = -256 from by decide]
    split
    · rename_i h; simp only [decide_eq_true_eq] at h; omega
    · rfl
  rw [e1]
  unfold IntOp.minsi
  rw [BitVec.slt_eq_decide, hw, show (256#32 : BitVec 32).toInt = 256 from by decide]
  refine BitVec.eq_of_toInt_eq ?_
  rw [BitVec.toInt_add, StableHlo.Predicate.toInt_ofNat_small (512 - (k - (q + 256))) (by omega), show (256#32 : BitVec 32).toInt = 256 from by decide, Int.bmod_def]
  split
  · rename_i h; simp only [decide_eq_true_eq] at h
    rw [show (256#32 : BitVec 32).toInt = 256 from by decide]; omega
  · rename_i h; simp only [decide_eq_true_eq] at h
    rw [hw]; omega

/-- The row of the table a query and a key take their bias from. -/
theorem row_word (q : Fin 64) (k : Fin 576) :
    val_main_v57 (F := Ideal) (ix3 q k 0) = BitVec.ofNat 32 (512 - (k.val - (q.val + 256))) := by
  have hq := q.isLt
  have hk := k.isLt
  have e : val_main_v51 (F := Ideal) (ix2 q k) = BitVec.ofNat 32 (512 - (k.val - (q.val + 256))) :=
    clip_word _ q.val k.val hq hk (dist_toInt q k)
  have w : Scalar.select (IntOp.cmpi .slt (val_main_v51 (F := Ideal) (ix2 q k)) 0#32) (val_main_v55 (F := Ideal) (ix2 q k)) (val_main_v51 (F := Ideal) (ix2 q k))
      = val_main_v51 (F := Ideal) (ix2 q k) := Routing.wrap_of_lt _ _ (by rw [e, BitVec.toNat_ofNat]; omega)
  rw [← e, ← w, val_main_v57_apply]
  rfl

/-- A key of a band is masked when it lies before the sequence. -/
theorem mask_word (n : Fin 64) (k : Fin 576) :
    val_main_v75 (F := Ideal) (ix2 n k) = BitVec.ofBool (decide (512 ≤ n.val * 64 + k.val)) := by
  have hn := n.isLt
  have hk := k.isLt
  have e : ((BitVec.ofNat 32 n.val - 8#32) * 64#32 + BitVec.ofNat 32 k.val).toInt = (n.val * 64 + k.val : ℤ) - 512 := by
    rw [BitVec.toInt_add, BitVec.toInt_mul, BitVec.toInt_sub, StableHlo.Predicate.toInt_ofNat_small n.val (by omega), StableHlo.Predicate.toInt_ofNat_small k.val (by omega),
      show (8#32 : BitVec 32).toInt = 8 from by decide, show (64#32 : BitVec 32).toInt = 64 from by decide]
    rw [Int.bmod_def, Int.bmod_def, Int.bmod_def]
    omega
  show BitVec.ofBool (BitVec.sle 0#32 ((BitVec.ofNat 32 n.val - 8#32) * 64#32 + BitVec.ofNat 32 k.val)) = _
  rw [BitVec.sle_eq_decide, e]
  refine congrArg BitVec.ofBool (decide_eq_decide.2 ?_)
  rw [show (0#32 : BitVec 32).toInt = 0 from by decide]
  omega

end Cert.ReferenceIdeal.Band
-- ==== Proof.Softmax.lean ====
module
public import Idealize.ShloMosaic.PureOps.Ideal.Laws

@[expose] public noncomputable section
open Idealize.ShloMosaic
namespace Cert.Band

/-- The greatest of finitely many scores (`⊥` of none). -/
def top {n : ℕ} (s : Fin n → EReal) : EReal := Finset.univ.fold max ⊥ s

/-- The exponentials' sum, the scores shifted by the greatest of them. -/
def mass {n : ℕ} (s : Fin n → EReal) : EReal := ∑ l, Ideal.exp (s l - top s)

/-- The values `v` weighted by the softmax of the scores `s`. -/
def soft {n : ℕ} (s v : Fin n → EReal) : EReal := ∑ k, Ideal.div (Ideal.exp (s k - top s)) (mass s) * v k

theorem top_eq_sup {n : ℕ} (s : Fin n → EReal) : top s = Finset.univ.sup s := rfl

theorem exp_nonneg (x : EReal) : 0 ≤ Ideal.exp x := by
  induction x using EReal.rec with
  | bot => exact le_refl _
  | top => exact le_top
  | coe r => exact EReal.coe_nonneg.2 (Real.exp_pos r).le

theorem exp_coe_ne_zero (r : ℝ) : Ideal.exp (r : EReal) ≠ 0 := fun h =>
  (Real.exp_pos r).ne' (EReal.coe_eq_zero.1 h)

theorem exp_bot_sub (x : EReal) : Ideal.exp (⊥ - x) = 0 := by
  rw [sub_eq_add_neg, EReal.bot_add]; rfl

/-- Scores none of which is `⊤`, one of which is a number, have exponentials whose sum is not zero. -/
theorem mass_ne_zero {n : ℕ} (s : Fin n → EReal) (ht : ∀ k, s k ≠ ⊤) (k : Fin n) (hk : s k ≠ ⊥) : mass s ≠ 0 := by
  intro h
  have h0 := (Finset.sum_eq_zero_iff_of_nonneg (fun l _ => exp_nonneg (s l - top s))).1 h k (Finset.mem_univ k)
  have hT : top s ≠ ⊤ := by
    rw [top_eq_sup]
    exact ((Finset.sup_lt_iff (bot_lt_top)).2 fun l _ => lt_top_iff_ne_top.2 (ht l)).ne
  have hB : top s ≠ ⊥ := by
    intro e
    have : s k ≤ top s := by rw [top_eq_sup]; exact Finset.le_sup (Finset.mem_univ k)
    rw [e] at this
    exact hk (le_bot_iff.1 this)
  lift s k to ℝ using ⟨ht k, hk⟩ with a
  lift top s to ℝ using ⟨hT, hB⟩ with b
  rw [← EReal.coe_sub] at h0
  exact exp_coe_ne_zero _ h0

/-- A window of the columns carries the whole softmax: if the scores `S` are `⊥` outside the `n` columns from `o` and there they are
    `s`, and the values agree wherever the score is not `⊥`, then the two weighted sums are equal. -/
theorem soft_window {n N : ℕ} (s v : Fin n → EReal) (S V : Fin N → EReal) (o : ℕ) (ho : o + n ≤ N)
    (hs : ∀ k : Fin n, S ⟨o + k, by omega⟩ = s k) (hv : ∀ k : Fin n, s k ≠ ⊥ → V ⟨o + k, by omega⟩ = v k)
    (hout : ∀ j : Fin N, ¬ (o ≤ (j : ℕ) ∧ (j : ℕ) < o + n) → S j = ⊥) (hm : mass s ≠ 0) : soft S V = soft s v := by
  have hin : Function.Injective (fun k : Fin n => (⟨o + k, by omega⟩ : Fin N)) := fun a b h => by
    have := Fin.mk.inj_iff.1 h; exact Fin.ext (by omega)
  have hrest : ∀ F : Fin N → EReal, (∀ j, S j = ⊥ → F j = 0) → ∑ j, F j = ∑ k : Fin n, F ⟨o + k, by omega⟩ := by
    intro F hF
    refine (Finset.sum_of_injOn (fun k : Fin n => (⟨o + k, by omega⟩ : Fin N)) hin.injOn (fun _ _ => Finset.mem_coe.2 (Finset.mem_univ _)) ?_ fun _ _ => rfl).symm
    intro j _ hj
    refine hF j (hout j fun h => hj ?_)
    exact ⟨⟨j - o, by omega⟩, Finset.mem_coe.2 (Finset.mem_univ _), Fin.ext (by show o + (j - o) = (j : ℕ); omega)⟩
  have ht : top S = top s := by
    rw [top_eq_sup, top_eq_sup]
    refine le_antisymm (Finset.sup_le fun j _ => ?_) (Finset.sup_le fun k _ => ?_)
    · by_cases h : o ≤ (j : ℕ) ∧ (j : ℕ) < o + n
      · have e : j = ⟨o + ((⟨j - o, by omega⟩ : Fin n) : ℕ), by show o + (j - o) < N; omega⟩ := Fin.ext (by show (j : ℕ) = o + (j - o); omega)
        rw [e, hs]; exact Finset.le_sup (Finset.mem_univ _)
      · rw [hout j h]; exact bot_le
    · rw [← hs]; exact Finset.le_sup (Finset.mem_univ _)
  have hM : mass S = mass s := by
    unfold mass
    rw [hrest _ fun j hj => by rw [hj, exp_bot_sub], ht]
    exact Finset.sum_congr rfl fun k _ => by rw [hs]
  have hz : ∀ w, Ideal.div 0 (mass s) * w = 0 := fun w => by rw [Ideal.div, if_neg hm, zero_mul, zero_mul]
  unfold soft
  rw [hrest _ fun j hj => by rw [hj, exp_bot_sub, hM, hz], ht, hM]
  refine Finset.sum_congr rfl fun k _ => ?_
  rw [hs]
  by_cases h : s k = ⊥
  · rw [h, exp_bot_sub, hz, hz]
  · rw [hv k h]

end Cert.Band
end
-- ==== Proof.RefValue.lean ====
module
public import proofs.«01_k».proof.Proof.RefWords
public import proofs.«01_k».proof.Proof.Softmax
set_option maxRecDepth 16384

@[expose] public noncomputable section
open Idealize.ShloMosaic Idealize.ShloMosaic.TcCoe Idealize.SL.Sem
open Cert.ReferenceIdeal Cert.ReferenceIdeal.Read
namespace Cert.ReferenceIdeal.Band

variable (Z : S9216x8192.Idx → EReal) (T : S513x8.Idx → EReal)

/-- The score of a query and a key of its band. -/
def bscore (b : Fin 2) (n : Fin 64) (h : Fin 8) (q : Fin 64) (k : Fin 576) : EReal :=
  if 512 ≤ n.val * 64 + k.val then
    (∑ x : Fin 128, Z (ix2 ⟨b.val * 4096 + (n.val * 64 + q.val), by omega⟩ ⟨h.val * 128 + x.val, by omega⟩)
        * Z (ix2 ⟨b.val * 4096 + (n.val * 64 + k.val - 512), by omega⟩ ⟨1024 + (h.val * 128 + x.val), by omega⟩)) * Ideal.ofBits .f32 0x3DB504F3#32
      + T (ix2 ⟨512 - (k.val - (q.val + 256)), by omega⟩ h)
  else ⊥

/-- The value of a key of a band, where the band lies inside the sequence. -/
def value (b : Fin 2) (n : Fin 64) (h : Fin 8) (d : Fin 128) (k : Fin 576) : EReal :=
  val_main_v35 (F := Ideal) Z (ix5 b n k h d)

theorem ofBits_neg_inf : Ideal.ofBits .f32 0xFF800000#32 = ⊥ := by
  simp [Ideal.ofBits, Ideal.ieee]

theorem ofBits_zero : Ideal.ofBits .f32 0x00000000#32 = 0 := by
  simp [Ideal.ofBits, Ideal.ieee]

/-- The biases, head by head. -/
theorem bias_at (b : Fin 2) (n : Fin 64) (h : Fin 8) (q : Fin 64) (k : Fin 576) :
    val_main_v61 (F := Ideal) T (ix5 b n h q k) = T (ix2 ⟨512 - (k.val - (q.val + 256)), by omega⟩ h) := by
  have e : idx_main_v59 (idx_main_v60 (idx_main_v61 (ix5 b n h q k))) = ix3 q k h := by
    funext a
    match a with
    | ⟨0, _⟩ => rfl
    | ⟨1, _⟩ => rfl
    | ⟨2, _⟩ => rfl
  rw [val_main_v61_apply, val_main_v60_apply, val_main_v59_apply, e]
  unfold val_main_v58
  exact bias_gather T _ q k ⟨512 - (k.val - (q.val + 256)), by omega⟩ (row_word q k) h

/-- The scores, the keys before the sequence masked. -/
theorem score_at (b : Fin 2) (n : Fin 64) (h : Fin 8) (q : Fin 64) (k : Fin 576) :
    val_main_v77 (F := Ideal) Z T (ix5 b n h q k) = bscore Z T b n h q k := by
  rw [val_main_v77_apply]
  have em : val_main_call1_v1 (F := Ideal) (ix5 b n h q k) = BitVec.ofBool (decide (512 ≤ n.val * 64 + k.val)) := by
    rw [val_main_call1_v1_apply, val_main_v76_apply]
    exact mask_word n k
  rw [em]
  unfold bscore
  by_cases hk : 512 ≤ n.val * 64 + k.val
  · rw [if_pos hk, decide_eq_true hk]
    refine (if_pos rfl).trans ?_
    rw [val_main_v62_apply, bias_at, val_main_v39_apply, val_main_v37_apply]
    refine congrArg (· + _) (congrArg (· * Ideal.ofBits .f32 0x3DB504F3#32) (Finset.sum_congr rfl fun x _ => ?_))
    exact congrArg₂ (· * ·) (qblock_at Z b n q h x) (kband_at Z b n k h x hk)
  · rw [if_neg hk, decide_eq_false hk]
    exact (if_neg (by decide)).trans ofBits_neg_inf

/-- The greatest entry along the keys, as the reference's reduction folds it. -/
theorem max_keys (y : S2x64x8x64x576.Idx → EReal) (z : S_.Idx → EReal)
    (h' : S2x64x8x64x576.ReducesTo [4] S2x64x8x64) (hu : 0 < S_.numel) (hz : z (Shape.Idx.first hu) = ⊥) (b : Fin 2) (n : Fin 64) (h : Fin 8) (q : Fin 64) :
    Host.reduce (FloatOps.maximumf (F := Ideal) (φ := .f32)) y z h' hu (ix4 b n h q)
      = Finset.univ.fold max ⊥ fun k : Fin 576 => y (ix5 b n h q k) := by
  have hr : S2x64x8x64x576.Reduces [4] S2x64x8x64 := by decide
  rw [Host.reduce_eq_fold_single _ _ _ _ hr, hz]
  refine Finset.fold_congr fun k _ => ?_
  refine congrArg y (funext fun a => Fin.ext ?_)
  match a with
  | ⟨0, _⟩ => rfl
  | ⟨1, _⟩ => rfl
  | ⟨2, _⟩ => rfl
  | ⟨3, _⟩ => rfl
  | ⟨4, _⟩ => rfl

/-- The greatest score of a query. -/
theorem top_at (b : Fin 2) (n : Fin 64) (h : Fin 8) (q : Fin 64) :
    val_main_v80 (F := Ideal) Z T (ix4 b n h q) = Band.top (bscore Z T b n h q) := by
  have e : val_main_v78 (F := Ideal) Z T (ix4 b n h q) = Band.top (bscore Z T b n h q) := by
    unfold val_main_v78 Band.top
    rw [max_keys _ _ _ _ ofBits_neg_inf]
    exact Finset.fold_congr fun k _ => score_at Z T b n h q k
  rw [val_main_v80_apply, e, val_main_v79_apply]
  exact (congrArg (fun i => max i _) ofBits_neg_inf).trans (max_eq_right bot_le)

/-- The weight of a key, before the sum divides it. -/
theorem weight_at (b : Fin 2) (n : Fin 64) (h : Fin 8) (q : Fin 64) (k : Fin 576) :
    val_main_v84 (F := Ideal) Z T (ix5 b n h q k) = Ideal.exp (bscore Z T b n h q k - Band.top (bscore Z T b n h q)) := by
  have e : idx_main_v81 (idx_main_v82 (ix5 b n h q k)) = ix4 b n h q := by
    funext a
    match a with
    | ⟨0, _⟩ => rfl
    | ⟨1, _⟩ => rfl
    | ⟨2, _⟩ => rfl
    | ⟨3, _⟩ => rfl
  rw [val_main_v84_apply, val_main_v83_apply, score_at, val_main_v82_apply, val_main_v81_apply, e, top_at]
  rfl

/-- The sum of a query's weights. -/
theorem mass_at (b : Fin 2) (n : Fin 64) (h : Fin 8) (q : Fin 64) :
    val_main_v85 (F := Ideal) Z T (ix4 b n h q) = Band.mass (bscore Z T b n h q) := by
  have e (k : Fin 576) : idx_main_v85 (ix4 b n h q) k = ix5 b n h q k := by
    funext a
    match a with
    | ⟨0, _⟩ => rfl
    | ⟨1, _⟩ => rfl
    | ⟨2, _⟩ => rfl
    | ⟨3, _⟩ => rfl
    | ⟨4, _⟩ => rfl
  rw [val_main_v85_apply, val_main_cst_16_apply]
  simp only [e, weight_at]
  refine (congrArg (· + _) ofBits_zero).trans (zero_add _)

/-- A query's weighted sum of its band's values. -/
theorem soft_at (b : Fin 2) (n : Fin 64) (h : Fin 8) (d : Fin 128) (q : Fin 64) :
    val_main_v89 (F := Ideal) Z T (ix5 b n h d q) = Band.soft (bscore Z T b n h q) (value Z b n h d) := by
  have el (k : Fin 576) : lidx_main_v89 (ix5 b n h d q) k = ix5 b n k h d := by
    funext a
    match a with
    | ⟨0, _⟩ => rfl
    | ⟨1, _⟩ => rfl
    | ⟨2, _⟩ => rfl
    | ⟨3, _⟩ => rfl
    | ⟨4, _⟩ => rfl
  have er (k : Fin 576) : ridx_main_v89 (ix5 b n h d q) k = ix5 b n h q k := by
    funext a
    match a with
    | ⟨0, _⟩ => rfl
    | ⟨1, _⟩ => rfl
    | ⟨2, _⟩ => rfl
    | ⟨3, _⟩ => rfl
    | ⟨4, _⟩ => rfl
  have em (k : Fin 576) : idx_main_v86 (idx_main_v87 (ix5 b n h q k)) = ix4 b n h q := by
    funext a
    match a with
    | ⟨0, _⟩ => rfl
    | ⟨1, _⟩ => rfl
    | ⟨2, _⟩ => rfl
    | ⟨3, _⟩ => rfl
  rw [val_main_v89_apply]
  simp only [el, er, val_main_v88_apply, weight_at, val_main_v87_apply, val_main_v86_apply, em, mass_at]
  exact Finset.sum_congr rfl fun k _ => mul_comm _ _

/-- **What the reference computes.** Its row and column are the softmax of the band's scores over the band's values. -/
theorem result_at (R : Fin 8192) (l : Fin 1024) :
    val_main_v92 (F := Ideal) Z T (ix2 R l)
      = Band.soft (bscore Z T ⟨R.val / 4096, by omega⟩ ⟨R.val % 4096 / 64, by omega⟩ ⟨l.val / 128, by omega⟩ ⟨R.val % 64, by omega⟩)
          (value Z ⟨R.val / 4096, by omega⟩ ⟨R.val % 4096 / 64, by omega⟩ ⟨l.val / 128, by omega⟩ ⟨l.val % 128, by omega⟩) := by
  have hR := R.isLt
  have hl := l.isLt
  have e : idx_main_v90 (idx_main_v91 (ix2 R l)) = ix5 (⟨R.val / 4096, by omega⟩ : Fin 2) (⟨R.val % 4096 / 64, by omega⟩ : Fin 64)
      (⟨l.val / 128, by omega⟩ : Fin 8) (⟨l.val % 128, by omega⟩ : Fin 128) (⟨R.val % 64, by omega⟩ : Fin 64) := by
    funext a
    match a with
    | ⟨0, _⟩ => exact Fin.ext (by show _ = R.val / 4096; dsimp only [idx_main_v90, idx_main_v91, ix2_0, ix2_1]; omega)
    | ⟨1, _⟩ => exact Fin.ext (by show _ = R.val % 4096 / 64; dsimp only [idx_main_v90, idx_main_v91, ix2_0, ix2_1]; omega)
    | ⟨2, _⟩ => exact Fin.ext (by show _ = l.val / 128; dsimp only [idx_main_v90, idx_main_v91, ix2_0, ix2_1]; omega)
    | ⟨3, _⟩ => exact Fin.ext (by show _ = l.val % 128; dsimp only [idx_main_v90, idx_main_v91, ix2_0, ix2_1]; omega)
    | ⟨4, _⟩ => exact Fin.ext (by show _ = R.val % 64; dsimp only [idx_main_v90, idx_main_v91, ix2_0, ix2_1]; omega)
  generalize (⟨R.val / 4096, by omega⟩ : Fin 2) = b at e ⊢
  generalize (⟨R.val % 4096 / 64, by omega⟩ : Fin 64) = n at e ⊢
  generalize (⟨l.val / 128, by omega⟩ : Fin 8) = h at e ⊢
  generalize (⟨l.val % 128, by omega⟩ : Fin 128) = d at e ⊢
  generalize (⟨R.val % 64, by omega⟩ : Fin 64) = q at e ⊢
  rw [val_main_v92_apply, val_main_v91_apply, val_main_v90_apply, e]
  exact soft_at Z T b n h d q

end Cert.ReferenceIdeal.Band
-- ==== Proof.HeadBlock.lean ====
module
public import proofs.«01_k».proof.Proof.Gen.KernelIdeal.Value
public import proofs.«01_k».proof.Proof.Softmax
public import Idealize.ShloMosaic.Lib.Pointwise
public import Idealize.ShloMosaic.Lib.Pipeline.ValueKit
public import Idealize.ShloMosaic.PureOps.Ideal.Laws
set_option maxRecDepth 16384
@[expose] public noncomputable section
open Idealize.ShloMosaic Idealize.ShloMosaic.TcCoe Idealize.SL.Sem
open Idealize.ShloMosaic.Pipeline (Dat)
namespace Cert.KernelIdeal.Value
open Cert.KernelIdeal Cert.KernelIdeal.Gen
/-- The contents under a list of stores whose last is a unit rectangle: inside it that store's payload, outside it the earlier stores'. -/
theorem canon_unit_dite {s : Shape} {e : EltTy} {Val : EltTy → Type} [∀ e, Nonempty (Val e)] {off size : Fin s.rank → Nat}
    (inb : ∀ a, off a + size a ≤ s.size a) (w : (Rect.unit off size inb).shape.Idx → Val e) (L : List (View.Piece Val s e)) (y : s.Idx) :
    View.canon (⟨Rect.unit off size inb, w⟩ :: L) y
      = if h : ∀ a, off a ≤ (y a : ℕ) ∧ (y a : ℕ) < off a + size a then w (fun a => ⟨(y a : ℕ) - off a, by have := h a; show (y a : ℕ) - off a < size a; omega⟩)
        else View.canon L y := by
  split_ifs with h
  · refine Eq.trans (congrArg _ ?_) (View.canon_cons_emb _ w L (fun a => ⟨(y a : ℕ) - off a, by have := h a; show (y a : ℕ) - off a < size a; omega⟩))
    funext a
    refine Fin.ext ?_
    show (y a : ℕ) = off a + 1 * ((y a : ℕ) - off a)
    have := h a; omega
  · exact View.canon_cons_of_not_mem _ _ fun hm => h ((Rect.mem_set_unit (inb := inb)).1 hm)

/-- Row `j`, column `l` of three blocks laid one below another. -/
def cat3 {n : ℕ} (a b c : FVec Ideal ⟨2, ![256, n]⟩ .f32) (j : Fin 768) (l : Fin n) : EReal :=
  if h : (j : ℕ) < 256 then a (ix2 ⟨j, h⟩ l) else if h' : (j : ℕ) - 256 < 256 then b (ix2 ⟨j - 256, h'⟩ l) else c (ix2 ⟨j - 256 - 256, by omega⟩ l)

/-- The score of query row `r` against key row `j`: the scaled product plus the bias, or the mask where `keep` is not set. -/
def score (keep : BitVec 1) (p b : EReal) : EReal :=
  Scalar.select keep (p * Ideal.ofBits .f32 0x3DB504F3#32 + b) (Named.named (F := Ideal) κ "mask" (φ := .f32) 0xF149F2CA#32)

/-- Whether key column `j` of grid point `i` is a row of the sequence. -/
def keep (i : grid0.Coords) (j : Fin 768) : BitVec 1 :=
  IntOp.cmpi CmpIPredicate.sge (IntOp.addi (Scalar.subi (Scalar.muli (BitVec.ofNat 32 ↑(i 1)) 256#32) 512#32) (BitVec.ofNat 32 ↑j)) 0#32

/-- What one head of the block stores, from its seven slices and its plane of the bias. -/
def headOp (i : grid0.Coords) (x0 x1 x2 x3 x4 x5 x6 : FVec Ideal S256x128 .f32) (b : FVec Ideal S1x256x768 .f32) : FVec Ideal S256x128 .bf16 :=
  k0_pay11 (F := Ideal) (k0_pay7 i) (k0_pay8 x4 x5 x6) (k0_pay9 x0 x1 x2 x3 b) k0_pay10

/-- One head's store at row `r`, column `d`: the softmax of the row's scores over the 768 key rows, weighting their values. -/
theorem headOp_apply (i : grid0.Coords) (x0 x1 x2 x3 x4 x5 x6 : FVec Ideal S256x128 .f32) (b : FVec Ideal S1x256x768 .f32) (r : Fin 256) (d : Fin 128) :
    headOp i x0 x1 x2 x3 x4 x5 x6 b (ix2 r d)
      = Band.soft (fun j : Fin 768 => score (keep i j) (∑ x : Fin 128, x0 (ix2 r x) * cat3 x1 x2 x3 j x) (b (ix3 0 r j))) (fun j => cat3 x4 x5 x6 j d) := by
  pointwise [headOp, k0_pay11, k0_pay7, k0_pay8, k0_pay9, k0_pay10]
  rfl

/-- The block a grid point leaves: entry `y` is head `y 1 / 128`'s entry at row `y 0`, from the whole blocks and the whole bias. -/
def blockOut (i : grid0.Coords) (X0 X1 X2 X3 X4 X5 X6 : FVec Ideal S256x1024 .f32) (P : FVec Ideal S8x256x768 .f32) (r : Fin 256) (l : Fin 1024) : EReal :=
  Band.soft (fun j : Fin 768 => score (keep i j)
      (∑ x : Fin 128, X0 (ix2 r ⟨(l : ℕ) / 128 * 128 + x, by omega⟩) * cat3 X1 X2 X3 j ⟨(l : ℕ) / 128 * 128 + x, by omega⟩)
      (P (ix3 ⟨(l : ℕ) / 128, by omega⟩ r j)))
    (fun j => cat3 X4 X5 X6 j l)

/-- Column slices of three blocks laid one below another are the column slice of the three laid so. -/
theorem cat3_slice (a b c : FVec Ideal S256x128 .f32) (A B C : FVec Ideal S256x1024 .f32) (h : Fin 8)
    (ha : ∀ (r : Fin 256) (d : Fin 128), a (ix2 r d) = A (ix2 r ⟨(h : ℕ) * 128 + d, by omega⟩))
    (hb : ∀ (r : Fin 256) (d : Fin 128), b (ix2 r d) = B (ix2 r ⟨(h : ℕ) * 128 + d, by omega⟩))
    (hc : ∀ (r : Fin 256) (d : Fin 128), c (ix2 r d) = C (ix2 r ⟨(h : ℕ) * 128 + d, by omega⟩)) (j : Fin 768) (d : Fin 128) :
    cat3 a b c j d = cat3 A B C j ⟨(h : ℕ) * 128 + d, by omega⟩ := by
  unfold cat3
  simp only [ha, hb, hc]

/-- Column `d` of head `h` of a block of eight heads. -/
def hcol (h : Fin 8) (d : Fin 128) : Fin 1024 := ⟨(h : ℕ) * 128 + d, by omega⟩

/-- Head `h`'s store is its 128 columns of the block. -/
theorem headOp_block (h : Fin 8) (i : grid0.Coords) (x0 x1 x2 x3 x4 x5 x6 : FVec Ideal S256x128 .f32) (b : FVec Ideal S1x256x768 .f32)
    (X0 X1 X2 X3 X4 X5 X6 : FVec Ideal S256x1024 .f32) (P : FVec Ideal S8x256x768 .f32) (x : S256x128.Idx) (y : S256x1024.Idx)
    (h0 : ∀ (r : Fin 256) (d : Fin 128), x0 (ix2 r d) = X0 (ix2 r ⟨(h : ℕ) * 128 + d, by omega⟩))
    (h1 : ∀ (r : Fin 256) (d : Fin 128), x1 (ix2 r d) = X1 (ix2 r ⟨(h : ℕ) * 128 + d, by omega⟩))
    (h2 : ∀ (r : Fin 256) (d : Fin 128), x2 (ix2 r d) = X2 (ix2 r ⟨(h : ℕ) * 128 + d, by omega⟩))
    (h3 : ∀ (r : Fin 256) (d : Fin 128), x3 (ix2 r d) = X3 (ix2 r ⟨(h : ℕ) * 128 + d, by omega⟩))
    (h4 : ∀ (r : Fin 256) (d : Fin 128), x4 (ix2 r d) = X4 (ix2 r ⟨(h : ℕ) * 128 + d, by omega⟩))
    (h5 : ∀ (r : Fin 256) (d : Fin 128), x5 (ix2 r d) = X5 (ix2 r ⟨(h : ℕ) * 128 + d, by omega⟩))
    (h6 : ∀ (r : Fin 256) (d : Fin 128), x6 (ix2 r d) = X6 (ix2 r ⟨(h : ℕ) * 128 + d, by omega⟩))
    (hb : ∀ (r : Fin 256) (j : Fin 768), b (ix3 0 r j) = P (ix3 h r j))
    (hy0 : (y 0 : ℕ) = x 0) (hy1 : (y 1 : ℕ) = (h : ℕ) * 128 + x 1) :
    headOp i x0 x1 x2 x3 x4 x5 x6 b x = blockOut i X0 X1 X2 X3 X4 X5 X6 P (y 0) (y 1) := by
  obtain ⟨p, q, rfl⟩ : ∃ (p : Fin 256) (q : Fin 128), x = ix2 p q := ⟨x 0, x 1, eq_ix2 x⟩
  obtain ⟨r, l, rfl⟩ : ∃ (r : Fin 256) (l : Fin 1024), y = ix2 r l := ⟨y 0, y 1, eq_ix2 y⟩
  rw [headOp_apply]
  obtain rfl : r = p := Fin.ext hy0
  obtain rfl : l = hcol h q := Fin.ext hy1
  have e : ((hcol h q : Fin 1024) : ℕ) / 128 = h := by show ((h : ℕ) * 128 + (q : ℕ)) / 128 = h; omega
  have ef : (⟨((hcol h q : Fin 1024) : ℕ) / 128, by omega⟩ : Fin 8) = h := Fin.ext e
  have el : ∀ x : Fin 128, (⟨((hcol h q : Fin 1024) : ℕ) / 128 * 128 + x, by omega⟩ : Fin 1024) = ⟨(h : ℕ) * 128 + x, by omega⟩ := fun x => Fin.ext (by show _ + _ = _ + _; rw [e])
  unfold blockOut
  simp only [ef, el, cat3_slice x1 x2 x3 X1 X2 X3 h h1 h2 h3, cat3_slice x4 x5 x6 X4 X5 X6 h h4 h5 h6, h0, hb, ix2_0, ix2_1]
  rfl

section Heads
variable (i : grid0.Coords) (x0 x1 x2 x3 x4 x5 x6 : FVec Ideal S256x128 .f32) (b : FVec Ideal S1x256x768 .f32)
theorem head0 : k0_pay11 (k0_pay7 i) (k0_pay8 x4 x5 x6) (k0_pay9 x0 x1 x2 x3 b) k0_pay10 = headOp i x0 x1 x2 x3 x4 x5 x6 b := rfl
theorem head1 : k0_pay14 (k0_pay12 x4 x5 x6) (k0_pay13 (k0_pay7 i) x0 x1 x2 x3 b) = headOp i x0 x1 x2 x3 x4 x5 x6 b := rfl
theorem head2 : k0_pay17 (k0_pay15 x4 x5 x6) (k0_pay16 (k0_pay7 i) x0 x1 x2 x3 b) = headOp i x0 x1 x2 x3 x4 x5 x6 b := rfl
theorem head3 : k0_pay21 (k0_pay18 x4 x5 x6) (k0_pay19 (k0_pay7 i) x0 x1 x2 x3 b) (k0_pay20 (k0_pay7 i) x0 x1 x2 x3 b) = headOp i x0 x1 x2 x3 x4 x5 x6 b := rfl
theorem head4 : k0_pay25 (k0_pay22 x4 x5 x6) (k0_pay23 (k0_pay7 i) x0 x1 x2 x3 b) (k0_pay24 (k0_pay7 i) x0 x1 x2 x3 b) = headOp i x0 x1 x2 x3 x4 x5 x6 b := rfl
theorem head5 : k0_pay29 (k0_pay26 x4 x5 x6) (k0_pay27 (k0_pay7 i) x0 x1 x2 x3 b) (k0_pay28 (k0_pay7 i) x0 x1 x2 x3 b) = headOp i x0 x1 x2 x3 x4 x5 x6 b := rfl
theorem head6 : k0_pay32 (k0_pay30 x4 x5 x6) (k0_pay31 (k0_pay7 i) x0 x1 x2 x3 b) = headOp i x0 x1 x2 x3 x4 x5 x6 b := rfl
theorem head7 : k0_pay1 (k0_pay33 x4 x5 x6) (k0_pay34 (k0_pay7 i) x0 x1 x2 x3 b) = headOp i x0 x1 x2 x3 x4 x5 x6 b := rfl
end Heads

/-- The bias a group of four chunks reads: row `64 c + q` has chunk bias row `q` in the 576 columns from `64 c`, the mask elsewhere. -/
def biasPlane (B : FVec Ideal S8x64x576 .f32) (h : Fin 8) (r : Fin 256) (j : Fin 768) : EReal :=
  if hj : 64 * ((r : ℕ) / 64) ≤ j ∧ (j : ℕ) < 64 * ((r : ℕ) / 64) + 576
  then B (ix3 h ⟨(r : ℕ) % 64, by omega⟩ ⟨(j : ℕ) - 64 * ((r : ℕ) / 64), by omega⟩)
  else Named.named (F := Ideal) κ "mask" (φ := .f32) 0xF149F2CA#32

variable (m : (ℓ : Loc nD τ sig) → Buf (Elt Ideal) ℓ)

/-- The first point fills the bias scratch. -/
theorem scratch_first (c : Dev nD) (t : Fin cfg0.N) (h : t.val % 32 = 0) (y : S8x256x768.Idx) :
    (outsAt0 m c t.val t.isLt).2 y = biasPlane (iblk m c 7 t) (y 0) (y 1) (y 2) := by
  rw [outsAt0_A m c t h]; frame_out
  clear h
  obtain ⟨h, r, j, rfl⟩ : ∃ (h : Fin 8) (r : Fin 256) (j : Fin 768), y = ix3 h r j := ⟨y 0, y 1, y 2, eq_ix3 y⟩
  simp only [canon_unit_dite, ix3_0, ix3_1, ix3_2]
  have hp : ∀ (o : ℕ) (hr : o ≤ (r : ℕ) ∧ (r : ℕ) < o + 64) (hj : o ≤ (j : ℕ) ∧ (j : ℕ) < o + 576) (a : Fin 3),
      (![0, o, o] : Fin 3 → ℕ) a ≤ (ix3 h r j a : ℕ) ∧ (ix3 h r j a : ℕ) < (![0, o, o] : Fin 3 → ℕ) a + (![8, 64, 576] : Fin 3 → ℕ) a := by
    intro o hr hj a
    match a with
    | ⟨0, _⟩ => exact ⟨Nat.zero_le _, (Nat.zero_add 8).symm ▸ h.isLt⟩
    | ⟨1, _⟩ => exact hr
    | ⟨2, _⟩ => exact hj
  have hq : ∀ (o : ℕ), (∀ a : Fin 3, (![0, o, o] : Fin 3 → ℕ) a ≤ (ix3 h r j a : ℕ) ∧ (ix3 h r j a : ℕ) < (![0, o, o] : Fin 3 → ℕ) a + (![8, 64, 576] : Fin 3 → ℕ) a) →
      (o ≤ (r : ℕ) ∧ (r : ℕ) < o + 64) ∧ o ≤ (j : ℕ) ∧ (j : ℕ) < o + 576 := fun o H => ⟨H 1, H 2⟩
  split_ifs with h1 h2 h3 h4 h5
  · have := hq _ h1
    rw [biasPlane, dif_pos (by omega)]; pointwise [k0_pay6]
    refine congrArg (iblk m c 7 t) (funext fun a => Fin.ext ?_)
    match a with
    | ⟨0, _⟩ => rfl
    | ⟨1, _⟩ => show (r : ℕ) - 192 = (r : ℕ) % 64; omega
    | ⟨2, _⟩ => show (j : ℕ) - 192 = (j : ℕ) - 64 * ((r : ℕ) / 64); omega
  · have := hq _ h2
    rw [biasPlane, dif_pos (by omega)]; pointwise [k0_pay5]
    refine congrArg (iblk m c 7 t) (funext fun a => Fin.ext ?_)
    match a with
    | ⟨0, _⟩ => rfl
    | ⟨1, _⟩ => show (r : ℕ) - 128 = (r : ℕ) % 64; omega
    | ⟨2, _⟩ => show (j : ℕ) - 128 = (j : ℕ) - 64 * ((r : ℕ) / 64); omega
  · have := hq _ h3
    rw [biasPlane, dif_pos (by omega)]; pointwise [k0_pay4]
    refine congrArg (iblk m c 7 t) (funext fun a => Fin.ext ?_)
    match a with
    | ⟨0, _⟩ => rfl
    | ⟨1, _⟩ => show (r : ℕ) - 64 = (r : ℕ) % 64; omega
    | ⟨2, _⟩ => show (j : ℕ) - 64 = (j : ℕ) - 64 * ((r : ℕ) / 64); omega
  · have := hq _ h4
    rw [biasPlane, dif_pos (by omega)]; pointwise [k0_pay3]
    refine congrArg (iblk m c 7 t) (funext fun a => Fin.ext ?_)
    match a with
    | ⟨0, _⟩ => rfl
    | ⟨1, _⟩ => show (r : ℕ) - 0 = (r : ℕ) % 64; omega
    | ⟨2, _⟩ => show (j : ℕ) - 0 = (j : ℕ) - 64 * ((r : ℕ) / 64); omega
  · rw [biasPlane, dif_neg]
    · pointwise [k0_pay2]
    · intro hj
      rcases (by omega : (r : ℕ) / 64 = 0 ∨ (r : ℕ) / 64 = 1 ∨ (r : ℕ) / 64 = 2 ∨ (r : ℕ) / 64 = 3) with e | e | e | e <;> rw [e] at hj
      · exact h4 (hp 0 (by omega) (by omega))
      · exact h3 (hp 64 (by omega) (by omega))
      · exact h2 (hp 128 (by omega) (by omega))
      · exact h1 (hp 192 (by omega) (by omega))
  · refine absurd (fun a => ?_) h5
    match a with
    | ⟨0, _⟩ => exact ⟨Nat.zero_le _, (Nat.zero_add 8).symm ▸ h.isLt⟩
    | ⟨1, _⟩ => exact ⟨Nat.zero_le _, (Nat.zero_add 256).symm ▸ r.isLt⟩
    | ⟨2, _⟩ => exact ⟨Nat.zero_le _, (Nat.zero_add 768).symm ▸ j.isLt⟩

/-- A later point leaves the bias scratch as it was. -/
theorem scratch_later (c : Dev nD) (t : Fin cfg0.N) (h : ¬ t.val % 32 = 0) :
    (outsAt0 m c t.val t.isLt).2 = (outsAt0 m c (t.val - 1) (by omega)).2 := by
  rw [outsAt0_B m c t h]
  rfl

end Cert.KernelIdeal.Value
end
-- ==== Proof.BlockLater.lean ====
module
public import proofs.«01_k».proof.Proof.Gen.KernelIdeal.Value
public import proofs.«01_k».proof.Proof.HeadBlock
public import Idealize.ShloMosaic.Lib.Pointwise
public import Idealize.ShloMosaic.Lib.Pipeline.ValueKit
public import Idealize.ShloMosaic.PureOps.Ideal.Laws
set_option maxRecDepth 16384
@[expose] public noncomputable section
open Idealize.ShloMosaic Idealize.ShloMosaic.TcCoe Idealize.SL.Sem
open Idealize.ShloMosaic.Pipeline (Dat)
namespace Cert.KernelIdeal.Value
open Cert.KernelIdeal Cert.KernelIdeal.Gen

variable (m : (ℓ : Loc nD τ sig) → Buf (Elt Ideal) ℓ)

/-- A later point's block. -/
theorem block_later (c : Dev nD) (t : Fin cfg0.N) (h : ¬ t.val % 32 = 0) (y : S256x1024.Idx) :
    (outsAt0 m c t.val t.isLt).1 y = blockOut (grid0.coords t) (iblk m c 0 t) (iblk m c 1 t) (iblk m c 2 t) (iblk m c 3 t) (iblk m c 4 t) (iblk m c 5 t) (iblk m c 6 t)
      (outsAt0 m c (t.val - 1) (by omega)).2 (y 0) (y 1) := by
  rw [outsAt0_B m c t h]; frame_out
  clear h
  canon_tiles x h
  case piece0 =>
    rw [head7]
    refine headOp_block 7 _ _ _ _ _ _ _ _ _ _ _ _ _ _ _ _ _ x y (fun r d => ?_) (fun r d => ?_) (fun r d => ?_) (fun r d => ?_) (fun r d => ?_) (fun r d => ?_) (fun r d => ?_) (fun r d => ?_) h0 (by omega)
    iterate 7 (pointwise)
    pointwise; exact congrFun (Memref.IsWhole.read_unread _ _) _
  case piece1 =>
    rw [head6]
    refine headOp_block 6 _ _ _ _ _ _ _ _ _ _ _ _ _ _ _ _ _ x y (fun r d => ?_) (fun r d => ?_) (fun r d => ?_) (fun r d => ?_) (fun r d => ?_) (fun r d => ?_) (fun r d => ?_) (fun r d => ?_) h0 (by omega)
    iterate 7 (pointwise)
    pointwise; exact congrFun (Memref.IsWhole.read_unread _ _) _
  case piece2 =>
    rw [head5]
    refine headOp_block 5 _ _ _ _ _ _ _ _ _ _ _ _ _ _ _ _ _ x y (fun r d => ?_) (fun r d => ?_) (fun r d => ?_) (fun r d => ?_) (fun r d => ?_) (fun r d => ?_) (fun r d => ?_) (fun r d => ?_) h0 (by omega)
    iterate 7 (pointwise)
    pointwise; exact congrFun (Memref.IsWhole.read_unread _ _) _
  case piece3 =>
    rw [head4]
    refine headOp_block 4 _ _ _ _ _ _ _ _ _ _ _ _ _ _ _ _ _ x y (fun r d => ?_) (fun r d => ?_) (fun r d => ?_) (fun r d => ?_) (fun r d => ?_) (fun r d => ?_) (fun r d => ?_) (fun r d => ?_) h0 (by omega)
    iterate 7 (pointwise)
    pointwise; exact congrFun (Memref.IsWhole.read_unread _ _) _
  case piece4 =>
    rw [head3]
    refine headOp_block 3 _ _ _ _ _ _ _ _ _ _ _ _ _ _ _ _ _ x y (fun r d => ?_) (fun r d => ?_) (fun r d => ?_) (fun r d => ?_) (fun r d => ?_) (fun r d => ?_) (fun r d => ?_) (fun r d => ?_) h0 (by omega)
    iterate 7 (pointwise)
    pointwise; exact congrFun (Memref.IsWhole.read_unread _ _) _
  case piece5 =>
    rw [head2]
    refine headOp_block 2 _ _ _ _ _ _ _ _ _ _ _ _ _ _ _ _ _ x y (fun r d => ?_) (fun r d => ?_) (fun r d => ?_) (fun r d => ?_) (fun r d => ?_) (fun r d => ?_) (fun r d => ?_) (fun r d => ?_) h0 (by omega)
    iterate 7 (pointwise)
    pointwise; exact congrFun (Memref.IsWhole.read_unread _ _) _
  case piece6 =>
    rw [head1]
    refine headOp_block 1 _ _ _ _ _ _ _ _ _ _ _ _ _ _ _ _ _ x y (fun r d => ?_) (fun r d => ?_) (fun r d => ?_) (fun r d => ?_) (fun r d => ?_) (fun r d => ?_) (fun r d => ?_) (fun r d => ?_) h0 (by omega)
    iterate 7 (pointwise)
    pointwise; exact congrFun (Memref.IsWhole.read_unread _ _) _
  case piece7 =>
    rw [head0]
    refine headOp_block 0 _ _ _ _ _ _ _ _ _ _ _ _ _ _ _ _ _ x y (fun r d => ?_) (fun r d => ?_) (fun r d => ?_) (fun r d => ?_) (fun r d => ?_) (fun r d => ?_) (fun r d => ?_) (fun r d => ?_) h0 (by omega)
    iterate 7 (pointwise)
    pointwise; exact congrFun (Memref.IsWhole.read_unread _ _) _

end Cert.KernelIdeal.Value
end
-- ==== Proof.BlockFirst.lean ====
module
public import proofs.«01_k».proof.Proof.Gen.KernelIdeal.Value
public import proofs.«01_k».proof.Proof.HeadBlock
public import Idealize.ShloMosaic.Lib.Pointwise
public import Idealize.ShloMosaic.Lib.Pipeline.ValueKit
public import Idealize.ShloMosaic.PureOps.Ideal.Laws
set_option maxRecDepth 16384
@[expose] public noncomputable section
open Idealize.ShloMosaic Idealize.ShloMosaic.TcCoe Idealize.SL.Sem
open Idealize.ShloMosaic.Pipeline (Dat)
namespace Cert.KernelIdeal.Value
open Cert.KernelIdeal Cert.KernelIdeal.Gen

variable (m : (ℓ : Loc nD τ sig) → Buf (Elt Ideal) ℓ)

/-- Every index is in the rectangle that is the whole scratch. -/
theorem whole_mem (inb) (y : S8x256x768.Idx) : y ∈ (Rect.unit (s := S8x256x768) ![0, 0, 0] ![8, 256, 768] inb).set := by
  rw [Rect.mem_set_unit]
  intro a
  match a with
  | ⟨0, _⟩ => exact ⟨Nat.zero_le _, (Nat.zero_add 8).symm ▸ (y 0).isLt⟩
  | ⟨1, _⟩ => exact ⟨Nat.zero_le _, (Nat.zero_add 256).symm ▸ (y 1).isLt⟩
  | ⟨2, _⟩ => exact ⟨Nat.zero_le _, (Nat.zero_add 768).symm ▸ (y 2).isLt⟩

/-- Five stores of which the first is the whole buffer cover it. -/
theorem cover (p0 p1 p2 p3 : View.Piece (Elt Ideal) S8x256x768 .f32) (inb)
    (w : (Rect.toLoadRect (Rect.unit (s := S8x256x768) ![0, 0, 0] ![8, 256, 768] inb)).shape.Idx → Elt Ideal .f32) (y : S8x256x768.Idx) :
    ∃ p ∈ [p0, p1, p2, p3, (⟨Rect.unit (s := S8x256x768) ![0, 0, 0] ![8, 256, 768] inb, w⟩ : View.Piece (Elt Ideal) S8x256x768 .f32)], y ∈ p.1.set :=
  ⟨⟨Rect.unit (s := S8x256x768) ![0, 0, 0] ![8, 256, 768] inb, w⟩, .tail _ (.tail _ (.tail _ (.tail _ (.head _)))), whole_mem inb y⟩

set_option maxHeartbeats 1000000 in
/-- The first point's block. -/
theorem block_first (c : Dev nD) (t : Fin cfg0.N) (h : t.val % 32 = 0) (y : S256x1024.Idx) :
    (outsAt0 m c t.val t.isLt).1 y = blockOut (grid0.coords t) (iblk m c 0 t) (iblk m c 1 t) (iblk m c 2 t) (iblk m c 3 t) (iblk m c 4 t) (iblk m c 5 t) (iblk m c 6 t)
      (outsAt0 m c t.val t.isLt).2 (y 0) (y 1) := by
  rw [outsAt0_A m c t h]; frame_out
  clear h
  canon_tiles x h
  case piece0 =>
    rw [head7]
    refine headOp_block 7 _ _ _ _ _ _ _ _ _ _ _ _ _ _ _ _ _ x y (fun r d => ?_) (fun r d => ?_) (fun r d => ?_) (fun r d => ?_) (fun r d => ?_) (fun r d => ?_) (fun r d => ?_) (fun r d => ?_) h0 (by omega)
    iterate 7 (pointwise)
    rw [View.readCov_eq_canon_ld _ _ _ (cover _ _ _ _ _ _)]; pointwise
  case piece1 =>
    rw [head6]
    refine headOp_block 6 _ _ _ _ _ _ _ _ _ _ _ _ _ _ _ _ _ x y (fun r d => ?_) (fun r d => ?_) (fun r d => ?_) (fun r d => ?_) (fun r d => ?_) (fun r d => ?_) (fun r d => ?_) (fun r d => ?_) h0 (by omega)
    iterate 7 (pointwise)
    rw [View.readCov_eq_canon_ld _ _ _ (cover _ _ _ _ _ _)]; pointwise
  case piece2 =>
    rw [head5]
    refine headOp_block 5 _ _ _ _ _ _ _ _ _ _ _ _ _ _ _ _ _ x y (fun r d => ?_) (fun r d => ?_) (fun r d => ?_) (fun r d => ?_) (fun r d => ?_) (fun r d => ?_) (fun r d => ?_) (fun r d => ?_) h0 (by omega)
    iterate 7 (pointwise)
    rw [View.readCov_eq_canon_ld _ _ _ (cover _ _ _ _ _ _)]; pointwise
  case piece3 =>
    rw [head4]
    refine headOp_block 4 _ _ _ _ _ _ _ _ _ _ _ _ _ _ _ _ _ x y (fun r d => ?_) (fun r d => ?_) (fun r d => ?_) (fun r d => ?_) (fun r d => ?_) (fun r d => ?_) (fun r d => ?_) (fun r d => ?_) h0 (by omega)
    iterate 7 (pointwise)
    rw [View.readCov_eq_canon_ld _ _ _ (cover _ _ _ _ _ _)]; pointwise
  case piece4 =>
    rw [head3]
    refine headOp_block 3 _ _ _ _ _ _ _ _ _ _ _ _ _ _ _ _ _ x y (fun r d => ?_) (fun r d => ?_) (fun r d => ?_) (fun r d => ?_) (fun r d => ?_) (fun r d => ?_) (fun r d => ?_) (fun r d => ?_) h0 (by omega)
    iterate 7 (pointwise)
    rw [View.readCov_eq_canon_ld _ _ _ (cover _ _ _ _ _ _)]; pointwise
  case piece5 =>
    rw [head2]
    refine headOp_block 2 _ _ _ _ _ _ _ _ _ _ _ _ _ _ _ _ _ x y (fun r d => ?_) (fun r d => ?_) (fun r d => ?_) (fun r d => ?_) (fun r d => ?_) (fun r d => ?_) (fun r d => ?_) (fun r d => ?_) h0 (by omega)
    iterate 7 (pointwise)
    rw [View.readCov_eq_canon_ld _ _ _ (cover _ _ _ _ _ _)]; pointwise
  case piece6 =>
    rw [head1]
    refine headOp_block 1 _ _ _ _ _ _ _ _ _ _ _ _ _ _ _ _ _ x y (fun r d => ?_) (fun r d => ?_) (fun r d => ?_) (fun r d => ?_) (fun r d => ?_) (fun r d => ?_) (fun r d => ?_) (fun r d => ?_) h0 (by omega)
    iterate 7 (pointwise)
    rw [View.readCov_eq_canon_ld _ _ _ (cover _ _ _ _ _ _)]; pointwise
  case piece7 =>
    rw [head0]
    refine headOp_block 0 _ _ _ _ _ _ _ _ _ _ _ _ _ _ _ _ _ x y (fun r d => ?_) (fun r d => ?_) (fun r d => ?_) (fun r d => ?_) (fun r d => ?_) (fun r d => ?_) (fun r d => ?_) (fun r d => ?_) h0 (by omega)
    iterate 7 (pointwise)
    rw [View.readCov_eq_canon_ld _ _ _ (cover _ _ _ _ _ _)]; pointwise
end Cert.KernelIdeal.Value
end
-- ==== Proof.AttnArray.lean ====
module
public import proofs.«01_k».proof.Proof.BlockLater
public import proofs.«01_k».proof.Proof.BlockFirst
set_option maxRecDepth 16384
@[expose] public noncomputable section
open Idealize.ShloMosaic Idealize.ShloMosaic.TcCoe Idealize.SL.Sem
open Idealize.ShloMosaic.Pipeline (Dat)
namespace Cert.KernelIdeal.Value
open Cert.KernelIdeal Cert.KernelIdeal.Gen

variable (m : (ℓ : Loc nD τ sig) → Buf (Elt Ideal) ℓ)

/-- Which block of its array each window of grid point `t` is. -/
theorem idx : ∀ t : Fin cfg0.N,
    win0_0.index t = ![t.val, 0] ∧ win0_1.index t = ![t.val / 16 * 16 + (t.val % 16 - 2), 1] ∧ win0_2.index t = ![t.val / 16 * 16 + (t.val % 16 - 1), 1]
    ∧ win0_3.index t = ![t.val, 1] ∧ win0_4.index t = ![t.val / 16 * 16 + (t.val % 16 - 2), 2] ∧ win0_5.index t = ![t.val / 16 * 16 + (t.val % 16 - 1), 2]
    ∧ win0_6.index t = ![t.val, 2] ∧ win0_7.index t = ![0, 0, 0] ∧ win0_8.index t = ![t.val, 0] ∧ ((grid0.coords t 1 : Fin _) : ℕ) = t.val % 16 :=
  (by decide +kernel : ∀ t : Fin grid0.N, _)

/-- The bias of one chunk, as the host code before the launch leaves it. -/
abbrev bias (c : Dev nD) : FVec Ideal S8x64x576 .f32 := V m c main_v138
/-- The projection. -/
abbrev proj (c : Dev nD) : FVec Ideal S9216x8192 .f32 := m ((c : Thread nD τ).loc main_arg0)

theorem blk_bias (c : Dev nD) (t : Fin cfg0.N) : iblk m c 7 t = bias m c := by
  obtain ⟨e0, e1, e2, e3, e4, e5, e6, e7, e8, e9⟩ := idx t
  funext y
  blk_simp [iblk]
  refine congrArg (V m c main_v138) (funext fun a => Fin.ext ?_)
  match a with
  | ⟨0, _⟩ => show win0_7.index t 0 * 8 + 1 * (y 0 : ℕ) = y 0; rw [e7]; show 0 * 8 + 1 * (y 0 : ℕ) = y 0; omega
  | ⟨1, _⟩ => show win0_7.index t 1 * 64 + 1 * (y 1 : ℕ) = y 1; rw [e7]; show 0 * 64 + 1 * (y 1 : ℕ) = y 1; omega
  | ⟨2, _⟩ => show win0_7.index t 2 * 576 + 1 * (y 2 : ℕ) = y 2; rw [e7]; show 0 * 576 + 1 * (y 2 : ℕ) = y 2; omega

/-- The scratch holds the whole group's bias after every point. -/
theorem scratch (c : Dev nD) : ∀ (n : ℕ) (hn : n < cfg0.N) (y : S8x256x768.Idx),
    (outsAt0 m c n hn).2 y = biasPlane (bias m c) (y 0) (y 1) (y 2) := by
  intro n
  induction n with
  | zero => intro hn y; rw [scratch_first m c ⟨0, hn⟩ rfl, blk_bias]
  | succ n ih =>
    intro hn y
    have h32 : n + 1 < 32 := lt_of_lt_of_eq hn N_0
    rw [scratch_later m c ⟨n + 1, hn⟩ (by show ¬ (n + 1) % 32 = 0; omega)]
    exact ih _ y

/-- Every point's block. -/
theorem block (c : Dev nD) (t : Fin cfg0.N) (y : S256x1024.Idx) :
    (outsAt0 m c t.val t.isLt).1 y = blockOut (grid0.coords t) (iblk m c 0 t) (iblk m c 1 t) (iblk m c 2 t) (iblk m c 3 t) (iblk m c 4 t) (iblk m c 5 t) (iblk m c 6 t)
      (fun x => biasPlane (bias m c) (x 0) (x 1) (x 2)) (y 0) (y 1) := by
  by_cases h : t.val % 32 = 0
  · rw [block_first m c t h]
    exact congrArg (fun P => blockOut _ _ _ _ _ _ _ _ P _ _) (funext fun x => scratch m c t.val t.isLt x)
  · rw [block_later m c t h]
    exact congrArg (fun P => blockOut _ _ _ _ _ _ _ _ P _ _) (funext fun x => scratch m c _ _ x)

section Reads
variable (c : Dev nD) (t : Fin cfg0.N) (r : Fin 256) (l : Fin 1024)

theorem hrow (t : Fin cfg0.N) (r : Fin 256) : t.val * 256 + (r : ℕ) < 9216 ∧ ∀ k, (t.val / 16 * 16 + (t.val % 16 - k)) * 256 + (r : ℕ) < 9216 := by
  have : t.val < 32 := lt_of_lt_of_eq t.isLt N_0
  exact ⟨by omega, fun k => by omega⟩

/-- An entry of the projection at block coordinates. -/
theorem proj_at (Z : FVec Ideal S9216x8192 .f32) (p : Fin 2 → ℕ) (i0 i1 : ℕ) (e : p = ![i0, i1]) (x : S9216x8192.Idx)
    (h0 : (x 0 : ℕ) = p 0 * 256 + 1 * (r : ℕ)) (h1 : (x 1 : ℕ) = p 1 * 1024 + 1 * (l : ℕ)) (b0 : i0 * 256 + (r : ℕ) < 9216) (b1 : i1 * 1024 + (l : ℕ) < 8192) :
    Z x = Z (ix2 ⟨i0 * 256 + r, b0⟩ ⟨i1 * 1024 + l, b1⟩) := by
  subst e
  refine congrArg Z (funext fun a => Fin.ext ?_)
  match a with
  | ⟨0, _⟩ => exact h0.trans (by show i0 * 256 + 1 * (r : ℕ) = i0 * 256 + r; omega)
  | ⟨1, _⟩ => exact h1.trans (by show i1 * 1024 + 1 * (l : ℕ) = i1 * 1024 + l; omega)

theorem blk_q : iblk m c 0 t (ix2 r l) = proj m c (ix2 ⟨t.val * 256 + r, (hrow t r).1⟩ ⟨l, by omega⟩) := by
  have e0 := (idx t).1
  blk_simp [iblk]
  refine congrArg (proj m c) (funext fun a => Fin.ext ?_)
  match a with
  | ⟨0, _⟩ => show win0_0.index t 0 * 256 + 1 * (r : ℕ) = t.val * 256 + r; rw [e0]; show t.val * 256 + 1 * (r : ℕ) = _; omega
  | ⟨1, _⟩ => show win0_0.index t 1 * 1024 + 1 * (l : ℕ) = l; rw [e0]; show 0 * 1024 + 1 * (l : ℕ) = _; omega
theorem blk_k2 : iblk m c 1 t (ix2 r l) = proj m c (ix2 ⟨(t.val / 16 * 16 + (t.val % 16 - 2)) * 256 + r, (hrow t r).2 2⟩ ⟨1 * 1024 + l, by omega⟩) := by
  blk_simp [iblk]; exact proj_at r l _ _ _ _ (idx t).2.1 _ rfl rfl _ _
theorem blk_k1 : iblk m c 2 t (ix2 r l) = proj m c (ix2 ⟨(t.val / 16 * 16 + (t.val % 16 - 1)) * 256 + r, (hrow t r).2 1⟩ ⟨1 * 1024 + l, by omega⟩) := by
  blk_simp [iblk]; exact proj_at r l _ _ _ _ (idx t).2.2.1 _ rfl rfl _ _
theorem blk_v2 : iblk m c 4 t (ix2 r l) = proj m c (ix2 ⟨(t.val / 16 * 16 + (t.val % 16 - 2)) * 256 + r, (hrow t r).2 2⟩ ⟨2 * 1024 + l, by omega⟩) := by
  blk_simp [iblk]; exact proj_at r l _ _ _ _ (idx t).2.2.2.2.1 _ rfl rfl _ _
theorem blk_v1 : iblk m c 5 t (ix2 r l) = proj m c (ix2 ⟨(t.val / 16 * 16 + (t.val % 16 - 1)) * 256 + r, (hrow t r).2 1⟩ ⟨2 * 1024 + l, by omega⟩) := by
  blk_simp [iblk]; exact proj_at r l _ _ _ _ (idx t).2.2.2.2.2.1 _ rfl rfl _ _
theorem blk_k0 : iblk m c 3 t (ix2 r l) = proj m c (ix2 ⟨t.val * 256 + r, (hrow t r).1⟩ ⟨1 * 1024 + l, by omega⟩) := by
  blk_simp [iblk]; exact proj_at r l _ _ _ _ (idx t).2.2.2.1 _ rfl rfl _ _
theorem blk_v0 : iblk m c 6 t (ix2 r l) = proj m c (ix2 ⟨t.val * 256 + r, (hrow t r).1⟩ ⟨2 * 1024 + l, by omega⟩) := by
  blk_simp [iblk]; exact proj_at r l _ _ _ _ (idx t).2.2.2.2.2.2.1 _ rfl rfl _ _

end Reads

/-- The row of the projection that key column `j` of output row `R` reads: the block of rows `R` is in, or one of the two before it,
    at the start of the sequence the first block again. -/
def krow (R : Fin 8192) (j : Fin 768) : Fin 9216 :=
  ⟨(R : ℕ) / 4096 * 4096 + ((R : ℕ) % 4096 / 256 - (2 - (j : ℕ) / 256)) * 256 + (j : ℕ) % 256, by omega⟩

/-- The score of output row `R` in head `h` against key column `j`. -/
def kscore (Z : FVec Ideal S9216x8192 .f32) (B : FVec Ideal S8x64x576 .f32) (R : Fin 8192) (h : Fin 8) (j : Fin 768) : EReal :=
  if 512 ≤ (R : ℕ) % 4096 / 256 * 256 + j then
    (∑ x : Fin 128, Z (ix2 ⟨R, by omega⟩ ⟨(h : ℕ) * 128 + x, by omega⟩) * Z (ix2 (krow R j) ⟨1024 + ((h : ℕ) * 128 + x), by omega⟩))
      * Ideal.ofBits .f32 0x3DB504F3#32 + biasPlane B h ⟨(R : ℕ) % 256, by omega⟩ j
  else ⊥

/-- What the kernel's array holds at row `R`, column `l`. -/
def kval (Z : FVec Ideal S9216x8192 .f32) (B : FVec Ideal S8x64x576 .f32) (R : Fin 8192) (l : Fin 1024) : EReal :=
  Band.soft (kscore Z B R ⟨(l : ℕ) / 128, by omega⟩) (fun j => Z (ix2 (krow R j) ⟨2048 + l, by omega⟩))

/-- The mask's test as an inequality of naturals. -/
theorem keep_iff (i : grid0.Coords) (j : Fin 768) : keep i j = 1#1 ↔ 512 ≤ (i 1 : ℕ) * 256 + j := by
  have h : (i 1 : ℕ) < 16 := (i 1).isLt
  unfold keep
  rw [WordCmp.cmpi_sge_zero]
  generalize (i 1 : ℕ) = g at h ⊢
  have e : (IntOp.addi (Scalar.subi (Scalar.muli (BitVec.ofNat 32 g) 256#32) 512#32) (BitVec.ofNat 32 ↑j)).toNat = (g * 256 + 4294966784 + j) % 4294967296 := by
    simp only [IntOp.addi, Scalar.subi, Scalar.muli, IntOp.subi, IntOp.muli, BitVec.toNat_add, BitVec.toNat_sub, BitVec.toNat_mul, BitVec.toNat_ofNat]
    omega
  rw [e]
  have : decide ((g * 256 + 4294966784 + (j : ℕ)) % 4294967296 < 2 ^ (32 - 1)) = decide (512 ≤ g * 256 + (j : ℕ)) := by
    refine decide_eq_decide.2 ?_
    norm_num
    omega
  rw [this]
  by_cases hv : 512 ≤ g * 256 + (j : ℕ) <;> simp [hv]

/-- Three stacked blocks of keys, read in the projection. -/
theorem cat_k (c : Dev nD) (t : Fin cfg0.N) (R : Fin 8192) (hR : (R : ℕ) / 256 = t.val) (j : Fin 768) (l : Fin 1024) :
    cat3 (iblk m c 1 t) (iblk m c 2 t) (iblk m c 3 t) j l = proj m c (ix2 (krow R j) ⟨1024 + l, by omega⟩) := by
  unfold cat3
  split_ifs with h h'
  · rw [blk_k2]; exact congrArg (proj m c) (congrArg₂ ix2 (Fin.ext (by show _ = (krow R j : ℕ); unfold krow; dsimp only; omega)) (Fin.ext (by dsimp only)))
  · rw [blk_k1]; exact congrArg (proj m c) (congrArg₂ ix2 (Fin.ext (by show _ = (krow R j : ℕ); unfold krow; dsimp only; omega)) (Fin.ext (by dsimp only)))
  · rw [blk_k0]; exact congrArg (proj m c) (congrArg₂ ix2 (Fin.ext (by show _ = (krow R j : ℕ); unfold krow; dsimp only; omega)) (Fin.ext (by dsimp only)))

/-- Three stacked blocks of values, read in the projection. -/
theorem cat_v (c : Dev nD) (t : Fin cfg0.N) (R : Fin 8192) (hR : (R : ℕ) / 256 = t.val) (j : Fin 768) (l : Fin 1024) :
    cat3 (iblk m c 4 t) (iblk m c 5 t) (iblk m c 6 t) j l = proj m c (ix2 (krow R j) ⟨2048 + l, by omega⟩) := by
  unfold cat3
  split_ifs with h h'
  · rw [blk_v2]; exact congrArg (proj m c) (congrArg₂ ix2 (Fin.ext (by show _ = (krow R j : ℕ); unfold krow; dsimp only; omega)) (Fin.ext (by dsimp only)))
  · rw [blk_v1]; exact congrArg (proj m c) (congrArg₂ ix2 (Fin.ext (by show _ = (krow R j : ℕ); unfold krow; dsimp only; omega)) (Fin.ext (by dsimp only)))
  · rw [blk_v0]; exact congrArg (proj m c) (congrArg₂ ix2 (Fin.ext (by show _ = (krow R j : ℕ); unfold krow; dsimp only; omega)) (Fin.ext (by dsimp only)))

/-- The named mask is minus infinity. -/
theorem mask_bot : Named.named (F := Ideal) κ "mask" (φ := .f32) 0xF149F2CA#32 = (⊥ : EReal) := rfl

/-- A point's block is the array's rows of that point. -/
theorem block_val (c : Dev nD) (t : Fin cfg0.N) (y : S256x1024.Idx) (R : Fin 8192) (hR : (R : ℕ) = t.val * 256 + (y 0 : ℕ)) :
    (outsAt0 m c t.val t.isLt).1 y = kval (proj m c) (bias m c) R (y 1) := by
  obtain ⟨r, l, rfl⟩ : ∃ (r : Fin 256) (l : Fin 1024), y = ix2 r l := ⟨y 0, y 1, eq_ix2 y⟩
  have hr : (R : ℕ) = t.val * 256 + r := hR
  have hdiv : (R : ℕ) / 256 = t.val := by omega
  have hmod : (⟨(R : ℕ) % 256, by omega⟩ : Fin 256) = r := Fin.ext (by dsimp only; omega)
  rw [block]
  have e9 := (idx t).2.2.2.2.2.2.2.2.2
  have hs : ∀ (h : Fin 8) (j : Fin 768) (p b : EReal), score (keep (grid0.coords t) j) p b
      = if 512 ≤ (R : ℕ) % 4096 / 256 * 256 + j then p * Ideal.ofBits .f32 0x3DB504F3#32 + b else ⊥ := by
    intro h j p b
    have hk := keep_iff (grid0.coords t) j
    rw [e9] at hk
    unfold score
    rw [mask_bot]
    by_cases hv : 512 ≤ (R : ℕ) % 4096 / 256 * 256 + j
    · rw [if_pos hv, hk.2 (by omega)]; rfl
    · rw [if_neg hv]; exact if_neg fun hc => hv (by have := hk.1 hc; omega)
  show blockOut _ _ _ _ _ _ _ _ _ r l = kval _ _ R l
  unfold blockOut kval
  refine congrArg₂ Band.soft (funext fun j => ?_) (funext fun j => cat_v m c t R hdiv j l)
  rw [hs ⟨(l : ℕ) / 128, by omega⟩]
  unfold kscore
  split_ifs with hv
  · rw [hmod]
    refine congrArg₂ (· + ·) (congrArg (· * _) (Finset.sum_congr rfl fun x _ => ?_)) rfl
    rw [blk_q, cat_k m c t R hdiv]
    refine congrArg₂ (· * ·) (congrArg (proj m c) (congrArg₂ ix2 (Fin.ext ?_) (Fin.ext ?_))) rfl
    · exact hr.symm
    · rfl
  · rfl

/-- What the kernel's array ends holding. -/
theorem final (c : Dev nD) : (dats m 0 c).arrAt 8 cfg0.N = fun i => kval (proj m c) (bias m c) (i 0) (i 1) := by
  refine (dats m 0 c).arrAt_eq_of_covers 8 _ (by decide +kernel) fun t hf y => ?_
  blk_simp
  rw [after0_8]
  have e8 := (idx t).2.2.2.2.2.2.2.2.1
  refine (block_val m c t y ((win0_8.blk t).view.emb y 0) ?_).trans (congrArg (kval _ _ _) (Fin.ext ?_))
  · show win0_8.index t 0 * 256 + 1 * (y 0 : ℕ) = t.val * 256 + (y 0 : ℕ); rw [e8]; show t.val * 256 + 1 * (y 0 : ℕ) = _; omega
  · show (y 1 : ℕ) = win0_8.index t 1 * 1024 + 1 * (y 1 : ℕ); rw [e8]; show _ = 0 * 1024 + 1 * (y 1 : ℕ); omega

end Cert.KernelIdeal.Value
-- ==== Proof.Bias.lean ====
module
public import proofs.«01_k».proof.Proof.AttnArray
public import Idealize.ShloMosaic.Lib.StableHlo.RunRead
set_option maxRecDepth 16384
@[expose] public noncomputable section
open Idealize.ShloMosaic Idealize.ShloMosaic.TcCoe Idealize.SL.Sem
namespace Cert.KernelIdeal.Value
open Cert.KernelIdeal Cert.KernelIdeal.Gen

variable (m : (ℓ : Loc nD τ sig) → Buf (Elt Ideal) ℓ)

/-- Sixteen slabs stacked along a new first axis, read at slab `s`. -/
theorem stack16 (x : Fin 16 → S1x576x8.Idx → EReal) (xs : List ((r : Shape) × (r.Idx → EReal))) (hc)
    (hx : xs = [⟨S1x576x8, x 0⟩, ⟨S1x576x8, x 1⟩, ⟨S1x576x8, x 2⟩, ⟨S1x576x8, x 3⟩, ⟨S1x576x8, x 4⟩,
      ⟨S1x576x8, x 5⟩, ⟨S1x576x8, x 6⟩, ⟨S1x576x8, x 7⟩, ⟨S1x576x8, x 8⟩, ⟨S1x576x8, x 9⟩, ⟨S1x576x8, x 10⟩,
      ⟨S1x576x8, x 11⟩, ⟨S1x576x8, x 12⟩, ⟨S1x576x8, x 13⟩, ⟨S1x576x8, x 14⟩, ⟨S1x576x8, x 15⟩])
    (s : Fin 16) (k : Fin 576) (h : Fin 8) :
    concatenate S16x576x8 0 xs hc (ix3 s k h) = x s (ix3 0 k h) := by
  subst hx
  refine concatenate_ofFn_unit_apply (t := S16x576x8) (s₁ := S1x576x8) 0 x hc rfl rfl (ix3 s k h) s rfl (ix3 0 k h) ?_
  intro b hb
  fin_cases b
  · exact absurd rfl hb
  · rfl
  · rfl

/-- The four groups of sixteen slabs, stacked, read at slab `q`. -/
theorem stack4 (x : Fin 4 → S16x576x8.Idx → EReal) (xs : List ((r : Shape) × (r.Idx → EReal))) (hc)
    (hx : xs = [⟨S16x576x8, x 0⟩, ⟨S16x576x8, x 1⟩, ⟨S16x576x8, x 2⟩, ⟨S16x576x8, x 3⟩])
    (q : Fin 64) (k : Fin 576) (h : Fin 8) :
    concatenate S64x576x8 0 xs hc (ix3 q k h)
      = x ⟨q.val / 16, by omega⟩ (ix3 ⟨q.val % 16, by omega⟩ k h) := by
  subst hx
  refine concatenate_ofFn_apply (t := S64x576x8) (s₁ := S16x576x8) 0 x hc rfl 16 rfl (ix3 q k h) ⟨q.val / 16, by omega⟩ rfl
    (ix3 ⟨q.val % 16, by omega⟩ k h) rfl ?_
  intro b hb
  fin_cases b
  · exact absurd rfl hb
  · rfl
  · rfl

/-- The reversed table of biases, its first row repeated in front of it. -/
def padded (T : S513x8.Idx → EReal) : S639x8.Idx → EReal :=
  concatenate S639x8 0
    [⟨S319x8, broadcastInDim S319x8 ![0, 1] bcast_S1x8_S319x8_0_1 (extractStridedSlice S1x8 ![0, 0] (Host.reverse [0] T) slices_S513x8_S1x8_0_0)⟩,
     ⟨S320x8, extractStridedSlice S320x8 ![0, 0] (Host.reverse [0] T) slices_S513x8_S320x8_0_0⟩]
    concatenates_S319x8_S320x8_S639x8_d0

/-- The rows of `T` from row `off` on, as a slab. -/
def slab (T : S639x8.Idx → EReal) (off : Nat) (ho : off ≤ 63) : S1x576x8.Idx → EReal :=
  fun i => T (ix2 ⟨off + (i 1).val, by have : (i 1).val < 576 := (i 1).isLt; omega⟩ (i 2))

/-- A slice of 576 rows, given a leading unit axis, is a slab. -/
theorem slab_eq (T : S639x8.Idx → EReal) (off : Nat) (ho : off ≤ 63) (hb) (hs) :
    broadcastInDim S1x576x8 ![1, 2] hb (extractStridedSlice S576x8 ![off, 0] T hs) = slab T off ho := by
  funext i
  unfold slab broadcastInDim extractStridedSlice
  refine congrArg T ?_
  funext a
  fin_cases a
  · exact Fin.ext rfl
  · exact Fin.ext (Nat.zero_add _)

/-- The operations before the slabs are cut, and the ones from there on. -/
def firstOps : List (HloOp τ sig (Elt Ideal)) := (hostOps0 (F := Ideal)).take 5
def restOps : List (HloOp τ sig (Elt Ideal)) := (hostOps0 (F := Ideal)).drop 5

theorem V_rest (c : Dev nD) (b) : V m c b = StableHlo.after restOps (StableHlo.after firstOps (fun b => m (c, b))) b := by
  unfold V
  rw [← StableHlo.after_append]
  exact congrArg (fun l => StableHlo.after l (fun b => m (c, b)) b) (List.take_append_drop 5 _).symm

theorem first_table (c : Dev nD) :
    (StableHlo.after firstOps (fun b => m (c, b)) main_v4 : S639x8.Idx → EReal) = padded (m (c, main_arg1)) := by
  unfold firstOps
  after_reads_simp
  rfl

set_option maxHeartbeats 1000000 in
/-- Slabs 0 to 15 of the stack. -/
theorem group0 (W) (T : S639x8.Idx → EReal) (hW : (W main_v4 : S639x8.Idx → EReal) = T) (s : Fin 16) (k : Fin 576) (h : Fin 8) :
    (StableHlo.after restOps W main_v133 : S16x576x8.Idx → EReal) (ix3 s k h)
      = slab T (63 - (0 * 16 + s.val)) (by omega) (ix3 0 k h) := by
  after_reads_simp
  refine stack16 (fun s => slab T (63 - (0 * 16 + s.val)) (by omega)) _ _ ?_ s k h
  repeat' refine List.cons_eq_cons.2 ⟨congrArg (Sigma.mk S1x576x8) ?_, ?_⟩
  all_goals first
    | rfl
    | (dsimp only [Matrix.cons_val]; after_reads_simp; rw [hW]; exact slab_eq _ _ _ _ _)

set_option maxHeartbeats 1000000 in
/-- Slabs 16 to 31 of the stack. -/
theorem group1 (W) (T : S639x8.Idx → EReal) (hW : (W main_v4 : S639x8.Idx → EReal) = T) (s : Fin 16) (k : Fin 576) (h : Fin 8) :
    (StableHlo.after restOps W main_v134 : S16x576x8.Idx → EReal) (ix3 s k h)
      = slab T (63 - (1 * 16 + s.val)) (by omega) (ix3 0 k h) := by
  after_reads_simp
  refine stack16 (fun s => slab T (63 - (1 * 16 + s.val)) (by omega)) _ _ ?_ s k h
  repeat' refine List.cons_eq_cons.2 ⟨congrArg (Sigma.mk S1x576x8) ?_, ?_⟩
  all_goals first
    | rfl
    | (dsimp only [Matrix.cons_val]; after_reads_simp; rw [hW]; exact slab_eq _ _ _ _ _)

set_option maxHeartbeats 1000000 in
/-- Slabs 32 to 47 of the stack. -/
theorem group2 (W) (T : S639x8.Idx → EReal) (hW : (W main_v4 : S639x8.Idx → EReal) = T) (s : Fin 16) (k : Fin 576) (h : Fin 8) :
    (StableHlo.after restOps W main_v135 : S16x576x8.Idx → EReal) (ix3 s k h)
      = slab T (63 - (2 * 16 + s.val)) (by omega) (ix3 0 k h) := by
  after_reads_simp
  refine stack16 (fun s => slab T (63 - (2 * 16 + s.val)) (by omega)) _ _ ?_ s k h
  repeat' refine List.cons_eq_cons.2 ⟨congrArg (Sigma.mk S1x576x8) ?_, ?_⟩
  all_goals first
    | rfl
    | (dsimp only [Matrix.cons_val]; after_reads_simp; rw [hW]; exact slab_eq _ _ _ _ _)

set_option maxHeartbeats 1000000 in
/-- Slabs 48 to 63 of the stack. -/
theorem group3 (W) (T : S639x8.Idx → EReal) (hW : (W main_v4 : S639x8.Idx → EReal) = T) (s : Fin 16) (k : Fin 576) (h : Fin 8) :
    (StableHlo.after restOps W main_v136 : S16x576x8.Idx → EReal) (ix3 s k h)
      = slab T (63 - (3 * 16 + s.val)) (by omega) (ix3 0 k h) := by
  after_reads_simp
  refine stack16 (fun s => slab T (63 - (3 * 16 + s.val)) (by omega)) _ _ ?_ s k h
  repeat' refine List.cons_eq_cons.2 ⟨congrArg (Sigma.mk S1x576x8) ?_, ?_⟩
  all_goals first
    | rfl
    | (dsimp only [Matrix.cons_val]; after_reads_simp; rw [hW]; exact slab_eq _ _ _ _ _)

set_option maxHeartbeats 1000000 in
/-- The stack of all slabs. -/
theorem stack_apply (W) (T : S639x8.Idx → EReal) (hW : (W main_v4 : S639x8.Idx → EReal) = T) (q : Fin 64) (k : Fin 576) (h : Fin 8) :
    (StableHlo.after restOps W main_v137 : S64x576x8.Idx → EReal) (ix3 q k h)
      = slab T (63 - q.val) (by omega) (ix3 0 k h) := by
  have u0 : StableHlo.upto restOps W 132 main_v133 = StableHlo.after restOps W main_v133 := by after_reads_simp
  have u1 : StableHlo.upto restOps W 132 main_v134 = StableHlo.after restOps W main_v134 := by after_reads_simp
  have u2 : StableHlo.upto restOps W 132 main_v135 = StableHlo.after restOps W main_v135 := by after_reads_simp
  have u3 : StableHlo.upto restOps W 132 main_v136 = StableHlo.after restOps W main_v136 := by after_reads_simp
  have g0 := group0 W T hW
  have g1 := group1 W T hW
  have g2 := group2 W T hW
  have g3 := group3 W T hW
  rw [← u0] at g0; rw [← u1] at g1; rw [← u2] at g2; rw [← u3] at g3
  clear u0 u1 u2 u3
  after_reads_simp
  refine (stack4 (fun a i => slab T (63 - (a.val * 16 + (i 0 : Fin 16).val)) (by omega) (ix3 0 (i 1) (i 2))) _ _ ?_ q k h).trans ?_
  · refine List.cons_eq_cons.2 ⟨congrArg (Sigma.mk S16x576x8) ?_, List.cons_eq_cons.2 ⟨congrArg (Sigma.mk S16x576x8) ?_,
      List.cons_eq_cons.2 ⟨congrArg (Sigma.mk S16x576x8) ?_, List.cons_eq_cons.2 ⟨congrArg (Sigma.mk S16x576x8) ?_, rfl⟩⟩⟩⟩
    · funext i; rw [eq_ix3 i]; exact g0 _ _ _
    · funext i; rw [eq_ix3 i]; exact g1 _ _ _
    · funext i; rw [eq_ix3 i]; exact g2 _ _ _
    · funext i; rw [eq_ix3 i]; exact g3 _ _ _
  · unfold slab
    refine congrArg T (congrArg (fun r => ix2 r h) (Fin.ext ?_))
    show 63 - (q.val / 16 * 16 + q.val % 16) + k.val = 63 - q.val + k.val
    omega

/-- The stacked slabs, the head first. -/
theorem bias_slab (c : Dev nD) (h : Fin 8) (q : Fin 64) (k : Fin 576) :
    bias m c (ix3 h q k) = slab (padded (m (c, main_arg1))) (63 - q.val) (by omega) (ix3 0 k h) := by
  unfold bias
  rw [V_rest]
  generalize hW : StableHlo.after firstOps (fun b => m (c, b)) = W
  have hT : (W main_v4 : S639x8.Idx → EReal) = padded (m (c, main_arg1)) := by rw [← hW]; exact first_table m c
  have e := stack_apply W _ hT q k h
  have u : StableHlo.upto restOps W 133 main_v137 = StableHlo.after restOps W main_v137 := by after_reads_simp
  rw [← u] at e
  clear u
  have e' : StableHlo.after restOps W main_v138 = transpose S8x64x576 [2, 0, 1] (StableHlo.upto restOps W 133 main_v137) transposes_S64x576x8_S8x64x576_2_0_1 := by
    after_reads_simp
  rw [e']
  unfold transpose
  refine Eq.trans (congrArg (StableHlo.upto restOps W 133 main_v137 : S64x576x8.Idx → EReal) ?_) e
  funext a
  fin_cases a <;> rfl

/-- A row of the padded table. -/
theorem padded_apply (T : S513x8.Idx → EReal) (i : Fin 639) (h : Fin 8) :
    padded T (ix2 i h) = T (ix2 ⟨512 - (i.val - 319), by omega⟩ h) := by
  unfold padded
  pointwise [Host.reverse]
  split
  · refine congrArg T (funext fun a => ?_)
    fin_cases a
    · exact Fin.ext (by show 513 - (0 + 1) = 512 - (i.val - 319); omega)
    · rfl
  · refine congrArg T (funext fun a => ?_)
    fin_cases a
    · exact Fin.ext (by show 513 - (i.val - 319 + 1) = 512 - (i.val - 319); omega)
    · rfl

/-- **The bias the blocks get.** Row `q` of a chunk, key `k` of its band: the table's row at the clipped offset. -/
theorem bias_apply (c : Dev nD) (h : Fin 8) (q : Fin 64) (k : Fin 576) :
    bias m c (ix3 h q k) = (m (c, main_arg1) : S513x8.Idx → EReal) (ix2 ⟨512 - (k.val - (q.val + 256)), by omega⟩ h) := by
  rw [bias_slab]
  refine (padded_apply _ _ _).trans (congrArg _ (congrArg (fun r => ix2 r h) (Fin.ext ?_)))
  show 512 - (63 - q.val + k.val - 319) = 512 - (k.val - (q.val + 256))
  omega

end Cert.KernelIdeal.Value
-- ==== Proof.Equation.lean ====
module
public import proofs.«01_k».proof.Proof.RefValue
public import proofs.«01_k».proof.Proof.Bias
set_option maxRecDepth 16384

@[expose] public noncomputable section
open Idealize.ShloMosaic Idealize.ShloMosaic.TcCoe Idealize.SL.Sem
namespace Cert.Attention
open Cert.KernelIdeal.Value Cert.ReferenceIdeal.Band

variable (Z : FVec Ideal Cert.KernelIdeal.S9216x8192 .f32) (T : Cert.KernelIdeal.S513x8.Idx → EReal) (B : FVec Ideal Cert.KernelIdeal.S8x64x576 .f32)

/-- A number: neither of the infinities. -/
abbrev Num (x : EReal) : Prop := x ≠ ⊤ ∧ x ≠ ⊥

theorem fin_mul {x y : EReal} (hx : Num x) (hy : Num y) : Num (x * y) := by
  obtain ⟨hx, hx'⟩ := hx
  obtain ⟨hy, hy'⟩ := hy
  lift x to ℝ using ⟨hx, hx'⟩
  lift y to ℝ using ⟨hy, hy'⟩
  rw [← EReal.coe_mul]
  exact ⟨EReal.coe_ne_top _, EReal.coe_ne_bot _⟩

theorem fin_add {x y : EReal} (hx : Num x) (hy : Num y) : Num (x + y) := by
  obtain ⟨hx, hx'⟩ := hx
  obtain ⟨hy, hy'⟩ := hy
  lift x to ℝ using ⟨hx, hx'⟩
  lift y to ℝ using ⟨hy, hy'⟩
  rw [← EReal.coe_add]
  exact ⟨EReal.coe_ne_top _, EReal.coe_ne_bot _⟩

theorem fin_sum {ι : Type} (s : Finset ι) (f : ι → EReal) (hf : ∀ i, Num (f i)) : Num (∑ i ∈ s, f i) := by
  classical
  induction s using Finset.induction_on with
  | empty => exact ⟨by simp, by simp⟩
  | insert a s ha ih => rw [Finset.sum_insert ha]; exact fin_add (hf a) ih

/-- The scale is a number. -/
theorem fin_scale : Num (Ideal.ofBits .f32 0x3DB504F3#32) := by
  refine ⟨?_, ?_⟩ <;> simp [Ideal.ofBits, Ideal.ieee]
  · exact (fin_mul ⟨EReal.coe_ne_top _, EReal.coe_ne_bot _⟩ ⟨EReal.coe_ne_top _, EReal.coe_ne_bot _⟩).1
  · exact (fin_mul ⟨EReal.coe_ne_top _, EReal.coe_ne_bot _⟩ ⟨EReal.coe_ne_top _, EReal.coe_ne_bot _⟩).2

/-- From entries that are numbers, a visible key's score is one. -/
theorem fin_score (hZ : ∀ i, Num (Z i)) (hT : ∀ i, Num (T i)) (b : Fin 2) (n : Fin 64) (h : Fin 8) (q : Fin 64) (k : Fin 576)
    (hk : 512 ≤ n.val * 64 + k.val) : Num (bscore Z T b n h q k) := by
  unfold bscore
  rw [if_pos hk]
  exact fin_add (fin_mul (fin_sum _ _ fun x => fin_mul (hZ _) (hZ _)) fin_scale) (hT _)

/-- From entries that are numbers, the weights of a query have a sum that is not zero: the query sees its own key. -/
theorem mass_ne (hZ : ∀ i, Num (Z i)) (hT : ∀ i, Num (T i)) (b : Fin 2) (n : Fin 64) (h : Fin 8) (q : Fin 64) :
    Band.mass (bscore Z T b n h q) ≠ 0 := by
  refine Band.mass_ne_zero _ (fun k => ?_) ⟨512 + q.val, by omega⟩ (fin_score Z T hZ hT _ _ _ _ _ (by dsimp only; omega)).2
  by_cases hk : 512 ≤ n.val * 64 + k.val
  · exact (fin_score Z T hZ hT b n h q k hk).1
  · unfold bscore; rw [if_neg hk]; exact bot_ne_top

/-- Inside the band the two programs' scores are one expression. -/
theorem score_eq (hB : ∀ (h : Fin 8) (q : Fin 64) (k : Fin 576), B (ix3 h q k) = T (ix2 ⟨512 - (k.val - (q.val + 256)), by omega⟩ h))
    (R : Fin 8192) (h : Fin 8) (k : Fin 576) :
    kscore Z B R h ⟨64 * (R.val % 256 / 64) + k.val, by omega⟩
      = bscore Z T ⟨R.val / 4096, by omega⟩ ⟨R.val % 4096 / 64, by omega⟩ h ⟨R.val % 64, by omega⟩ k := by
  have hR := R.isLt
  have hk := k.isLt
  unfold kscore bscore
  by_cases hv : 512 ≤ R.val % 4096 / 64 * 64 + k.val
  · rw [if_pos (show 512 ≤ R.val % 4096 / 256 * 256 + (64 * (R.val % 256 / 64) + k.val) by omega), if_pos hv]
    refine congrArg₂ (· + ·) (congrArg (· * _) (Finset.sum_congr rfl fun x _ => congrArg₂ (· * ·) ?_ ?_)) ?_
    · refine congrArg Z (congrArg₂ ix2 (Fin.ext ?_) rfl)
      show R.val = R.val / 4096 * 4096 + (R.val % 4096 / 64 * 64 + R.val % 64)
      omega
    · refine congrArg Z (congrArg₂ ix2 (Fin.ext ?_) rfl)
      show R.val / 4096 * 4096 + (R.val % 4096 / 256 - (2 - (64 * (R.val % 256 / 64) + k.val) / 256)) * 256 + (64 * (R.val % 256 / 64) + k.val) % 256
        = R.val / 4096 * 4096 + (R.val % 4096 / 64 * 64 + k.val - 512)
      omega
    · unfold biasPlane
      rw [dif_pos (by dsimp only; omega), hB]
      refine congrArg T (congrArg (fun r => ix2 r h) (Fin.ext ?_))
      show 512 - (64 * (R.val % 256 / 64) + k.val - 64 * (R.val % 256 / 64) - (R.val % 256 % 64 + 256)) = 512 - (k.val - (R.val % 64 + 256))
      omega
  · rw [if_neg (show ¬ 512 ≤ R.val % 4096 / 256 * 256 + (64 * (R.val % 256 / 64) + k.val) by omega), if_neg hv]

/-- Outside the band the kernel's scores are minus infinity. -/
theorem score_out (R : Fin 8192) (h : Fin 8) (j : Fin 768)
    (hj : ¬ (64 * (R.val % 256 / 64) ≤ j.val ∧ j.val < 64 * (R.val % 256 / 64) + 576)) : kscore Z B R h j = ⊥ := by
  unfold kscore
  split_ifs with hv
  · unfold biasPlane
    rw [dif_neg hj]
    exact (congrArg (_ + ·) mask_bot).trans (EReal.add_bot _)
  · rfl

/-- The row of the projection a band's key lies in, in the kernel's count and in the reference's. -/
theorem krow_band (R : Fin 8192) (k : Fin 576) (hv : 512 ≤ R.val % 4096 / 64 * 64 + k.val) :
    (krow R ⟨64 * (R.val % 256 / 64) + k.val, by omega⟩).val = R.val / 4096 * 4096 + (R.val % 4096 / 64 * 64 + k.val - 512) := by
  have hR := R.isLt
  have hk := k.isLt
  show R.val / 4096 * 4096 + (R.val % 4096 / 256 - (2 - (64 * (R.val % 256 / 64) + k.val) / 256)) * 256 + (64 * (R.val % 256 / 64) + k.val) % 256
      = R.val / 4096 * 4096 + (R.val % 4096 / 64 * 64 + k.val - 512)
  omega

/-- Where a band's score is not minus infinity the two programs read one value. -/
theorem value_row (R : Fin 8192) (l : Fin 1024) (b : Fin 2) (n : Fin 64) (h : Fin 8) (d : Fin 128) (k : Fin 576) (r : Fin 9216)
    (hv : 512 ≤ n.val * 64 + k.val) (hr : r.val = b.val * 4096 + (n.val * 64 + k.val - 512)) (hl : l.val = h.val * 128 + d.val) :
    Z (ix2 r ⟨2048 + l.val, by omega⟩) = value Z b n h d k := by
  refine Eq.trans ?_ (vband_at Z b n k h d hv).symm
  refine congrArg Z (congrArg₂ ix2 (Fin.ext hr) (Fin.ext ?_))
  show 2048 + l.val = 2048 + (h.val * 128 + d.val)
  omega

/-- **The value.** Row by row and column by column the kernel's array is the reference's result. -/
theorem value_eq (hZ : ∀ i, Num (Z i)) (hT : ∀ i, Num (T i))
    (hB : ∀ (h : Fin 8) (q : Fin 64) (k : Fin 576), B (ix3 h q k) = T (ix2 ⟨512 - (k.val - (q.val + 256)), by omega⟩ h))
    (R : Fin 8192) (l : Fin 1024) :
    kval Z B R l = Cert.ReferenceIdeal.Read.val_main_v92 (F := Ideal) Z T (ix2 R l) := by
  refine Eq.trans ?_ (result_at Z T R l).symm
  unfold kval
  have hs := score_eq Z T B hB R ⟨l.val / 128, by omega⟩
  have ho := score_out Z B R ⟨l.val / 128, by omega⟩
  have hv (k : Fin 576) (hk : 512 ≤ R.val % 4096 / 64 * 64 + k.val) :=
    value_row Z R l ⟨R.val / 4096, by omega⟩ ⟨R.val % 4096 / 64, by omega⟩ ⟨l.val / 128, by omega⟩ ⟨l.val % 128, by omega⟩ k
      (krow R ⟨64 * (R.val % 256 / 64) + k.val, by omega⟩) hk (krow_band R k hk) (by dsimp only; omega)
  have hm := mass_ne Z T hZ hT ⟨R.val / 4096, by omega⟩ ⟨R.val % 4096 / 64, by omega⟩ ⟨l.val / 128, by omega⟩ ⟨R.val % 64, by omega⟩
  have hn (k : Fin 576) (hk : bscore Z T ⟨R.val / 4096, by omega⟩ ⟨R.val % 4096 / 64, by omega⟩ ⟨l.val / 128, by omega⟩ ⟨R.val % 64, by omega⟩ k ≠ ⊥) :
      512 ≤ R.val % 4096 / 64 * 64 + k.val := by
    by_contra hv
    exact hk (if_neg hv)
  generalize kscore Z B R ⟨l.val / 128, by omega⟩ = S at hs ho ⊢
  generalize bscore Z T ⟨R.val / 4096, by omega⟩ ⟨R.val % 4096 / 64, by omega⟩ ⟨l.val / 128, by omega⟩ ⟨R.val % 64, by omega⟩ = s at hs hm hn ⊢
  exact Band.soft_window s (value Z ⟨R.val / 4096, by omega⟩ ⟨R.val % 4096 / 64, by omega⟩ ⟨l.val / 128, by omega⟩ ⟨l.val % 128, by omega⟩) S (fun j => Z (ix2 (krow R j) ⟨2048 + l.val, by omega⟩)) (64 * (R.val % 256 / 64)) (by omega) hs
    (fun k hk => hv k (hn k hk)) ho hm

end Cert.Attention
-- ==== Proof.Finite.lean ====
module
public import proofs.«01_k».proof.Pre_finite
public import proofs.«01_k».proof.Proof.Equation
public import Idealize.ShloMosaic.Lib.ReduceAll
set_option maxRecDepth 16384

@[expose] public noncomputable section
open Idealize.ShloMosaic Idealize.ShloMosaic.TcCoe Idealize.SL.Sem
namespace Cert.Attention

/-- The side conditions the precondition states. -/
theorem facts : Cert.Pre_finite.Facts where
  bcast_S_S9216x8192 := by decide
  reducesTo_S9216x8192_S_d0_1 := by decide
  h_S_ := by decide
  bcast_S_S513x8 := by decide
  reducesTo_S513x8_S_d0_1 := by decide

theorem ofBits_pos_inf : Ideal.ofBits .f32 0x7F800000#32 = ⊤ := by
  simp [Ideal.ofBits, Ideal.ieee]

/-- Two comparisons that came out true put an entry between the infinities. -/
theorem num_of_cmp (x : EReal) (h : IntOp.andi (Ideal.cmp .olt x (Ideal.ofBits .f32 0x7F800000#32)) (Ideal.cmp .ogt x (Ideal.ofBits .f32 0xFF800000#32)) = 1#1) :
    Num x := by
  rw [ofBits_pos_inf, Cert.ReferenceIdeal.Band.ofBits_neg_inf] at h
  obtain ⟨h1, h2⟩ := IntOp.andi_eq_one.1 h
  constructor
  · rintro rfl
    simp [Ideal.cmp] at h1
  · rintro rfl
    simp [Ideal.cmp] at h2

/-- What the precondition says of the two arguments. -/
theorem num_of_pre (z : Cert.KernelIdeal.S9216x8192.Idx → EReal) (t : Cert.KernelIdeal.S513x8.Idx → EReal)
    (h : @Cert.Pre_finite.fn facts Ideal _ z t = fun _ => 1#1) : (∀ i, Num (z i)) ∧ ∀ i, Num (t i) := by
  have h0 := congrFun h (Shape.Idx.first (facts.h_S_))
  obtain ⟨ha, hb⟩ := IntOp.andi_eq_one.1 h0
  haveI : Subsingleton Cert.Pre_finite.S_.Idx := ⟨fun a b => funext fun i => i.elim0⟩
  exact ⟨fun i => num_of_cmp _ (Host.reduce_andi_all _ _ _ _ _ ha i), fun i => num_of_cmp _ (Host.reduce_andi_all _ _ _ _ _ hb i)⟩

end Cert.Attention
-- ==== Proof.MoeStep.lean ====
/-
One product of the expert feed-forward kernel, entry by entry, over the extended reals.
-/
module

public import proofs.«01_k».proof.Proof.MoeLaunch
public import proofs.«01_k».proof.Proof.MoeSpec
public import Idealize.ShloMosaic.Lib.Pipeline.ValueKit
public import Idealize.ShloMosaic.PureOps.Ideal.Laws

@[expose] public section

set_option maxRecDepth 16384

noncomputable section

namespace Cert.Proof.Moe

open Cert.Kernel2Ideal Cert.Kernel2Ideal.Gen
open Idealize.ShloMosaic Idealize.ShloMosaic.TcCoe Idealize.SL.Sem

/-- The cleared tile is zero. -/
theorem pay1_apply (y : S768x2048.Idx) : k0_pay1 (F := Ideal) y = 0 := by
  pointwise [k0_pay1]

/-- The tile with one column block's product added. -/
theorem pay2_apply (y : FVec Ideal S768x2048 .f32) (x0 : FVec Ideal S768x2048 .bf16) (x1 x2 : FVec Ideal S1x1x2048x512 .f32)
    (x3 : FVec Ideal S1x1x512x2048 .f32) (r : Fin 768) (l : Fin 2048) :
    k0_pay2 (F := Ideal) y x0 x1 x2 x3 (ix2 r l)
      = y (ix2 r l) + ∑ k : Fin 512, Cert.Moe.unit (fun q => x0 (ix2 r q)) (fun q => x1 (ix4 0 0 q k)) (fun q => x2 (ix4 0 0 q k)) * x3 (ix4 0 0 k l) := by
  pointwise [k0_pay2]
  rfl

/-- The block of rows of a point is its tile of rows. -/
theorem transform0_eq : ∀ t : Fin grid0.N, cc0_transform_0 (grid0.coords t) = ![t.val / 11, 0] := by
  decide +kernel

variable (T0 T1 : S31.Idx → BitVec 32) (hE : ∀ x, (T0 x).toNat < 8)
variable (m : (ℓ : Loc nD τ sig) → Buf (Elt Ideal) ℓ) (ρ : Dev nD → PrngReg)

/-- The rows, and the three weights. -/
abbrev rows (c : Dev nD) : FVec Ideal S23808x2048 .bf16 := m ((c.tc : Thread nD τ).loc main_arg2)
abbrev wGate (c : Dev nD) : FVec Ideal S1x8x2048x5632 .f32 := m ((c.tc : Thread nD τ).loc main_arg3)
abbrev wUp (c : Dev nD) : FVec Ideal S1x8x2048x5632 .f32 := m ((c.tc : Thread nD τ).loc main_arg4)
abbrev wDown (c : Dev nD) : FVec Ideal S1x8x5632x2048 .f32 := m ((c.tc : Thread nD τ).loc main_arg5)

/-- The tile of rows a point works on. -/
def rowTile (t : Fin (cfgT (F := Ideal) T0 T1 hE).N) : Fin 31 := ⟨t.val / 11, by have := t.isLt; have : (cfgT (F := Ideal) T0 T1 hE).N = 341 := N_0; omega⟩

theorem coord0 (t : Fin (cfgT (F := Ideal) T0 T1 hE).N) : (pt T0 T1 hE t) 0 = rowTile T0 T1 hE t :=
  Fin.ext (coords_eq t).1

/-- The expert of a tile of rows. -/
def expOf (i : Fin 31) : Fin 8 := ⟨(T0 (ix1 i)).toNat, hE _⟩

theorem blk_rows (c : Dev nD) (t : Fin (cfgT (F := Ideal) T0 T1 hE).N) (r : Fin 768) (q : Fin 2048) :
    (blockAt T0 T1 hE m ρ c (0 : Fin 5) t : FVec Ideal S768x2048 .bf16) (ix2 r q)
      = rows m c (ix2 ⟨(rowTile T0 T1 hE t).val * 768 + r, by omega⟩ q) := by
  blk_simp [blockAt]
  refine congrArg (rows m c) (funext fun a => Fin.ext ?_)
  have e := transform0_eq t
  match a with
  | ⟨0, _⟩ => show cc0_transform_0 (grid0.coords t) 0 * 768 + 1 * (r : ℕ) = t.val / 11 * 768 + r
              rw [e]; show t.val / 11 * 768 + 1 * (r : ℕ) = _; omega
  | ⟨1, _⟩ => show cc0_transform_0 (grid0.coords t) 1 * 2048 + 1 * (q : ℕ) = q
              rw [e]; show 0 * 2048 + 1 * (q : ℕ) = _; omega

/-- The gate's block at a point of a tile that holds rows: the tile's expert, the point's columns. -/
theorem blk_gate (c : Dev nD) (t : Fin (cfgT (F := Ideal) T0 T1 hE).N) (hv : T1 (ix1 (rowTile T0 T1 hE t)) = 1#32) (q : Fin 2048) (k : Fin 512) :
    (blockAt T0 T1 hE m ρ c (1 : Fin 5) t : FVec Ideal S1x1x2048x512 .f32) (ix4 0 0 q k)
      = wGate m c (ix4 0 (expOf T0 hE (rowTile T0 T1 hE t)) q ⟨t.val % 11 * 512 + k, by omega⟩) := by
  blk_simp [blockAt]
  refine congrArg (wGate m c) (funext fun a => Fin.ext ?_)
  have e := transform1_eq (F := Ideal) T0 T1 (pt T0 T1 hE t)
  unfold col at e
  rw [coord0, if_pos hv, (coords_eq t).2] at e
  match a with
  | ⟨0, _⟩ => show cc0_transform_1 (F := Ideal) k0_off1_inb numel1_S1 (tables T0 T1) (pt T0 T1 hE t) 0 * 1 + 1 * 0 = 0
              rw [e]; rfl
  | ⟨1, _⟩ => show cc0_transform_1 (F := Ideal) k0_off1_inb numel1_S1 (tables T0 T1) (pt T0 T1 hE t) 1 * 1 + 1 * 0 = (T0 (ix1 (rowTile T0 T1 hE t))).toNat
              rw [e]; show (T0 (ix1 (rowTile T0 T1 hE t))).toNat * 1 + 1 * 0 = _; omega
  | ⟨2, _⟩ => show cc0_transform_1 (F := Ideal) k0_off1_inb numel1_S1 (tables T0 T1) (pt T0 T1 hE t) 2 * 2048 + 1 * (q : ℕ) = q
              rw [e]; show 0 * 2048 + 1 * (q : ℕ) = _; omega
  | ⟨3, _⟩ => show cc0_transform_1 (F := Ideal) k0_off1_inb numel1_S1 (tables T0 T1) (pt T0 T1 hE t) 3 * 512 + 1 * (k : ℕ) = t.val % 11 * 512 + k
              rw [e]; show t.val % 11 * 512 + 1 * (k : ℕ) = _; omega

/-- The same of the second factor's weights. -/
theorem blk_up (c : Dev nD) (t : Fin (cfgT (F := Ideal) T0 T1 hE).N) (hv : T1 (ix1 (rowTile T0 T1 hE t)) = 1#32) (q : Fin 2048) (k : Fin 512) :
    (blockAt T0 T1 hE m ρ c (2 : Fin 5) t : FVec Ideal S1x1x2048x512 .f32) (ix4 0 0 q k)
      = wUp m c (ix4 0 (expOf T0 hE (rowTile T0 T1 hE t)) q ⟨t.val % 11 * 512 + k, by omega⟩) := by
  blk_simp [blockAt]
  refine congrArg (wUp m c) (funext fun a => Fin.ext ?_)
  have e := transform2_eq (F := Ideal) T0 T1 (pt T0 T1 hE t)
  unfold col at e
  rw [coord0, if_pos hv, (coords_eq t).2] at e
  match a with
  | ⟨0, _⟩ => show cc0_transform_2 (F := Ideal) k0_off1_inb numel1_S1 (tables T0 T1) (pt T0 T1 hE t) 0 * 1 + 1 * 0 = 0
              rw [e]; rfl
  | ⟨1, _⟩ => show cc0_transform_2 (F := Ideal) k0_off1_inb numel1_S1 (tables T0 T1) (pt T0 T1 hE t) 1 * 1 + 1 * 0 = (T0 (ix1 (rowTile T0 T1 hE t))).toNat
              rw [e]; show (T0 (ix1 (rowTile T0 T1 hE t))).toNat * 1 + 1 * 0 = _; omega
  | ⟨2, _⟩ => show cc0_transform_2 (F := Ideal) k0_off1_inb numel1_S1 (tables T0 T1) (pt T0 T1 hE t) 2 * 2048 + 1 * (q : ℕ) = q
              rw [e]; show 0 * 2048 + 1 * (q : ℕ) = _; omega
  | ⟨3, _⟩ => show cc0_transform_2 (F := Ideal) k0_off1_inb numel1_S1 (tables T0 T1) (pt T0 T1 hE t) 3 * 512 + 1 * (k : ℕ) = t.val % 11 * 512 + k
              rw [e]; show t.val % 11 * 512 + 1 * (k : ℕ) = _; omega

/-- The block of the weights that lead back: the point's rows. -/
theorem blk_down (c : Dev nD) (t : Fin (cfgT (F := Ideal) T0 T1 hE).N) (hv : T1 (ix1 (rowTile T0 T1 hE t)) = 1#32) (k : Fin 512) (l : Fin 2048) :
    (blockAt T0 T1 hE m ρ c (3 : Fin 5) t : FVec Ideal S1x1x512x2048 .f32) (ix4 0 0 k l)
      = wDown m c (ix4 0 (expOf T0 hE (rowTile T0 T1 hE t)) ⟨t.val % 11 * 512 + k, by omega⟩ l) := by
  blk_simp [blockAt]
  refine congrArg (wDown m c) (funext fun a => Fin.ext ?_)
  have e := transform3_eq (F := Ideal) T0 T1 (pt T0 T1 hE t)
  unfold col at e
  rw [coord0, if_pos hv, (coords_eq t).2] at e
  match a with
  | ⟨0, _⟩ => show cc0_transform_3 (F := Ideal) k0_off1_inb numel1_S1 (tables T0 T1) (pt T0 T1 hE t) 0 * 1 + 1 * 0 = 0
              rw [e]; rfl
  | ⟨1, _⟩ => show cc0_transform_3 (F := Ideal) k0_off1_inb numel1_S1 (tables T0 T1) (pt T0 T1 hE t) 1 * 1 + 1 * 0 = (T0 (ix1 (rowTile T0 T1 hE t))).toNat
              rw [e]; show (T0 (ix1 (rowTile T0 T1 hE t))).toNat * 1 + 1 * 0 = _; omega
  | ⟨2, _⟩ => show cc0_transform_3 (F := Ideal) k0_off1_inb numel1_S1 (tables T0 T1) (pt T0 T1 hE t) 2 * 512 + 1 * (k : ℕ) = t.val % 11 * 512 + k
              rw [e]; show t.val % 11 * 512 + 1 * (k : ℕ) = _; omega
  | ⟨3, _⟩ => show cc0_transform_3 (F := Ideal) k0_off1_inb numel1_S1 (tables T0 T1) (pt T0 T1 hE t) 3 * 2048 + 1 * (l : ℕ) = l
              rw [e]; show 0 * 2048 + 1 * (l : ℕ) = _; omega

/-- The number of column blocks a point's tile has taken in, and the row of the array an entry of the tile is. -/
abbrev arrRow (t : Fin (cfgT (F := Ideal) T0 T1 hE).N) (r : Fin 768) : Fin 23808 := ⟨(rowTile T0 T1 hE t).val * 768 + r, by omega⟩

/-- One point's work on a tile that holds rows: the next 512 hidden units of its expert. -/
theorem next_valid (c : Dev nD) (t : Fin (cfgT (F := Ideal) T0 T1 hE).N) (hv : T1 (ix1 (rowTile T0 T1 hE t)) = 1#32)
    (y : FVec Ideal S768x2048 .f32) (r : Fin 768) (l : Fin 2048)
    (hy : (if t.val % 11 = 0 then 0 else y (ix2 r l))
      = Cert.Moe.partSum (rows m c) (wGate m c) (wUp m c) (wDown m c) (expOf T0 hE (rowTile T0 T1 hE t)) (arrRow T0 T1 hE t r) l (t.val % 11)) :
    next T0 T1 hE m ρ c t y (ix2 r l)
      = Cert.Moe.partSum (rows m c) (wGate m c) (wUp m c) (wDown m c) (expOf T0 hE (rowTile T0 T1 hE t)) (arrRow T0 T1 hE t r) l (t.val % 11 + 1) := by
  rw [Cert.Moe.partSum_succ _ _ _ _ _ _ _ _ (Nat.mod_lt _ (by decide)), ← hy]
  have h2 : k0_cond2 (word (F := Ideal) T1 (pt T0 T1 hE t)) = 1#1 := by
    rw [cond2_iff, word_eq, coord0]; exact hv
  have hc : cleared (F := Ideal) (pt T0 T1 hE t) y (ix2 r l) = if t.val % 11 = 0 then 0 else y (ix2 r l) := by
    have h1 := cond1_iff (pt T0 T1 hE t)
    rw [(coords_eq t).2] at h1
    unfold cleared
    by_cases h : t.val % 11 = 0
    · rw [if_pos h, if_pos (h1.2 h), pay1_apply]
    · rw [if_neg h, if_neg (fun hh => h (h1.1 hh))]
  unfold next tile
  rw [if_pos h2, pay2_apply, hc]
  refine congrArg _ (Finset.sum_congr rfl fun k _ => ?_)
  unfold Cert.Moe.term
  refine congrArg₂ (· * ·) ?_ (blk_down T0 T1 hE m ρ c t hv k l)
  rw [funext fun q => blk_rows T0 T1 hE m ρ c t r q, funext fun q => blk_gate T0 T1 hE m ρ c t hv q k, funext fun q => blk_up T0 T1 hE m ρ c t hv q k]

/-- A point of a tile without rows: cleared at the first column block, then left. -/
theorem next_invalid (c : Dev nD) (t : Fin (cfgT (F := Ideal) T0 T1 hE).N) (hv : T1 (ix1 (rowTile T0 T1 hE t)) ≠ 1#32)
    (y : FVec Ideal S768x2048 .f32) (x : S768x2048.Idx) :
    next T0 T1 hE m ρ c t y x = if t.val % 11 = 0 then 0 else y x := by
  have h2 : ¬ k0_cond2 (word (F := Ideal) T1 (pt T0 T1 hE t)) = 1#1 := by
    rw [cond2_iff, word_eq, coord0]; exact hv
  have h1 := cond1_iff (pt T0 T1 hE t)
  rw [(coords_eq t).2] at h1
  unfold next tile cleared
  rw [if_neg h2]
  by_cases h : t.val % 11 = 0
  · rw [if_pos h, if_pos (h1.2 h), pay1_apply]
  · rw [if_neg h, if_neg (fun hh => h (h1.1 hh))]

/-- What the output tile holds after every point. -/
theorem tile_value (c : Dev nD) : ∀ (n : ℕ) (hn : n < (cfgT (F := Ideal) T0 T1 hE).N) (r : Fin 768) (l : Fin 2048),
    tileAt T0 T1 hE m ρ c n hn (ix2 r l)
      = if T1 (ix1 (rowTile T0 T1 hE ⟨n, hn⟩)) = 1#32 then
          Cert.Moe.partSum (rows m c) (wGate m c) (wUp m c) (wDown m c) (expOf T0 hE (rowTile T0 T1 hE ⟨n, hn⟩)) (arrRow T0 T1 hE ⟨n, hn⟩ r) l (n % 11 + 1)
        else 0 := by
  intro n
  induction n with
  | zero =>
    intro hn r l
    split_ifs with hv
    · refine next_valid T0 T1 hE m ρ c ⟨0, hn⟩ hv _ r l ?_
      exact (if_pos rfl).trans (Cert.Moe.partSum_zero _ _ _ _ _ _ _).symm
    · exact (next_invalid T0 T1 hE m ρ c ⟨0, hn⟩ hv _ _).trans (if_pos rfl)
  | succ n ih =>
    intro hn r l
    have hlt : n < (cfgT (F := Ideal) T0 T1 hE).N := Nat.lt_of_succ_lt hn
    have same : (n + 1) % 11 ≠ 0 → rowTile T0 T1 hE ⟨n + 1, hn⟩ = rowTile T0 T1 hE ⟨n, hlt⟩ ∧ n % 11 + 1 = (n + 1) % 11 := fun h =>
      ⟨Fin.ext (by show (n + 1) / 11 = n / 11; omega), by omega⟩
    have ihn := ih hlt r l
    split_ifs with hv
    · refine next_valid T0 T1 hE m ρ c ⟨n + 1, hn⟩ hv _ r l ?_
      by_cases h : (n + 1) % 11 = 0
      · rw [if_pos h]
        show 0 = Cert.Moe.partSum _ _ _ _ _ _ _ ((n + 1) % 11)
        rw [h]
        exact (Cert.Moe.partSum_zero _ _ _ _ _ _ _).symm
      · rw [if_neg h]
        obtain ⟨e1, e2⟩ := same h
        rw [e1] at hv
        rw [if_pos hv, e2] at ihn
        rw [show arrRow T0 T1 hE ⟨n + 1, hn⟩ r = arrRow T0 T1 hE ⟨n, hlt⟩ r from
          Fin.ext (congrArg (fun i : Fin 31 => i.val * 768 + (r : ℕ)) e1), e1]
        exact ihn
    · refine (next_invalid T0 T1 hE m ρ c ⟨n + 1, hn⟩ hv _ _).trans ?_
      by_cases h : (n + 1) % 11 = 0
      · rw [if_pos h]
      · rw [if_neg h]
        obtain ⟨e1, e2⟩ := same h
        rw [e1] at hv
        rw [if_neg hv] at ihn
        exact ihn

/-- What the kernel's array holds: the expert's sum in a tile that holds rows, zero elsewhere. -/
def out (c : Dev nD) (R : Fin 23808) (l : Fin 2048) : EReal :=
  if T1 (ix1 ⟨(R : ℕ) / 768, by omega⟩) = 1#32 then
    Cert.Moe.expert (rows m c) (wGate m c) (wUp m c) (wDown m c) (expOf T0 hE ⟨(R : ℕ) / 768, by omega⟩) R l
  else 0

/-- The blocks written back tile the array. -/
theorem covers : ((cfgT (F := Ideal) T0 T1 hE).win (4 : Fin 5)).Covers := by
  have hN : (cfgT (F := Ideal) T0 T1 hE).N = 341 := N_0
  refine ⟨fun a => ?_, fun β => ?_⟩
  · match a with
    | ⟨0, _⟩ => exact (by decide : 0 < 768)
    | ⟨1, _⟩ => exact (by decide : 0 < 2048)
  · have hb0 : (β (0 : Fin 2)).val < 31 := lt_of_lt_of_eq (β (0 : Fin 2)).isLt (show (23808 + 768 - 1) / 768 = 31 by decide)
    have hb1 : (β (1 : Fin 2)).val < 1 := lt_of_lt_of_eq (β (1 : Fin 2)).isLt (show (2048 + 2048 - 1) / 2048 = 1 by decide)
    refine ⟨⟨11 * (β (0 : Fin 2)).val + 10, lt_of_lt_of_eq (show _ < 341 by omega) hN.symm⟩, ?_, fun a => ?_⟩
    · rw [flush_eq, decide_eq_true_eq]; show (11 * (β (0 : Fin 2)).val + 10 + 1) % 11 = 0; omega
    · have e := transform4_eq ⟨11 * (β (0 : Fin 2)).val + 10, lt_of_lt_of_eq (show _ < 341 by omega) hN.symm⟩
      match a with
      | ⟨0, _⟩ => exact ⟨(congrFun e (0 : Fin 2)).trans (by show (11 * (β (0 : Fin 2)).val + 10) / 11 = (β (0 : Fin 2)).val; omega), .inl rfl⟩
      | ⟨1, _⟩ => exact ⟨(congrFun e (1 : Fin 2)).trans (by show 0 = (β (1 : Fin 2)).val; omega), .inl rfl⟩

/-- The array the launch leaves. -/
theorem final (c : Dev nD) :
    (data T0 T1 hE m ρ 0 c).arrAt (4 : Fin 5) (cfgT (F := Ideal) T0 T1 hE).N = fun i : S23808x2048.Idx => out T0 T1 hE m c (i 0) (i 1) := by
  refine (data T0 T1 hE m ρ 0 c).arrAt_eq_of_covers (4 : Fin 5) _ (covers T0 T1 hE) fun t hf y => ?_
  rw [flush_eq, decide_eq_true_eq] at hf
  blk_simp
  obtain ⟨r, l, rfl⟩ : ∃ (r : Fin 768) (l : Fin 2048), y = ix2 r l := ⟨y (0 : Fin 2), y (1 : Fin 2), eq_ix2 y⟩
  have e := transform4_eq t
  have hm : t.val % 11 + 1 = 11 := by omega
  have e0 : (((cfgT (F := Ideal) T0 T1 hE).win (4 : Fin 5)).blk t).view.emb (ix2 r l) (0 : Fin 2) = arrRow T0 T1 hE t r := Fin.ext (by
    show cc0_transform_4 (grid0.coords t) 0 * 768 + 1 * (r : ℕ) = t.val / 11 * 768 + r
    rw [e]; show t.val / 11 * 768 + 1 * (r : ℕ) = _; omega)
  have e1 : (((cfgT (F := Ideal) T0 T1 hE).win (4 : Fin 5)).blk t).view.emb (ix2 r l) (1 : Fin 2) = l := Fin.ext (by
    show cc0_transform_4 (grid0.coords t) 1 * 2048 + 1 * (l : ℕ) = l
    rw [e]; show 0 * 2048 + 1 * (l : ℕ) = _; omega)
  refine Eq.trans (tile_value T0 T1 hE m ρ c t.val t.isLt r l) (Eq.trans ?_ (congrArg₂ (out T0 T1 hE m c) e0 e1).symm)
  have er : (⟨((arrRow T0 T1 hE t r : Fin 23808) : ℕ) / 768, by omega⟩ : Fin 31) = rowTile T0 T1 hE t :=
    Fin.ext (by show (t.val / 11 * 768 + (r : ℕ)) / 768 = t.val / 11; omega)
  unfold out
  rw [er, hm, Cert.Moe.partSum_all]

end Cert.Proof.Moe

end
-- ==== Proof.MoePre.lean ====
/-
The two programs of the experts side by side: what the precondition says of the table of experts,
and that from equal arguments both runs end with one array.
-/
module

public import proofs.«01_k».proof.Defs
public import proofs.«01_k».proof.Proof.MoeStep
public import proofs.«01_k».proof.Proof.MoeRef
public import proofs.«01_k».proof.Proof.Gen.Kernel2
public import proofs.«01_k».proof.Proof.Gen.Pre_experts_in_range
public import Idealize.ShloMosaic.Lib.ReduceAll

@[expose] public section

set_option maxRecDepth 16384

noncomputable section

namespace Cert.Proof.Moe

open Idealize.ShloMosaic Idealize.ShloMosaic.TcCoe Idealize.SL.Sem

/-- A word between zero and seven, read signed, is a natural below eight. -/
theorem lt_eight (x : BitVec 32) (h : IntOp.andi (IntOp.cmpi .sge x 0#32) (IntOp.cmpi .slt x 8#32) = 1#1) : x.toNat < 8 := by
  obtain ⟨h1, h2⟩ := IntOp.andi_eq_one.1 h
  have g1 : (0#32).sle x = true := by
    change BitVec.ofBool ((0#32).sle x) = 1#1 at h1
    cases hb : (0#32).sle x
    · rw [hb] at h1; exact absurd h1 (by decide)
    · rfl
  have g2 : x.slt 8#32 = true := by
    change BitVec.ofBool (x.slt 8#32) = 1#1 at h2
    cases hb : x.slt 8#32
    · rw [hb] at h2; exact absurd h2 (by decide)
    · rfl
  rw [BitVec.sle_iff_toInt_le] at g1
  rw [BitVec.slt_iff_toInt_lt] at g2
  rw [show (0#32 : BitVec 32).toInt = 0 by decide] at g1
  rw [show (8#32 : BitVec 32).toInt = 8 by decide] at g2
  rw [BitVec.toInt_eq_toNat_cond] at g1 g2
  split at g1 <;> omega

/-- What the precondition says: every tile's expert is one of the eight. -/
theorem experts_of_pre {F : FTy → Type} [FloatOps F] (te tv : Cert.Kernel2Ideal.S31.Idx → BitVec 32) (h) (g) (u) (d)
    (hp : @Cert.Pre_experts_in_range.fn Cert.Pre_experts_in_range.Gen.facts F _ te tv h g u d = fun _ => 1#1) (x) : (te x).toNat < 8 := by
  have h0 := congrFun hp (fun a => a.elim0)
  haveI : Subsingleton Cert.Pre_experts_in_range.S_.Idx := ⟨fun a b => funext fun i => i.elim0⟩
  exact lt_eight _ (Host.reduce_andi_all _ _ _ _ _ h0 x)

/-- The two printed kernels have one body. -/
theorem bodies_eq : Cert.Kernel2.defs₀ (F := Bits) = Cert.Kernel2Ideal.defs₀ (F := Bits) := by
  unfold Cert.Kernel2.defs₀ Cert.Kernel2Ideal.defs₀
  refine congrArg Defs.onTc ?_
  funext l a
  match l, a with
  | 0, (t, s) => rfl
  | ⟨_ + 1, h⟩, _ => exact absurd h (Nat.not_lt.2 (Nat.le_add_left _ _))

/-- And one table of programs. -/
theorem tables_eq : Cert.Kernel2.defs (F := Bits) = Cert.Kernel2Ideal.defs (F := Bits) := by
  unfold Cert.Kernel2.defs Cert.Kernel2Ideal.defs
  rw [bodies_eq]
  rfl

/-- The kernel's frame, over words: its text is the idealized program's. -/
theorem frame_kernel2 : Cert.quiescent_Kernel2 := by
  intro m ρ hp
  rw [tables_eq]
  exact frame_run (F := Bits) m ρ fun c => experts_of_pre _ _ _ _ _ _ (hp c)

/-- The kernel's frame, over the extended reals. -/
theorem frame_kernel2Ideal : Cert.quiescent_Kernel2Ideal := fun m ρ hp =>
  frame_run (F := Ideal) m ρ fun c => experts_of_pre _ _ _ _ _ _ (hp c)

/-- The reference's run, read at its arguments. -/
theorem frame_reference2 : Cert.quiescent_Reference2Ideal := by
  intro m g _
  have hr := Cert.Reference2Ideal.Value.run (F := Ideal) m g
  refine (θ_run (Cert.Reference2Ideal.defs (F := Ideal)) _ _).mono ?_ hr
  intro r h
  refine ⟨fun c => ?_, sem_eq_zero_of_no_sems (by decide) r.2⟩
  exact (h c).2

/-- The reference's array, of the kernel's arguments, is the array the kernel's launch leaves. -/
theorem sides (m : (ℓ : Loc Cert.Kernel2Ideal.nD Cert.Kernel2Ideal.τ Cert.Kernel2Ideal.sig) → Buf (Elt Ideal) ℓ) (g : Dev Cert.Kernel2Ideal.nD → PrngReg)
    (T0 T1 : Cert.Kernel2Ideal.S31.Idx → BitVec 32) (hE : ∀ x, (T0 x).toNat < 8) (c : Dev Cert.Kernel2Ideal.nD) :
    Cert.Reference2Ideal.Read.val_main_v139 (F := Ideal) T0 T1 (rows m c) (wGate m c) (wUp m c) (wDown m c)
      = (data (F := Ideal) T0 T1 hE m g 0 c).arrAt (4 : Fin 5) (cfgT (F := Ideal) T0 T1 hE).N := by
  refine Eq.trans ?_ (final T0 T1 hE m g c).symm
  funext i
  refine Eq.trans (congrArg (Cert.Reference2Ideal.Read.val_main_v139 (F := Ideal) T0 T1 (rows m c) (wGate m c) (wUp m c) (wDown m c)) (eq_ix2 i)) ?_
  exact Cert.Reference2Ideal.Experts.result_at T0 T1 (rows m c) (wGate m c) (wUp m c) (wDown m c) hE (i 0) (i 1)

/-- From equal arguments, the experts among the eight, the two programs end with equal results. -/
theorem algebraic2 : Cert.algebraic_Kernel2Ideal_Reference2Ideal := by
  intro m g m' g' hpre hagree
  have hE : ∀ x, (m (((0 : Dev Cert.Kernel2Ideal.nD).tc : Thread Cert.Kernel2Ideal.nD Cert.Kernel2Ideal.τ).loc Cert.Kernel2Ideal.main_arg0) x : BitVec 32).toNat < 8 :=
    experts_of_pre _ _ _ _ _ _ (hpre 0)
  have hp : Holds (F := Ideal) (m (((0 : Dev Cert.Kernel2Ideal.nD).tc : Thread Cert.Kernel2Ideal.nD Cert.Kernel2Ideal.τ).loc Cert.Kernel2Ideal.main_arg0)) (m (((0 : Dev Cert.Kernel2Ideal.nD).tc : Thread Cert.Kernel2Ideal.nD Cert.Kernel2Ideal.τ).loc Cert.Kernel2Ideal.main_arg1)) m := ⟨fun c => by rw [Subsingleton.elim c 0], fun c => by rw [Subsingleton.elim c 0]⟩
  refine ⟨fun c => (data (F := Ideal) (m (((0 : Dev Cert.Kernel2Ideal.nD).tc : Thread Cert.Kernel2Ideal.nD Cert.Kernel2Ideal.τ).loc Cert.Kernel2Ideal.main_arg0)) (m (((0 : Dev Cert.Kernel2Ideal.nD).tc : Thread Cert.Kernel2Ideal.nD Cert.Kernel2Ideal.τ).loc Cert.Kernel2Ideal.main_arg1)) hE m g 0 c).arrAt (4 : Fin 5) (cfgT (F := Ideal) (m (((0 : Dev Cert.Kernel2Ideal.nD).tc : Thread Cert.Kernel2Ideal.nD Cert.Kernel2Ideal.τ).loc Cert.Kernel2Ideal.main_arg0)) (m (((0 : Dev Cert.Kernel2Ideal.nD).tc : Thread Cert.Kernel2Ideal.nD Cert.Kernel2Ideal.τ).loc Cert.Kernel2Ideal.main_arg1)) hE).N, ?_, ?_⟩
  · refine (θ_run _ _ _).mono (fun r h c => ⟨?_, kept _ _ hE m g hp r h.1 c⟩) (run_all _ _ hE m g hp)
    exact (h.1 c).1 (4 : Fin 5)
  · refine (θ_run (Cert.Reference2Ideal.defs (F := Ideal)) _ _).mono (fun r h c => ⟨((h c).1.trans ?_), (h c).2⟩)
      (Cert.Reference2Ideal.Value.run (F := Ideal) m' g')
    obtain rfl : c = 0 := Subsingleton.elim c 0
    obtain ⟨e0, e1, e2, e3, e4, e5⟩ := hagree 0
    refine (Cert.Reference2Ideal.Read.val_main_v139_eq _).trans ?_
    refine Eq.trans ?_ (sides m g _ _ hE 0)
    exact congr (congr (congr (congr (congr (congrArg (Cert.Reference2Ideal.Read.val_main_v139 (F := Ideal)) e0) e1) e2) e3) e4) e5

end Cert.Proof.Moe

end
-- ==== Proof.KvRows.lean ====
/-
The kernel that saves the last keys and values: what its array ends holding, entry by entry.
-/
module

public import proofs.«01_k».proof.Proof.Gen.Kernel3Ideal.Frame
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel3Ideal.Rows

open Cert.Kernel3Ideal Cert.Kernel3Ideal.Gen
open Idealize.ShloMosaic Idealize.ShloMosaic.TcCoe Idealize.SL.Sem

/-- A head's tile, stored as a slice of the block. -/
theorem slot_at (v : FVec Ideal S512x128 .f32) (y : S1x512x1x128.Idx) :
    shapeCast S1x512x1x128 v shapeCasts_S512x128_S1x512x1x128 y = v (ix2 (y 1) (y 3)) := by
  obtain ⟨a, r, b, l, rfl⟩ : ∃ (a : Fin 1) (r : Fin 512) (b : Fin 1) (l : Fin 128), y = ix4 a r b l := ⟨y 0, y 1, y 2, y 3, eq_ix4 y⟩
  pointwise

/-- The block of columns of one head. -/
theorem head_at (x0 : FVec Ideal S512x1024 .f32) (h : Fin 8) (inb : ∀ a, (![0, 128 * h.val] : Fin 2 → ℕ) a + S512x128.size a ≤ S512x1024.size a)
    (r : Fin 512) (l : Fin 128) :
    View.ld (Val := Elt Ideal) (e' := .f32) x0 (Rect.unit (s := S512x1024) ![0, 128 * h.val] S512x128.size inb) (ix2 r l) = x0 (ix2 r ⟨h.val * 128 + l, by omega⟩) := by
  refine congrArg x0 (funext fun a => Fin.ext ?_)
  match a with
  | ⟨0, _⟩ => show 0 + 1 * (r : ℕ) = r; omega
  | ⟨1, _⟩ => show 128 * h.val + 1 * (l : ℕ) = h.val * 128 + l; omega

/-- A block of 1024 columns, eight heads of 128. -/
def byHead (x0 : FVec Ideal S512x1024 .f32) : FVec Ideal S1x512x8x128 .f32 := fun y =>
  x0 (ix2 (y 1) ⟨(y 2).val * 128 + (y 3).val, by have h2 : (y 2).val < 8 := (y 2).isLt; have h3 : (y 3).val < 128 := (y 3).isLt; omega⟩)

/-- One head's store is its part of the block. -/
theorem piece_at (x0 : FVec Ideal S512x1024 .f32) (h : Fin 8) (inb : ∀ a, (![0, 128 * h.val] : Fin 2 → ℕ) a + S512x128.size a ≤ S512x1024.size a)
    (inb' : ∀ a, (![0, 0, h.val, 0] : Fin 4 → ℕ) a + S1x512x1x128.size a ≤ S1x512x8x128.size a) (y : S1x512x1x128.Idx) :
    shapeCast S1x512x1x128 (View.ld (Val := Elt Ideal) (e' := .f32) x0 (Rect.unit (s := S512x1024) ![0, 128 * h.val] S512x128.size inb)) shapeCasts_S512x128_S1x512x1x128 y
      = byHead x0 ((Rect.unit (s := S1x512x8x128) ![0, 0, h.val, 0] S1x512x1x128.size inb').emb y) := by
  refine (slot_at _ y).trans ((head_at x0 h inb (y 1) (y 3)).trans (congrArg x0 (funext fun a => Fin.ext ?_)))
  have h2 : (y 2).val < 1 := (y 2).isLt
  match a with
  | ⟨0, _⟩ => show (y 1).val = 0 + 1 * (y 1).val; omega
  | ⟨1, _⟩ => show h.val * 128 + (y 3).val = (h.val + 1 * (y 2).val) * 128 + (0 + 1 * (y 3).val); omega

/-- What the body leaves in the result's block. -/
theorem out_at (x0 : FVec Ideal S512x1024 .f32) (y : S1x512x8x128.Idx) : out0_1 (F := Ideal) x0 y = byHead x0 y := by
  unfold out0_1
  refine View.canon_append_of_piecesOf (Val := Elt Ideal) (e := .f32) (byHead x0) [] _ ?_ y (cover0_1 _ _ _ _ _ _ _ _ y)
  exact ⟨piece_at x0 7 inb_S512x1024_S512x128_0_896 inb_S1x512x8x128_S1x512x1x128_0_0_7_0,
    piece_at x0 6 inb_S512x1024_S512x128_0_768 inb_S1x512x8x128_S1x512x1x128_0_0_6_0,
    piece_at x0 5 inb_S512x1024_S512x128_0_640 inb_S1x512x8x128_S1x512x1x128_0_0_5_0,
    piece_at x0 4 inb_S512x1024_S512x128_0_512 inb_S1x512x8x128_S1x512x1x128_0_0_4_0,
    piece_at x0 3 inb_S512x1024_S512x128_0_384 inb_S1x512x8x128_S1x512x1x128_0_0_3_0,
    piece_at x0 2 inb_S512x1024_S512x128_0_256 inb_S1x512x8x128_S1x512x1x128_0_0_2_0,
    piece_at x0 1 inb_S512x1024_S512x128_0_128 inb_S1x512x8x128_S1x512x1x128_0_0_1_0,
    piece_at x0 0 inb_S512x1024_S512x128_0_0 inb_S1x512x8x128_S1x512x1x128_0_0_0_0, trivial⟩

variable (m : (ℓ : Loc nD τ sig) → Buf (Elt Ideal) ℓ)

/-- The projection. -/
abbrev proj (c : Dev nD) : FVec Ideal S9216x8192 .f32 := m ((c.tc : Thread nD τ).loc main_arg0)

/-- Which blocks a point works on. -/
theorem idx : ∀ t : Fin cfg0.N, win0_0.index t = ![if t.val % 4 = 0 then 7 else 14 + t.val % 4, 1 + t.val / 4]
    ∧ win0_1.index t = ![t.val / 4, t.val % 4, 0, 0] :=
  (by decide +kernel : ∀ t : Fin grid0.N, _)

/-- The row of the projection that row `R` of the array holds. -/
def rowOf (R : ℕ) : ℕ := if R < 512 then 3584 + R else 7168 + R

theorem rowOf_lt {R : ℕ} (h : R < 2048) : rowOf R < 9216 := by unfold rowOf; split_ifs <;> omega

/-- What the array ends holding. -/
def saved (Z : FVec Ideal S9216x8192 .f32) (w : Fin 2) (R : Fin 2048) (h : Fin 8) (d : Fin 128) : EReal :=
  Z (ix2 ⟨rowOf R, rowOf_lt R.isLt⟩ ⟨(1 + w.val) * 1024 + h.val * 128 + d.val, by omega⟩)

theorem final (c : Dev nD) : (dats m 0 c).arrAt 1 cfg0.N = fun i => saved (proj m c) (i 0) (i 1) (i 2) (i 3) := by
  refine (dats m 0 c).arrAt_eq_of_covers 1 _ (by decide +kernel) fun t hf y => ?_
  blk_simp
  rw [after0_1]
  obtain ⟨e0, e1⟩ := idx t
  have ht : t.val < 8 := lt_of_lt_of_eq t.isLt N_0
  refine (out_at _ y).trans ?_
  unfold byHead
  blk_simp [iblk]
  unfold saved
  refine congrArg (proj m c) (funext fun a => Fin.ext ?_)
  have hy0 : (y 0).val < 1 := (y 0).isLt
  have hy1 : (y 1).val < 512 := (y 1).isLt
  match a with
  | ⟨0, _⟩ =>
    show win0_0.index t 0 * 512 + 1 * (y 1).val = rowOf (win0_1.index t 1 * 512 + 1 * (y 1).val)
    rw [e0, e1]
    show (if t.val % 4 = 0 then 7 else 14 + t.val % 4) * 512 + 1 * (y 1).val = rowOf (t.val % 4 * 512 + 1 * (y 1).val)
    unfold rowOf
    split_ifs <;> omega
  | ⟨1, _⟩ =>
    show win0_0.index t 1 * 1024 + 1 * ((y 2).val * 128 + (y 3).val)
      = (1 + (win0_1.index t 0 * 1 + 1 * (y 0).val)) * 1024 + (win0_1.index t 2 * 8 + 1 * (y 2).val) * 128 + (win0_1.index t 3 * 128 + 1 * (y 3).val)
    rw [e0, e1]
    show (1 + t.val / 4) * 1024 + 1 * ((y 2).val * 128 + (y 3).val)
      = (1 + (t.val / 4 * 1 + 1 * (y 0).val)) * 1024 + (0 * 8 + 1 * (y 2).val) * 128 + (0 * 128 + 1 * (y 3).val)
    omega

end Cert.Kernel3Ideal.Rows

end
-- ==== Proof.KvRun.lean ====
/-
The run of the kernel that saves the last keys and values, read at its four results.
-/
module

public import proofs.«01_k».proof.Proof.KvRows

@[expose] public section

set_option maxRecDepth 16384

noncomputable section

namespace Cert.Kernel3Ideal.Rows

open Cert.Kernel3Ideal Cert.Kernel3Ideal.Gen
open Idealize.ShloMosaic Idealize.ShloMosaic.TcCoe Idealize.SL.Sem

/-- The prompts' part of the array: the last 512 rows of each. -/
def prompts (w : Fin 2) (h : S2x2048x8x128.Slices ![w.val, 0, 0, 0] S1x1024x8x128) (A : FVec Ideal S2x2048x8x128 .f32) : FVec Ideal S2x512x8x128 .f32 :=
  shapeCast S2x512x8x128 (shapeCast S1024x8x128 (extractStridedSlice S1x1024x8x128 ![w.val, 0, 0, 0] A h) shapeCasts_S1x1024x8x128_S1024x8x128) shapeCasts_S1024x8x128_S2x512x8x128

/-- The samples' part of the array. -/
def samples (w : Fin 2) (h : S2x2048x8x128.Slices ![w.val, 1024, 0, 0] S1x1024x8x128) (A : FVec Ideal S2x2048x8x128 .f32) : FVec Ideal S16x64x8x128 .f32 :=
  shapeCast S16x64x8x128 (shapeCast S1024x8x128 (extractStridedSlice S1x1024x8x128 ![w.val, 1024, 0, 0] A h) shapeCasts_S1x1024x8x128_S1024x8x128) shapeCasts_S1024x8x128_S16x64x8x128

theorem prompts_at (w : Fin 2) (h) (A : FVec Ideal S2x2048x8x128 .f32) (b : Fin 2) (r : Fin 512) (n : Fin 8) (d : Fin 128) :
    prompts w h A (ix4 b r n d) = A (ix4 w ⟨b.val * 512 + r.val, by omega⟩ n d) := by
  unfold prompts
  refine (shapeCast_apply _ _ _ (ix3 ⟨b.val * 512 + r.val, by omega⟩ n d) ?_).trans
    ((shapeCast_apply _ _ _ (ix4 0 ⟨b.val * 512 + r.val, by omega⟩ n d) ?_).trans (extractStridedSlice_apply _ _ _ _ _ ?_))
  · rewrite [Shape.rowMajor_val_three, Shape.rowMajor_val_four]
    show ((b.val * 512 + r.val) * 8 + n.val) * 128 + d.val = ((b.val * 512 + r.val) * 8 + n.val) * 128 + d.val
    rfl
  · rewrite [Shape.rowMajor_val_three, Shape.rowMajor_val_four]
    show ((0 * 1024 + (b.val * 512 + r.val)) * 8 + n.val) * 128 + d.val = ((b.val * 512 + r.val) * 8 + n.val) * 128 + d.val
    omega
  · intro a
    match a with
    | ⟨0, _⟩ => show w.val = w.val + 0; omega
    | ⟨1, _⟩ => show b.val * 512 + r.val = 0 + (b.val * 512 + r.val); omega
    | ⟨2, _⟩ => show n.val = 0 + n.val; omega
    | ⟨3, _⟩ => show d.val = 0 + d.val; omega

theorem samples_at (w : Fin 2) (h) (A : FVec Ideal S2x2048x8x128 .f32) (b : Fin 16) (r : Fin 64) (n : Fin 8) (d : Fin 128) :
    samples w h A (ix4 b r n d) = A (ix4 w ⟨1024 + (b.val * 64 + r.val), by omega⟩ n d) := by
  unfold samples
  refine (shapeCast_apply _ _ _ (ix3 ⟨b.val * 64 + r.val, by omega⟩ n d) ?_).trans
    ((shapeCast_apply _ _ _ (ix4 0 ⟨b.val * 64 + r.val, by omega⟩ n d) ?_).trans (extractStridedSlice_apply _ _ _ _ _ ?_))
  · rewrite [Shape.rowMajor_val_three, Shape.rowMajor_val_four]
    show ((b.val * 64 + r.val) * 8 + n.val) * 128 + d.val = ((b.val * 64 + r.val) * 8 + n.val) * 128 + d.val
    rfl
  · rewrite [Shape.rowMajor_val_three, Shape.rowMajor_val_four]
    show ((0 * 1024 + (b.val * 64 + r.val)) * 8 + n.val) * 128 + d.val = ((b.val * 64 + r.val) * 8 + n.val) * 128 + d.val
    omega
  · intro a
    match a with
    | ⟨0, _⟩ => show w.val = w.val + 0; omega
    | ⟨1, _⟩ => show 1024 + (b.val * 64 + r.val) = 1024 + (b.val * 64 + r.val); rfl
    | ⟨2, _⟩ => show n.val = 0 + n.val; omega
    | ⟨3, _⟩ => show d.val = 0 + d.val; omega

variable (m : (ℓ : Loc nD τ sig) → Buf (Elt Ideal) ℓ) (ρ : Dev nD → PrngReg)

/-- The array after the launch. -/
abbrev array (c : Dev nD) : FVec Ideal S2x2048x8x128 .f32 := (dats m 0 c).arrAt 1 cfg0.N

/-- The buffers after the launch. -/
abbrev exitV (c : Dev nD) : Valuation τ sig (Elt Ideal) :=
  Pipeline.withArrays spec0 c (V0 m c) fun w => (dats m 0 c).arrAt w cfg0.N

theorem exit_array (c : Dev nD) : exitV m c (Proc.devRef .tc main_v0) = array m c :=
  Pipeline.withArrays_arr spec0 launch0.win.arr_inj c (V0 m c) _ 1

section Tail
variable (W : Valuation τ sig (Elt Ideal))

theorem tail_kp : StableHlo.after hostOps1 W (Proc.devRef .tc main_v3) = prompts 0 slices_S2x2048x8x128_S1x1024x8x128_0_0_0_0 (W (Proc.devRef .tc main_v0)) := by
  after_results <;> rfl
theorem tail_vp : StableHlo.after hostOps1 W (Proc.devRef .tc main_v6) = prompts 1 slices_S2x2048x8x128_S1x1024x8x128_1_0_0_0 (W (Proc.devRef .tc main_v0)) := by
  after_results <;> rfl
theorem tail_ks : StableHlo.after hostOps1 W (Proc.devRef .tc main_v9) = samples 0 slices_S2x2048x8x128_S1x1024x8x128_0_1024_0_0 (W (Proc.devRef .tc main_v0)) := by
  after_results <;> rfl
theorem tail_vs : StableHlo.after hostOps1 W (Proc.devRef .tc main_v12) = samples 1 slices_S2x2048x8x128_S1x1024x8x128_1_1024_0_0 (W (Proc.devRef .tc main_v0)) := by
  after_results <;> rfl

end Tail

/-- The four results, each read off the array. -/
abbrev kp (c : Dev nD) : FVec Ideal S2x512x8x128 .f32 := prompts 0 slices_S2x2048x8x128_S1x1024x8x128_0_0_0_0 (array m c)
abbrev vp (c : Dev nD) : FVec Ideal S2x512x8x128 .f32 := prompts 1 slices_S2x2048x8x128_S1x1024x8x128_1_0_0_0 (array m c)
abbrev ks (c : Dev nD) : FVec Ideal S16x64x8x128 .f32 := samples 0 slices_S2x2048x8x128_S1x1024x8x128_0_1024_0_0 (array m c)
abbrev vs (c : Dev nD) : FVec Ideal S16x64x8x128 .f32 := samples 1 slices_S2x2048x8x128_S1x1024x8x128_1_1024_0_0 (array m c)

/-- A buffer that is no window's array ends as the operations after the launch leave it. -/
theorem tail_read (c : Dev nD) (b : Ref sig .tc) :
    Pipeline.afterTail₀ cfgs (dats m) 0 (V0 m) [hostOps1] c b = StableHlo.after hostOps1 (exitV m c) (Proc.devRef .tc b) := by
  unfold Pipeline.afterTail₀
  rw [List.flatten_cons, List.flatten_nil, List.append_nil]

/-- The run, with the four results named. -/
theorem run : θ_run defs (onTc (τ := τ) (main (F := Ideal))) ⟨m, fun _ => 0, ρ⟩ fun r => ∀ c : Dev nD,
      r.2.mem ((c.tc : Thread nD τ).loc main_v3) = kp m c
      ∧ r.2.mem ((c.tc : Thread nD τ).loc main_v6) = vp m c
      ∧ r.2.mem ((c.tc : Thread nD τ).loc main_v9) = ks m c
      ∧ r.2.mem ((c.tc : Thread nD τ).loc main_v12) = vs m c
      ∧ r.2.mem ((c.tc : Thread nD τ).loc main_arg0) = m ((c.tc : Thread nD τ).loc main_arg0) :=
  (θ_run defs _ _).mono (fun r h c => ⟨
      ((h c).2 main_v3 (Pipeline.mem_restRefs_of main_v3 (by decide) (by decide))).trans ((tail_read m c main_v3).trans ((tail_kp (exitV m c)).trans (congrArg _ (exit_array m c)))),
      ((h c).2 main_v6 (Pipeline.mem_restRefs_of main_v6 (by decide) (by decide))).trans ((tail_read m c main_v6).trans ((tail_vp (exitV m c)).trans (congrArg _ (exit_array m c)))),
      ((h c).2 main_v9 (Pipeline.mem_restRefs_of main_v9 (by decide) (by decide))).trans ((tail_read m c main_v9).trans ((tail_ks (exitV m c)).trans (congrArg _ (exit_array m c)))),
      ((h c).2 main_v12 (Pipeline.mem_restRefs_of main_v12 (by decide) (by decide))).trans ((tail_read m c main_v12).trans ((tail_vs (exitV m c)).trans (congrArg _ (exit_array m c)))),
      ((h c).1 0).trans (((dats m 0 c).arrAt_in 0 rfl _).trans ((A_eq m c 0).trans (V_main_arg0 m c)))⟩)
    (run_main m ρ)

end Cert.Kernel3Ideal.Rows

end
-- ==== Proof.KvRef.lean ====
/-
The reference of the saved keys and values, entry by entry: which entry of the projection each is.
-/
module

public import proofs.«01_k».proof.Proof.Gen.Reference3Ideal.Read
public import proofs.«01_k».proof.Proof.Gen.Reference3Ideal.Run
public import Idealize.ShloMosaic.Lib.Pointwise

@[expose] public section

set_option maxRecDepth 16384

noncomputable section

namespace Cert.Reference3Ideal.Rows

open Idealize.ShloMosaic Idealize.ShloMosaic.TcCoe
open Cert.Reference3Ideal Cert.Reference3Ideal.Read

variable (Z : FVec Ideal S9216x8192 .f32)

/-- The prompts' rows of the projection. -/
theorem prompt_row (b : Fin 2) (r : Fin 4096) (l : Fin 8192) :
    val_main_v1 (F := Ideal) Z (ix3 b r l) = Z (ix2 ⟨b.val * 4096 + r.val, by omega⟩ l) := by
  rw [val_main_v1_apply, val_main_v0_apply]
  refine congrArg Z (funext fun a => Fin.ext ?_)
  match a with
  | ⟨0, _⟩ => show ((b.val * 4096 + r.val) * 8192 + l.val) / 8192 = b.val * 4096 + r.val; omega
  | ⟨1, _⟩ => show ((b.val * 4096 + r.val) * 8192 + l.val) % 8192 = l.val; omega

/-- The samples' rows of the projection. -/
theorem sample_row (b : Fin 16) (r : Fin 64) (l : Fin 8192) :
    val_main_v3 (F := Ideal) Z (ix3 b r l) = Z (ix2 ⟨8192 + (b.val * 64 + r.val), by omega⟩ l) := by
  rw [val_main_v3_apply, val_main_v2_apply]
  refine congrArg Z (funext fun a => Fin.ext ?_)
  match a with
  | ⟨0, _⟩ => show 8192 + ((b.val * 64 + r.val) * 8192 + l.val) / 8192 = 8192 + (b.val * 64 + r.val); omega
  | ⟨1, _⟩ => show ((b.val * 64 + r.val) * 8192 + l.val) % 8192 = l.val; omega

theorem kp_at (b : Fin 2) (r : Fin 512) (n : Fin 8) (d : Fin 128) :
    val_main_v12 (F := Ideal) Z (ix4 b r n d) = Z (ix2 ⟨b.val * 4096 + (3584 + r.val), by omega⟩ ⟨1024 + (n.val * 128 + d.val), by omega⟩) := by
  rw [val_main_v12_apply, val_main_v5_apply, val_main_v4_apply]
  refine Eq.trans (congrArg (val_main_v1 (F := Ideal) Z) (funext fun a => Fin.ext ?_)) (prompt_row Z b ⟨3584 + r.val, by omega⟩ _)
  match a with
  | ⟨0, _⟩ => show (((b.val * 4096 + (3584 + r.val)) * 8 + n.val) * 128 + d.val) / 4194304 = b.val; omega
  | ⟨1, _⟩ => show (((b.val * 4096 + (3584 + r.val)) * 8 + n.val) * 128 + d.val) / 1024 % 4096 = 3584 + r.val; omega
  | ⟨2, _⟩ => show 1024 + (((b.val * 4096 + (3584 + r.val)) * 8 + n.val) * 128 + d.val) % 1024 = 1024 + (n.val * 128 + d.val); omega

theorem vp_at (b : Fin 2) (r : Fin 512) (n : Fin 8) (d : Fin 128) :
    val_main_v13 (F := Ideal) Z (ix4 b r n d) = Z (ix2 ⟨b.val * 4096 + (3584 + r.val), by omega⟩ ⟨2048 + (n.val * 128 + d.val), by omega⟩) := by
  rw [val_main_v13_apply, val_main_v7_apply, val_main_v6_apply]
  refine Eq.trans (congrArg (val_main_v1 (F := Ideal) Z) (funext fun a => Fin.ext ?_)) (prompt_row Z b ⟨3584 + r.val, by omega⟩ _)
  match a with
  | ⟨0, _⟩ => show (((b.val * 4096 + (3584 + r.val)) * 8 + n.val) * 128 + d.val) / 4194304 = b.val; omega
  | ⟨1, _⟩ => show (((b.val * 4096 + (3584 + r.val)) * 8 + n.val) * 128 + d.val) / 1024 % 4096 = 3584 + r.val; omega
  | ⟨2, _⟩ => show 2048 + (((b.val * 4096 + (3584 + r.val)) * 8 + n.val) * 128 + d.val) % 1024 = 2048 + (n.val * 128 + d.val); omega

theorem ks_at (b : Fin 16) (r : Fin 64) (n : Fin 8) (d : Fin 128) :
    val_main_v9 (F := Ideal) Z (ix4 b r n d) = Z (ix2 ⟨8192 + (b.val * 64 + r.val), by omega⟩ ⟨1024 + (n.val * 128 + d.val), by omega⟩) := by
  rw [val_main_v9_apply, val_main_v8_apply]
  refine Eq.trans (congrArg (val_main_v3 (F := Ideal) Z) (funext fun a => Fin.ext ?_)) (sample_row Z b r _)
  match a with
  | ⟨0, _⟩ => show (((b.val * 64 + r.val) * 8 + n.val) * 128 + d.val) / 65536 = b.val; omega
  | ⟨1, _⟩ => show (((b.val * 64 + r.val) * 8 + n.val) * 128 + d.val) / 1024 % 64 = r.val; omega
  | ⟨2, _⟩ => show 1024 + (((b.val * 64 + r.val) * 8 + n.val) * 128 + d.val) % 1024 = 1024 + (n.val * 128 + d.val); omega

theorem vs_at (b : Fin 16) (r : Fin 64) (n : Fin 8) (d : Fin 128) :
    val_main_v11 (F := Ideal) Z (ix4 b r n d) = Z (ix2 ⟨8192 + (b.val * 64 + r.val), by omega⟩ ⟨2048 + (n.val * 128 + d.val), by omega⟩) := by
  rw [val_main_v11_apply, val_main_v10_apply]
  refine Eq.trans (congrArg (val_main_v3 (F := Ideal) Z) (funext fun a => Fin.ext ?_)) (sample_row Z b r _)
  match a with
  | ⟨0, _⟩ => show (((b.val * 64 + r.val) * 8 + n.val) * 128 + d.val) / 65536 = b.val; omega
  | ⟨1, _⟩ => show (((b.val * 64 + r.val) * 8 + n.val) * 128 + d.val) / 1024 % 64 = r.val; omega
  | ⟨2, _⟩ => show 2048 + (((b.val * 64 + r.val) * 8 + n.val) * 128 + d.val) % 1024 = 2048 + (n.val * 128 + d.val); omega

end Cert.Reference3Ideal.Rows

end
-- ==== Proof.KvPre.lean ====
/-
The claims about the saved keys and values: the two programs' runs beside each other.
-/
module

public import proofs.«01_k».proof.Defs
public import proofs.«01_k».proof.Proof.KvRun
public import proofs.«01_k».proof.Proof.KvRef
public import proofs.«01_k».proof.Proof.Gen.Kernel3Ideal
public import proofs.«01_k».proof.Proof.Gen.Reference3Ideal
public import Idealize.ShloMosaic.Adequacy
public import Idealize.ShloMosaic.Init

@[expose] public section

noncomputable section

namespace Cert.Proof.Kv

open Idealize.ShloMosaic Idealize.ShloMosaic.TcCoe Idealize.SL.Sem
open Cert.Kernel3Ideal.Rows Cert.Reference3Ideal.Rows Cert.Reference3Ideal.Read

/-- The reference runs, keeps its argument, and declares no semaphore. -/
theorem frame_reference3 : Cert.quiescent_Reference3Ideal := fun m g _ =>
  (θ_run (Cert.Reference3Ideal.defs (F := Ideal)) _ _).mono
    (fun r h => And.intro (fun c => (h c).2.2.2.2) (sem_eq_zero_of_no_sems (by decide) r.2))
    (Cert.Reference3Ideal.Value.run (F := Ideal) m g)

variable (m : (ℓ : Loc Cert.Kernel3Ideal.nD Cert.Kernel3Ideal.τ Cert.Kernel3Ideal.sig) → Buf (Elt Ideal) ℓ) (c : Dev Cert.Kernel3Ideal.nD)

/-- An entry of the kernel's array, from the row and the column of the projection it holds. -/
theorem array_at (w : Fin 2) (R : Fin 2048) (n : Fin 8) (d : Fin 128) (r : Fin 9216) (l : Fin 8192)
    (hr : r.val = rowOf R.val) (hl : l.val = (1 + w.val) * 1024 + n.val * 128 + d.val) :
    array m c (ix4 w R n d) = proj m c (ix2 r l) := by
  refine (congrFun (final m c) (ix4 w R n d)).trans ?_
  show saved (proj m c) w R n d = _
  unfold saved
  exact congrArg₂ (fun r l => proj m c (ix2 r l)) (Fin.ext hr.symm) (Fin.ext hl.symm)

/-- The row of a prompt's saved position. -/
theorem prompt_rowOf (b : Fin 2) (r : Fin 512) : b.val * 4096 + (3584 + r.val) = rowOf (b.val * 512 + r.val) := by
  unfold rowOf; split_ifs <;> omega

/-- The row of a sample's position. -/
theorem sample_rowOf (b : Fin 16) (r : Fin 64) : 8192 + (b.val * 64 + r.val) = rowOf (1024 + (b.val * 64 + r.val)) := by
  unfold rowOf; split_ifs <;> omega

theorem side_kp : val_main_v12 (F := Ideal) (proj m c) = kp m c := by
  funext i
  obtain ⟨b, r, n, d, rfl⟩ : ∃ (b : Fin 2) (r : Fin 512) (n : Fin 8) (d : Fin 128), i = ix4 b r n d := ⟨i 0, i 1, i 2, i 3, eq_ix4 i⟩
  exact (kp_at _ b r n d).trans ((prompts_at 0 _ _ b r n d).trans
    (array_at m c 0 _ n d _ _ (prompt_rowOf b r) (by show 1024 + (n.val * 128 + d.val) = (1 + 0) * 1024 + n.val * 128 + d.val; omega))).symm

theorem side_vp : val_main_v13 (F := Ideal) (proj m c) = vp m c := by
  funext i
  obtain ⟨b, r, n, d, rfl⟩ : ∃ (b : Fin 2) (r : Fin 512) (n : Fin 8) (d : Fin 128), i = ix4 b r n d := ⟨i 0, i 1, i 2, i 3, eq_ix4 i⟩
  exact (vp_at _ b r n d).trans ((prompts_at 1 _ _ b r n d).trans
    (array_at m c 1 _ n d _ _ (prompt_rowOf b r) (by show 2048 + (n.val * 128 + d.val) = (1 + 1) * 1024 + n.val * 128 + d.val; omega))).symm

theorem side_ks : val_main_v9 (F := Ideal) (proj m c) = ks m c := by
  funext i
  obtain ⟨b, r, n, d, rfl⟩ : ∃ (b : Fin 16) (r : Fin 64) (n : Fin 8) (d : Fin 128), i = ix4 b r n d := ⟨i 0, i 1, i 2, i 3, eq_ix4 i⟩
  exact (ks_at _ b r n d).trans ((samples_at 0 _ _ b r n d).trans
    (array_at m c 0 _ n d _ _ (sample_rowOf b r) (by show 1024 + (n.val * 128 + d.val) = (1 + 0) * 1024 + n.val * 128 + d.val; omega))).symm

theorem side_vs : val_main_v11 (F := Ideal) (proj m c) = vs m c := by
  funext i
  obtain ⟨b, r, n, d, rfl⟩ : ∃ (b : Fin 16) (r : Fin 64) (n : Fin 8) (d : Fin 128), i = ix4 b r n d := ⟨i 0, i 1, i 2, i 3, eq_ix4 i⟩
  exact (vs_at _ b r n d).trans ((samples_at 1 _ _ b r n d).trans
    (array_at m c 1 _ n d _ _ (sample_rowOf b r) (by show 2048 + (n.val * 128 + d.val) = (1 + 1) * 1024 + n.val * 128 + d.val; omega))).symm

/-- From equal arguments the two programs end with equal results, all four. -/
theorem algebraic3 : Cert.algebraic_Kernel3Ideal_Reference3Ideal := by
  intro m g m' g' _ hagree
  refine ⟨fun c => kp m c, fun c => vp m c, fun c => ks m c, fun c => vs m c, Cert.Kernel3Ideal.Rows.run m g, ?_⟩
  refine (θ_run (Cert.Reference3Ideal.defs (F := Ideal)) _ _).mono (fun r h c => ?_) (Cert.Reference3Ideal.Value.run (F := Ideal) m' g')
  obtain ⟨h0, h1, h2, h3, h4⟩ := h c
  have e := hagree c
  refine ⟨h0.trans ?_, h1.trans ?_, h2.trans ?_, h3.trans ?_, h4⟩
  · exact (val_main_v12_eq _).trans ((congrArg (val_main_v12 (F := Ideal)) e).trans (side_kp m c))
  · exact (val_main_v13_eq _).trans ((congrArg (val_main_v13 (F := Ideal)) e).trans (side_vp m c))
  · exact (val_main_v9_eq _).trans ((congrArg (val_main_v9 (F := Ideal)) e).trans (side_ks m c))
  · exact (val_main_v11_eq _).trans ((congrArg (val_main_v11 (F := Ideal)) e).trans (side_vs m c))

end Cert.Proof.Kv

end
-- ==== Proof.FfnSpec.lean ====
/-
What the dense feed-forward layer makes of a row, over the extended reals, and its partial sums.
-/
module

public import proofs.«01_k».proof.Proof.MoeSpec

@[expose] public section

noncomputable section

namespace Cert.Ffn

open Idealize.ShloMosaic

variable (X : FVec Ideal ⟨2, ![9216, 2048]⟩ .bf16) (G U : FVec Ideal ⟨3, ![1, 2048, 5632]⟩ .f32) (D : FVec Ideal ⟨3, ![1, 5632, 2048]⟩ .f32)

/-- What hidden unit `f` adds to column `l` of row `R`. -/
def term (R : Fin 9216) (l : Fin 2048) (f : Fin 5632) : EReal :=
  Cert.Moe.unit (fun q => X (ix2 R q)) (fun q => G (ix3 0 q f)) (fun q => U (ix3 0 q f)) * D (ix3 0 f l)

/-- The same, numbered by the naturals: nothing past the last unit. -/
def termN (R : Fin 9216) (l : Fin 2048) (f : ℕ) : EReal :=
  if h : f < 5632 then term X G U D R l ⟨f, h⟩ else 0

/-- What the first `n` column blocks of 512 hidden units add up to. -/
def partSum (R : Fin 9216) (l : Fin 2048) (n : ℕ) : EReal := ∑ f ∈ Finset.range (512 * n), termN X G U D R l f

/-- The layer's row `R`, at column `l`. -/
def layer (R : Fin 9216) (l : Fin 2048) : EReal := ∑ f : Fin 5632, term X G U D R l f

theorem partSum_zero (R l) : partSum X G U D R l 0 = 0 := by
  unfold partSum
  rw [Nat.mul_zero, Finset.range_zero, Finset.sum_empty]

/-- One more column block. -/
theorem partSum_succ (R : Fin 9216) (l : Fin 2048) (n : ℕ) (hn : n < 11) :
    partSum X G U D R l (n + 1) = partSum X G U D R l n + ∑ k : Fin 512, term X G U D R l ⟨n * 512 + k, by omega⟩ := by
  unfold partSum
  rw [Nat.mul_add, Nat.mul_one, Finset.sum_range_add, Finset.sum_range (n := 512)]
  refine congrArg _ (Finset.sum_congr rfl fun k _ => ?_)
  unfold termN
  rw [dif_pos (by omega)]
  exact congrArg _ (Fin.ext (by show 512 * n + (k : ℕ) = n * 512 + k; omega))

/-- All eleven column blocks are the layer. -/
theorem partSum_all (R l) : partSum X G U D R l 11 = layer X G U D R l := by
  unfold partSum layer
  rw [show 512 * 11 = 5632 from rfl, Finset.sum_range]
  refine Finset.sum_congr rfl fun k _ => ?_
  unfold termN
  rw [dif_pos k.isLt]

end Cert.Ffn

end
-- ==== Proof.FfnValue.lean ====
/-
The dense feed-forward kernel, entry by entry: its eleven products over the blocks of hidden units add up
to the layer.
-/
module

public import proofs.«01_k».proof.Proof.Gen.Kernel4Ideal.Value
public import proofs.«01_k».proof.Proof.FfnSpec
public import Idealize.ShloMosaic.Lib.Pipeline.ValueKit

@[expose] public section

set_option maxRecDepth 16384

noncomputable section

namespace Cert.Kernel4Ideal.Dense

open Cert.Kernel4Ideal Cert.Kernel4Ideal.Gen Cert.Kernel4Ideal.Value
open Idealize.ShloMosaic Idealize.ShloMosaic.TcCoe Idealize.SL.Sem

/-- The cleared tile is zero. -/
theorem pay1_apply (y : S768x2048.Idx) : k0_pay1 (F := Ideal) y = 0 := by
  pointwise [k0_pay1]

/-- The tile with one block's product added. -/
theorem pay2_apply (y : FVec Ideal S768x2048 .f32) (x0 : FVec Ideal S768x2048 .bf16) (x1 x2 : FVec Ideal S1x2048x512 .f32)
    (x3 : FVec Ideal S1x512x2048 .f32) (r : Fin 768) (l : Fin 2048) :
    k0_pay2 (F := Ideal) y x0 x1 x2 x3 (ix2 r l)
      = y (ix2 r l) + ∑ k : Fin 512, Cert.Moe.unit (fun q => x0 (ix2 r q)) (fun q => x1 (ix3 0 q k)) (fun q => x2 (ix3 0 q k)) * x3 (ix3 0 k l) := by
  pointwise [k0_pay2]
  rfl

variable (m : (ℓ : Loc nD τ sig) → Buf (Elt Ideal) ℓ)

/-- The rows, and the three weights. -/
abbrev rows (c : Dev nD) : FVec Ideal S9216x2048 .bf16 := m ((c.tc : Thread nD τ).loc main_arg0)
abbrev wGate (c : Dev nD) : FVec Ideal S1x2048x5632 .f32 := m ((c.tc : Thread nD τ).loc main_arg1)
abbrev wUp (c : Dev nD) : FVec Ideal S1x2048x5632 .f32 := m ((c.tc : Thread nD τ).loc main_arg2)
abbrev wDown (c : Dev nD) : FVec Ideal S1x5632x2048 .f32 := m ((c.tc : Thread nD τ).loc main_arg3)

/-- Which blocks a point works on. -/
theorem idx : ∀ t : Fin cfg0.N, win0_0.index t = ![t.val / 11, 0] ∧ win0_1.index t = ![0, 0, t.val % 11]
    ∧ win0_2.index t = ![0, 0, t.val % 11] ∧ win0_3.index t = ![0, t.val % 11, 0] :=
  (by decide +kernel : ∀ t : Fin grid0.N, _)

theorem blk_rows (c : Dev nD) (t : Fin cfg0.N) (r : Fin 768) (q : Fin 2048) :
    (iblk m c 0 t : FVec Ideal S768x2048 .bf16) (ix2 r q)
      = rows m c (ix2 ⟨t.val / 11 * 768 + r, by have := t.isLt; have : cfg0.N = 132 := N_0; omega⟩ q) := by
  blk_simp [iblk]
  refine congrArg (rows m c) (funext fun a => Fin.ext ?_)
  have e := (idx t).1
  match a with
  | ⟨0, _⟩ => show win0_0.index t 0 * 768 + 1 * (r : ℕ) = t.val / 11 * 768 + r
              rw [e]; show t.val / 11 * 768 + 1 * (r : ℕ) = _; omega
  | ⟨1, _⟩ => show win0_0.index t 1 * 2048 + 1 * (q : ℕ) = q
              rw [e]; show 0 * 2048 + 1 * (q : ℕ) = _; omega

theorem blk_gate (c : Dev nD) (t : Fin cfg0.N) (q : Fin 2048) (k : Fin 512) :
    (iblk m c 1 t : FVec Ideal S1x2048x512 .f32) (ix3 0 q k) = wGate m c (ix3 0 q ⟨t.val % 11 * 512 + k, by omega⟩) := by
  blk_simp [iblk]
  refine congrArg (wGate m c) (funext fun a => Fin.ext ?_)
  have e := (idx t).2.1
  match a with
  | ⟨0, _⟩ => show win0_1.index t 0 * 1 + 1 * 0 = 0
              rw [e]; rfl
  | ⟨1, _⟩ => show win0_1.index t 1 * 2048 + 1 * (q : ℕ) = q
              rw [e]; show 0 * 2048 + 1 * (q : ℕ) = _; omega
  | ⟨2, _⟩ => show win0_1.index t 2 * 512 + 1 * (k : ℕ) = t.val % 11 * 512 + k
              rw [e]; show t.val % 11 * 512 + 1 * (k : ℕ) = _; omega

theorem blk_up (c : Dev nD) (t : Fin cfg0.N) (q : Fin 2048) (k : Fin 512) :
    (iblk m c 2 t : FVec Ideal S1x2048x512 .f32) (ix3 0 q k) = wUp m c (ix3 0 q ⟨t.val % 11 * 512 + k, by omega⟩) := by
  blk_simp [iblk]
  refine congrArg (wUp m c) (funext fun a => Fin.ext ?_)
  have e := (idx t).2.2.1
  match a with
  | ⟨0, _⟩ => show win0_2.index t 0 * 1 + 1 * 0 = 0
              rw [e]; rfl
  | ⟨1, _⟩ => show win0_2.index t 1 * 2048 + 1 * (q : ℕ) = q
              rw [e]; show 0 * 2048 + 1 * (q : ℕ) = _; omega
  | ⟨2, _⟩ => show win0_2.index t 2 * 512 + 1 * (k : ℕ) = t.val % 11 * 512 + k
              rw [e]; show t.val % 11 * 512 + 1 * (k : ℕ) = _; omega

theorem blk_down (c : Dev nD) (t : Fin cfg0.N) (k : Fin 512) (l : Fin 2048) :
    (iblk m c 3 t : FVec Ideal S1x512x2048 .f32) (ix3 0 k l) = wDown m c (ix3 0 ⟨t.val % 11 * 512 + k, by omega⟩ l) := by
  blk_simp [iblk]
  refine congrArg (wDown m c) (funext fun a => Fin.ext ?_)
  have e := (idx t).2.2.2
  match a with
  | ⟨0, _⟩ => show win0_3.index t 0 * 1 + 1 * 0 = 0
              rw [e]; rfl
  | ⟨1, _⟩ => show win0_3.index t 1 * 512 + 1 * (k : ℕ) = t.val % 11 * 512 + k
              rw [e]; show t.val % 11 * 512 + 1 * (k : ℕ) = _; omega
  | ⟨2, _⟩ => show win0_3.index t 2 * 2048 + 1 * (l : ℕ) = l
              rw [e]; show 0 * 2048 + 1 * (l : ℕ) = _; omega

/-- What a point adds to its tile: its block of hidden units. -/
theorem point_adds (c : Dev nD) (acc : FVec Ideal S768x2048 .f32) (n : ℕ) (h : n < cfg0.N) (r : Fin 768) (l : Fin 2048) :
    step4 m c n h acc (ix2 r l)
      = acc (ix2 r l) + ∑ k : Fin 512, Cert.Ffn.term (rows m c) (wGate m c) (wUp m c) (wDown m c)
          ⟨n / 11 * 768 + r, by have : cfg0.N = 132 := N_0; omega⟩ l ⟨n % 11 * 512 + k, by omega⟩ := by
  unfold step4
  rw [pay2_apply]
  refine congrArg _ (Finset.sum_congr rfl fun k _ => ?_)
  unfold Cert.Ffn.term
  rw [blk_down m c ⟨n, h⟩ k l]
  simp only [blk_rows m c ⟨n, h⟩, blk_gate m c ⟨n, h⟩, blk_up m c ⟨n, h⟩]

/-- The fold of a run of points, up to its point `j`: the first `j + 1` blocks of hidden units. -/
theorem fold_at (c : Dev nD) (i : Fin 12) (r : Fin 768) (l : Fin 2048) (b : ℕ) (hb : b = 11 * i.val) (j : ℕ) (hj : j < 11) (h : b + j < cfg0.N) :
    Pipeline.accAt (reset4 m c) (step4 m c) b j h (ix2 r l)
      = Cert.Ffn.partSum (rows m c) (wGate m c) (wUp m c) (wDown m c) ⟨i.val * 768 + r, by omega⟩ l (j + 1) := by
  have one : ∀ (n : ℕ) (hn : n < 11) (hN : b + n < cfg0.N) (acc : FVec Ideal S768x2048 .f32),
      acc (ix2 r l) = Cert.Ffn.partSum (rows m c) (wGate m c) (wUp m c) (wDown m c) ⟨i.val * 768 + r, by omega⟩ l n →
      step4 m c (b + n) hN acc (ix2 r l)
        = Cert.Ffn.partSum (rows m c) (wGate m c) (wUp m c) (wDown m c) ⟨i.val * 768 + r, by omega⟩ l (n + 1) := by
    intro n hn hN acc ha
    rw [point_adds, ha, Cert.Ffn.partSum_succ _ _ _ _ _ _ _ hn]
    refine congrArg _ (Finset.sum_congr rfl fun k _ => ?_)
    exact congrArg₂ (fun R f => Cert.Ffn.term (rows m c) (wGate m c) (wUp m c) (wDown m c) R l f)
      (Fin.ext (by show (b + n) / 11 * 768 + (r : ℕ) = i.val * 768 + r; omega))
      (Fin.ext (by show (b + n) % 11 * 512 + (k : ℕ) = n * 512 + k; omega))
  induction j with
  | zero =>
    rw [Pipeline.accAt_zero]
    exact one 0 hj h (k0_pay1 (F := Ideal)) ((pay1_apply _).trans (Cert.Ffn.partSum_zero _ _ _ _ _ _).symm)
  | succ j ih =>
    rw [Pipeline.accAt_succ]
    exact one (j + 1) hj h _ (ih (by omega) (Nat.lt_of_succ_lt h) one)

/-- The array after the run is the layer. -/
theorem array_at (c : Dev nD) (R : Fin 9216) (l : Fin 2048) :
    (G4 m c : FVec Ideal S9216x2048 .f32) (ix2 R l) = Cert.Ffn.layer (rows m c) (wGate m c) (wUp m c) (wDown m c) R l := by
  have hN : cfg0.N = 132 := N_0
  have hrun : run4Of (ix2 R l) = R.val / 768 := by
    show 1 * ((R : ℕ) / 768 - 0) + 1 * ((l : ℕ) / 2048 - 0) = _
    omega
  have hloc : loc4Of (ix2 R l) = ix2 ⟨R.val % 768, Nat.mod_lt _ (by decide)⟩ l := by
    funext a
    match a with
    | ⟨0, _⟩ => rfl
    | ⟨1, _⟩ => exact Fin.ext (by show (l : ℕ) % 2048 = l; omega)
  unfold G4
  rw [dif_pos (by rw [hrun]; omega), hloc]
  refine (fold_at m c ⟨R.val / 768, by omega⟩ ⟨R.val % 768, Nat.mod_lt _ (by decide)⟩ l _ (congrArg (11 * ·) hrun) 10 (by decide) _).trans ((Cert.Ffn.partSum_all _ _ _ _ _ _).trans ?_)
  exact congrArg (fun R => Cert.Ffn.layer _ _ _ _ R l) (Fin.ext (by show R.val / 768 * 768 + R.val % 768 = R; omega))

end Cert.Kernel4Ideal.Dense

end
-- ==== Proof.FfnRef.lean ====
/-
The reference of the dense feed-forward layer, entry by entry.
-/
module

public import proofs.«01_k».proof.Proof.Gen.Reference4Ideal.Read
public import proofs.«01_k».proof.Proof.Gen.Reference4Ideal.Run
public import proofs.«01_k».proof.Proof.FfnSpec
public import Idealize.ShloMosaic.Lib.Pointwise

@[expose] public section

set_option maxRecDepth 16384

noncomputable section

namespace Cert.Reference4Ideal.Dense

open Idealize.ShloMosaic Idealize.ShloMosaic.TcCoe
open Cert.Reference4Ideal Cert.Reference4Ideal.Read

variable (x0 : FVec Ideal S9216x2048 .bf16) (x1 x2 : FVec Ideal S1x2048x5632 .f32) (x3 : FVec Ideal S1x5632x2048 .f32)

/-- The hidden units. -/
theorem hidden_at (R : Fin 9216) (f : Fin 5632) :
    val_main_v7 (F := Ideal) x0 x1 x2 (ix2 R f)
      = Cert.Moe.unit (fun q => x0 (ix2 R q)) (fun q => x1 (ix3 0 q f)) (fun q => x2 (ix3 0 q f)) := by
  pointwise [val_main_v7, val_main_v6, val_main_v5, val_main_v4, val_main_v2, val_main_v1, val_main_v0, val_main_call0_v0, val_main_call0_v1,
    val_main_call0_v2, val_main_call0_v3, val_main_call0_v4, val_main_call0_v5, val_main_call0_cst, val_main_call0_cst_0]
  rfl

/-- The layer. -/
theorem layer_at (R : Fin 9216) (l : Fin 2048) :
    val_main_v8 (F := Ideal) x0 x1 x2 x3 (ix2 R l) = Cert.Ffn.layer x0 x1 x2 x3 R l := by
  have h : val_main_v8 (F := Ideal) x0 x1 x2 x3 (ix2 R l) = ∑ f : Fin 5632, val_main_v7 (F := Ideal) x0 x1 x2 (ix2 R f) * x3 (ix3 0 f l) := by
    unfold val_main_v8 val_main_v3
    generalize val_main_v7 (F := Ideal) x0 x1 x2 = Y
    pointwise
  rw [h]
  unfold Cert.Ffn.layer Cert.Ffn.term
  exact Finset.sum_congr rfl fun f _ => congrArg (· * _) (hidden_at x0 x1 x2 R f)

end Cert.Reference4Ideal.Dense

end
-- ==== Proof.FfnPre.lean ====
/-
The claims about the dense feed-forward layer: the two programs' runs beside each other.
-/
module

public import proofs.«01_k».proof.Defs
public import proofs.«01_k».proof.Proof.FfnValue
public import proofs.«01_k».proof.Proof.FfnRef
public import proofs.«01_k».proof.Proof.Gen.Kernel4Ideal
public import proofs.«01_k».proof.Proof.Gen.Reference4Ideal
public import Idealize.ShloMosaic.Adequacy
public import Idealize.ShloMosaic.Init

@[expose] public section

noncomputable section

namespace Cert.Proof.Ffn

open Idealize.ShloMosaic Idealize.ShloMosaic.TcCoe Idealize.SL.Sem

/-- The reference runs, keeps its arguments, and declares no semaphore. -/
theorem frame_reference4 : Cert.quiescent_Reference4Ideal := fun m g _ =>
  (θ_run (Cert.Reference4Ideal.defs (F := Ideal)) _ _).mono
    (fun r h => And.intro (fun c => (h c).2) (sem_eq_zero_of_no_sems (by decide) r.2))
    (Cert.Reference4Ideal.Value.run (F := Ideal) m g)

/-- The kernel's array is the reference's result on the same arguments. -/
theorem sides (m : (ℓ : Loc Cert.Kernel4Ideal.nD Cert.Kernel4Ideal.τ Cert.Kernel4Ideal.sig) → Buf (Elt Ideal) ℓ) (c : Dev Cert.Kernel4Ideal.nD) :
    Cert.Reference4Ideal.Read.val_main_v8 (F := Ideal) (Cert.Kernel4Ideal.Dense.rows m c) (Cert.Kernel4Ideal.Dense.wGate m c)
      (Cert.Kernel4Ideal.Dense.wUp m c) (Cert.Kernel4Ideal.Dense.wDown m c) = Cert.Kernel4Ideal.Value.G4 m c := by
  funext i
  obtain ⟨R, l, rfl⟩ : ∃ (R : Fin 9216) (l : Fin 2048), i = ix2 R l := ⟨i 0, i 1, eq_ix2 i⟩
  exact (Cert.Reference4Ideal.Dense.layer_at _ _ _ _ R l).trans (Cert.Kernel4Ideal.Dense.array_at m c R l).symm

/-- From equal arguments the two programs end with equal results. -/
theorem algebraic4 : Cert.algebraic_Kernel4Ideal_Reference4Ideal := by
  intro m g m' g' _ hagree
  refine ⟨fun c => Cert.Kernel4Ideal.Value.G4 m c, Cert.Kernel4Ideal.Value.run (F := Ideal) m g, ?_⟩
  refine (θ_run (Cert.Reference4Ideal.defs (F := Ideal)) _ _).mono (fun r h c => ⟨((h c).1.trans ?_), (h c).2⟩)
    (Cert.Reference4Ideal.Value.run (F := Ideal) m' g')
  obtain ⟨e0, e1, e2, e3⟩ := hagree c
  refine (Cert.Reference4Ideal.Read.val_main_v8_eq _ _ _ _).trans (Eq.trans ?_ (sides m c))
  exact congr (congr (congr (congrArg (Cert.Reference4Ideal.Read.val_main_v8 (F := Ideal)) e0) e1) e2) e3

end Cert.Proof.Ffn

end
-- ==== Proof.OutSpec.lean ====
/-
The output projection with its gated residual, over the extended reals: what a row becomes.
-/
module

public import Idealize.ShloMosaic.PureOps.Ideal
public import Idealize.ShloMosaic.Lib.Pointwise

@[expose] public section

noncomputable section

namespace Cert.Out

open Idealize.ShloMosaic

/-- The sequence that row `R` belongs to: two prompts of 4096 rows, then sixteen samples of 64. -/
def seqOf (R : ℕ) : ℕ := if R < 8192 then R / 4096 else 2 + (R - 8192) / 64

theorem seqOf_lt {R : ℕ} (h : R < 9216) : seqOf R < 24 := by unfold seqOf; split_ifs <;> omega

variable (M : FVec Ideal ⟨2, ![9216, 2048]⟩ .bf16) (W : FVec Ideal ⟨3, ![2, 2048, 2048]⟩ .f32)
  (X : FVec Ideal ⟨2, ![9216, 2048]⟩ .f32) (A : FVec Ideal ⟨3, ![2, 24, 12288]⟩ .f32)

/-- Row `R`, column `l`: the row itself, and the projection of the merged branches times the gate of the row's sequence. -/
def row (R : Fin 9216) (l : Fin 2048) : EReal :=
  X (ix2 R l) + (∑ q : Fin 2048, M (ix2 R q) * W (ix3 1 q l)) * A (ix3 1 ⟨seqOf R, seqOf_lt R.isLt⟩ ⟨4096 + l.val, by omega⟩)

end Cert.Out

end
-- ==== Proof.OutRows.lean ====
/-
The output projection's kernel, entry by entry: each block is the rows plus the gated product, a gate for
each chunk of 64 rows.
-/
module

public import proofs.«01_k».proof.Proof.Gen.Kernel5Ideal.Frame
public import proofs.«01_k».proof.Proof.OutSpec
public import Idealize.ShloMosaic.Lib.Pointwise
public import Idealize.ShloMosaic.Lib.Pipeline.Value
public import Idealize.ShloMosaic.Lib.Pipeline.ValueKit
public import Idealize.ShloMosaic.Lib.StableHlo.RunRead
public import Idealize.ShloMosaic.Lib.Pipeline.ReadBack

@[expose] public section

set_option maxRecDepth 16384

noncomputable section

namespace Cert.Kernel5Ideal.Residual

open Cert.Kernel5Ideal Cert.Kernel5Ideal.Gen
open Idealize.ShloMosaic Idealize.ShloMosaic.TcCoe Idealize.SL.Sem

/-- The block's product. -/
theorem product_at (x0 : FVec Ideal S1024x2048 .bf16) (x1 : FVec Ideal S1x2048x1024 .f32) (r l : Fin 1024) :
    k0_pay5 (F := Ideal) x0 x1 (ix2 r l) = ∑ q : Fin 2048, x0 (ix2 r q) * x1 (ix3 0 q l) := by
  pointwise [k0_pay5]

/-- A chunk of 64 rows times its gate. -/
theorem chunk_at (Y : FVec Ideal S1024x1024 .f32) (g : FVec Ideal S1x1x1024 .f32) (o : ℕ) (h : S1024x1024.Slices ![o, 0] S64x1024)
    (s : Fin 64) (l r : Fin 1024) (hr : r.val = o + s.val) :
    mulf (extractStridedSlice S64x1024 ![o, 0] Y h) (broadcastTo S64x1024 (shapeCast S1x1024 g shapeCasts_S1x1x1024_S1x1024) broadcasts_S1x1024_S64x1024) (ix2 s l)
      = Y (ix2 r l) * g (ix3 0 0 l) := by
  have e : extractStridedSlice S64x1024 ![o, 0] Y h (ix2 s l) = Y (ix2 r l) := extractStridedSlice_apply _ _ _ _ _ (fun a => by
    match a with
    | ⟨0, _⟩ => exact hr
    | ⟨1, _⟩ => show l.val = 0 + l.val; omega)
  have e' : broadcastTo S64x1024 (shapeCast S1x1024 g shapeCasts_S1x1x1024_S1x1024) broadcasts_S1x1024_S64x1024 (ix2 s l) = g (ix3 0 0 l) := by
    pointwise
  exact congrArg₂ (fun a b : EReal => a * b) e e'

/-- The gate of chunk `n` as the body loads it. -/
theorem gate_at (x3 : FVec Ideal S1x16x1024 .f32) (n : Fin 16) (inb : ∀ a, (![0, n.val, 0] : Fin 3 → ℕ) a + S1x1x1024.size a ≤ S1x16x1024.size a) (l : Fin 1024) :
    View.ld (Val := Elt Ideal) (e' := .f32) x3 (Rect.unit (s := S1x16x1024) ![0, n.val, 0] S1x1x1024.size inb) (ix3 0 0 l) = x3 (ix3 0 n l) := by
  refine congrArg x3 (funext fun a => Fin.ext ?_)
  match a with
  | ⟨0, _⟩ => rfl
  | ⟨1, _⟩ => show n.val + 1 * 0 = n.val; omega
  | ⟨2, _⟩ => show 0 + 1 * l.val = l.val; omega

/-- The blocks loaded whole. -/
theorem whole0 (x : FVec Ideal S1024x2048 .bf16) : View.ld (Val := Elt Ideal) (e' := .bf16) x r0_0 = x := by
  funext y
  refine congrArg x (funext fun i => Fin.ext ?_)
  match i with
  | ⟨0, _⟩ => show 0 + 1 * (y 0).val = (y 0).val; omega
  | ⟨1, _⟩ => show 0 + 1 * (y 1).val = (y 1).val; omega

theorem whole1 (x : FVec Ideal S1x2048x1024 .f32) : View.ld (Val := Elt Ideal) (e' := .f32) x r0_1 = x := by
  funext y
  refine congrArg x (funext fun i => Fin.ext ?_)
  match i with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem whole2 (x : FVec Ideal S1024x1024 .f32) : View.ld (Val := Elt Ideal) (e' := .f32) x r0_2 = x := by
  funext y
  refine congrArg x (funext fun i => Fin.ext ?_)
  match i with
  | ⟨0, _⟩ => show 0 + 1 * (y 0).val = (y 0).val; omega
  | ⟨1, _⟩ => show 0 + 1 * (y 1).val = (y 1).val; omega

/-- What a point leaves in its block. -/
def block (x0 : FVec Ideal S1024x2048 .bf16) (x1 : FVec Ideal S1x2048x1024 .f32) (x2 : FVec Ideal S1024x1024 .f32) (x3 : FVec Ideal S1x16x1024 .f32) :
    FVec Ideal S1024x1024 .f32 := fun y =>
  x2 y + (∑ q : Fin 2048, x0 (ix2 (y 0) q) * x1 (ix3 0 q (y 1))) * x3 (ix3 0 ⟨(y 0).val / 64, by have h : (y 0).val < 1024 := (y 0).isLt; omega⟩ (y 1))

theorem gate_inb (n : Fin 16) : ∀ a, (![0, n.val, 0] : Fin 3 → ℕ) a + S1x1x1024.size a ≤ S1x16x1024.size a := fun a => by
  match a with
  | ⟨0, _⟩ => show 0 + 1 ≤ 1; omega
  | ⟨1, _⟩ => show n.val + 1 ≤ 16; omega
  | ⟨2, _⟩ => show 0 + 1024 ≤ 1024; omega

theorem chunk_slices (n : Fin 16) : S1024x1024.Slices ![64 * n.val, 0] S64x1024 :=
  (by decide +kernel : ∀ n : Fin 16, S1024x1024.Slices ![64 * n.val, 0] S64x1024) n

/-- The gated chunks. -/
abbrev chunk (Y : FVec Ideal S1024x1024 .f32) (x3 : FVec Ideal S1x16x1024 .f32) (n : Fin 16) : FVec Ideal S64x1024 .f32 :=
  mulf (extractStridedSlice S64x1024 ![64 * n.val, 0] Y (chunk_slices n))
    (broadcastTo S64x1024 (shapeCast S1x1024 (View.ld (Val := Elt Ideal) (e' := .f32) x3 (Rect.unit (s := S1x16x1024) ![0, n.val, 0] S1x1x1024.size (gate_inb n))) shapeCasts_S1x1x1024_S1x1024) broadcasts_S1x1024_S64x1024)

/-- The gated product, put together from its chunks. -/
abbrev gated (Y : FVec Ideal S1024x1024 .f32) (x3 : FVec Ideal S1x16x1024 .f32) : FVec Ideal S1024x1024 .f32 :=
  concatenate S1024x1024 0 (List.ofFn fun n : Fin 16 => (⟨S64x1024, chunk Y x3 n⟩ : (s : Shape) × (s.Idx → EReal)))
    concatenates_S64x1024_S64x1024_S64x1024_S64x1024_S64x1024_S64x1024_S64x1024_S64x1024_S64x1024_S64x1024_S64x1024_S64x1024_S64x1024_S64x1024_S64x1024_S64x1024_S1024x1024_d0

theorem gated_at (Y : FVec Ideal S1024x1024 .f32) (x3 : FVec Ideal S1x16x1024 .f32) (r l : Fin 1024) :
    gated Y x3 (ix2 r l) = Y (ix2 r l) * x3 (ix3 0 ⟨r.val / 64, by omega⟩ l) := by
  refine (concatenate_ofFn_apply (t := S1024x1024) (s₁ := S64x1024) (0 : Fin 2) (chunk Y x3) _ rfl 64 rfl (ix2 r l) ⟨r.val / 64, by omega⟩ rfl
    (ix2 ⟨r.val % 64, Nat.mod_lt _ (by decide)⟩ l) rfl (fun b hb => by match b with | ⟨0, _⟩ => exact absurd rfl hb | ⟨1, _⟩ => rfl)).trans ?_
  refine (chunk_at Y _ (64 * (r.val / 64)) (chunk_slices ⟨r.val / 64, by omega⟩) ⟨r.val % 64, Nat.mod_lt _ (by decide)⟩ l r (by show r.val = 64 * (r.val / 64) + r.val % 64; omega)).trans ?_
  exact congrArg (fun z : EReal => Y (ix2 r l) * z) (gate_at x3 ⟨r.val / 64, by omega⟩ _ l)

theorem out_eq (x0 : FVec Ideal S1024x2048 .bf16) (x1 : FVec Ideal S1x2048x1024 .f32) (x2 : FVec Ideal S1024x1024 .f32) (x3 : FVec Ideal S1x16x1024 .f32) :
    out0_4 (F := Ideal) x0 x1 x2 x3 = block x0 x1 x2 x3 := by
  funext y
  unfold out0_4 k0_pay20
  refine View.canon_apply_of_pieces (Val := Elt Ideal) (e := .f32) (block x0 x1 x2 x3) _ ?_ y (cover0_4 _ y)
  intro pc hpc
  rcases List.mem_cons.mp hpc with rfl | hpc
  · intro x
    obtain ⟨r, l, rfl⟩ : ∃ r l : Fin 1024, x = ix2 r l := ⟨x 0, x 1, eq_ix2 x⟩
    have hemb : r0_2.emb (ix2 r l) = ix2 r l := by
      funext a
      match a with
      | ⟨0, _⟩ => exact Fin.ext (by show 0 + 1 * r.val = r.val; omega)
      | ⟨1, _⟩ => exact Fin.ext (by show 0 + 1 * l.val = l.val; omega)
    refine Eq.trans ?_ (congrArg (block x0 x1 x2 x3) hemb.symm)
    show View.ld (Val := Elt Ideal) (e' := .f32) x2 r0_2 (ix2 r l) + gated (k0_pay5 (F := Ideal) (View.ld (Val := Elt Ideal) (e' := .bf16) x0 r0_0) (View.ld (Val := Elt Ideal) (e' := .f32) x1 r0_1)) x3 (ix2 r l) = _
    refine congrArg₂ (fun a b : EReal => a + b) (congrFun (whole2 x2) _) ?_
    refine (congrFun (congrArg₂ (fun a b => gated (k0_pay5 (F := Ideal) a b) x3) (whole0 x0) (whole1 x1)) (ix2 r l)).trans ?_
    exact (gated_at _ x3 r l).trans (congrArg (fun z : EReal => z * _) (product_at x0 x1 r l))
  nomatch hpc

variable (m : (ℓ : Loc nD τ sig) → Buf (Elt Ideal) ℓ)

/-- The merged branches, the weights, the rows and the adaptive table. -/
abbrev merged (c : Dev nD) : FVec Ideal S9216x2048 .bf16 := m ((c.tc : Thread nD τ).loc main_arg0)
abbrev weight (c : Dev nD) : FVec Ideal S2x2048x2048 .f32 := m ((c.tc : Thread nD τ).loc main_arg1)
abbrev rows (c : Dev nD) : FVec Ideal S9216x2048 .f32 := m ((c.tc : Thread nD τ).loc main_arg2)
abbrev ada (c : Dev nD) : FVec Ideal S2x24x12288 .f32 := m ((c.tc : Thread nD τ).loc main_arg3)

/-- The sequence of a chunk of 64 rows. -/
def chunkSeq (C : ℕ) : ℕ := if C < 128 then C / 64 else 2 + (C - 128)

theorem chunkSeq_lt {C : ℕ} (h : C < 144) : chunkSeq C < 24 := by unfold chunkSeq; split_ifs <;> omega

/-- The adaptive table laid out by chunks. -/
theorem chunks_at (A : FVec Ideal S2x24x12288 .f32) (p : Fin 2) (C : Fin 144) (k : Fin 12288) :
    concatenate S2x144x12288 1
      [⟨S2x128x12288, shapeCast S2x128x12288 (broadcastInDim S2x2x64x12288 ![0, 1, 2, 3] bcast_S2x2x1x12288_S2x2x64x12288_0_1_2_3
          (broadcastInDim S2x2x1x12288 ![0, 1, 3] bcast_S2x2x12288_S2x2x1x12288_0_1_3
            (extractStridedSlice S2x2x12288 ![0, 0, 0] A slices_S2x24x12288_S2x2x12288_0_0_0))) shapeCasts_S2x2x64x12288_S2x128x12288⟩,
       ⟨S2x16x12288, extractStridedSlice S2x16x12288 ![0, 2, 0] A slices_S2x24x12288_S2x16x12288_0_2_0⟩]
      concatenates_S2x128x12288_S2x16x12288_S2x144x12288_d1 (ix3 p C k)
      = A (ix3 p ⟨chunkSeq C, chunkSeq_lt C.isLt⟩ k) := by
  pointwise
  split
  · rename_i h
    exact congrArg (fun s => A (ix3 p s k)) (Fin.ext (by show C.val / 64 = chunkSeq C.val; unfold chunkSeq; rw [if_pos h]))
  · rename_i h
    exact congrArg (fun s => A (ix3 p s k)) (Fin.ext (by show 2 + (C.val - 128) = chunkSeq C.val; unfold chunkSeq; rw [if_neg h]))

theorem table_at (c : Dev nD) (p : Fin 2) (C : Fin 144) (k : Fin 12288) :
    (V m c main_v5 : FVec Ideal S2x144x12288 .f32) (ix3 p C k) = ada m c (ix3 p ⟨chunkSeq C, chunkSeq_lt C.isLt⟩ k) := by
  refine Eq.trans (congrFun (?_ : (V m c main_v5 : FVec Ideal S2x144x12288 .f32) = _) (ix3 p C k)) (chunks_at (ada m c) p C k)
  unfold V
  after_reads_simp
  rfl

/-- Which blocks a point works on. -/
theorem idx : ∀ t : Fin cfg0.N, win0_0.index t = ![t.val / 2, 0] ∧ win0_1.index t = ![1, 0, t.val % 2]
    ∧ win0_2.index t = ![t.val / 2, t.val % 2] ∧ win0_3.index t = ![1, t.val / 2, 4 + t.val % 2] ∧ win0_4.index t = ![t.val / 2, t.val % 2] :=
  (by decide +kernel : ∀ t : Fin grid0.N, _)

theorem final (c : Dev nD) : (dats m 0 c).arrAt 4 cfg0.N = fun i => Cert.Out.row (merged m c) (weight m c) (rows m c) (ada m c) (i 0) (i 1) := by
  refine (dats m 0 c).arrAt_eq_of_covers 4 _ (by decide +kernel) fun t hf y => ?_
  blk_simp
  rw [after0_4]
  obtain ⟨e0, e1, e2, e3, e4⟩ := idx t
  have ht : t.val < 18 := lt_of_lt_of_eq t.isLt N_0
  refine (congrFun (out_eq _ _ _ _) y).trans ?_
  unfold block
  blk_simp [iblk]
  unfold Cert.Out.row
  have hy0 : (y 0).val < 1024 := (y 0).isLt
  have hy1 : (y 1).val < 1024 := (y 1).isLt
  refine congrArg₂ (fun a b : EReal => a + b) ?_ (congrArg₂ (fun a b : EReal => a * b) (Finset.sum_congr rfl fun q _ => congrArg₂ (fun a b : EReal => a * b) ?_ ?_) ?_)
  · refine (congrFun (V_main_arg2 m c) _).trans (congrArg (rows m c) (funext fun a => Fin.ext ?_))
    match a with
    | ⟨0, _⟩ =>
      show win0_2.index t 0 * 1024 + 1 * (y 0).val = win0_4.index t 0 * 1024 + 1 * (y 0).val
      rw [e2, e4]
    | ⟨1, _⟩ =>
      show win0_2.index t 1 * 1024 + 1 * (y 1).val = win0_4.index t 1 * 1024 + 1 * (y 1).val
      rw [e2, e4]
  · refine (congrFun (V_main_arg0 m c) _).trans (congrArg (merged m c) (funext fun a => Fin.ext ?_))
    match a with
    | ⟨0, _⟩ =>
      show win0_0.index t 0 * 1024 + 1 * (y 0).val = win0_4.index t 0 * 1024 + 1 * (y 0).val
      rw [e0, e4]
      rfl
    | ⟨1, _⟩ =>
      show win0_0.index t 1 * 2048 + 1 * q.val = q.val
      rw [e0]
      show 0 * 2048 + 1 * q.val = q.val
      omega
  · refine (congrFun (V_main_arg1 m c) _).trans (congrArg (weight m c) (funext fun a => Fin.ext ?_))
    match a with
    | ⟨0, _⟩ =>
      show win0_1.index t 0 * 1 + 1 * 0 = 1
      rw [e1]
      rfl
    | ⟨1, _⟩ =>
      show win0_1.index t 1 * 2048 + 1 * q.val = q.val
      rw [e1]
      show 0 * 2048 + 1 * q.val = q.val
      omega
    | ⟨2, _⟩ =>
      show win0_1.index t 2 * 1024 + 1 * (y 1).val = win0_4.index t 1 * 1024 + 1 * (y 1).val
      rw [e1, e4]
      rfl
  · refine (congrArg (V m c main_v5 : FVec Ideal S2x144x12288 .f32) (a₂ := ix3 1 ⟨t.val / 2 * 16 + (y 0).val / 64, by omega⟩ ⟨(4 + t.val % 2) * 1024 + (y 1).val, by omega⟩)
      (funext fun a => Fin.ext ?_)).trans ((table_at m c 1 _ _).trans (congrArg₂ (fun s k => ada m c (ix3 1 s k)) (Fin.ext ?_) (Fin.ext ?_)))
    · match a with
      | ⟨0, _⟩ =>
        show win0_3.index t 0 * 1 + 1 * 0 = 1
        rw [e3]
        rfl
      | ⟨1, _⟩ =>
        show win0_3.index t 1 * 16 + 1 * ((y 0).val / 64) = t.val / 2 * 16 + (y 0).val / 64
        rw [e3]
        show t.val / 2 * 16 + 1 * ((y 0).val / 64) = t.val / 2 * 16 + (y 0).val / 64
        omega
      | ⟨2, _⟩ =>
        show win0_3.index t 2 * 1024 + 1 * (y 1).val = (4 + t.val % 2) * 1024 + (y 1).val
        rw [e3]
        show (4 + t.val % 2) * 1024 + 1 * (y 1).val = (4 + t.val % 2) * 1024 + (y 1).val
        omega
    · show chunkSeq (t.val / 2 * 16 + (y 0).val / 64) = Cert.Out.seqOf (win0_4.index t 0 * 1024 + 1 * (y 0).val)
      rw [e4]
      show chunkSeq (t.val / 2 * 16 + (y 0).val / 64) = Cert.Out.seqOf (t.val / 2 * 1024 + 1 * (y 0).val)
      unfold chunkSeq Cert.Out.seqOf
      split_ifs <;> omega
    · show (4 + t.val % 2) * 1024 + (y 1).val = 4096 + (win0_4.index t 1 * 1024 + 1 * (y 1).val)
      rw [e4]
      show (4 + t.val % 2) * 1024 + (y 1).val = 4096 + (t.val % 2 * 1024 + 1 * (y 1).val)
      omega

/-- The run: the array is that function of the arguments, which stay as they were. -/
theorem run (ρ : Dev nD → PrngReg) : θ_run defs (onTc (τ := τ) (main (F := Ideal))) ⟨m, fun _ => 0, ρ⟩ fun r => ∀ c : Dev nD,
      r.2.mem ((c : Thread nD τ).loc main_v6) = (fun i => Cert.Out.row (merged m c) (weight m c) (rows m c) (ada m c) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 4).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.Kernel5Ideal.Residual

end
-- ==== Proof.OutRef.lean ====
/-
The reference of the output projection with its gated residual, entry by entry.
-/
module

public import proofs.«01_k».proof.Proof.Gen.Reference5Ideal.Read
public import proofs.«01_k».proof.Proof.Gen.Reference5Ideal.Run
public import proofs.«01_k».proof.Proof.OutSpec
public import Idealize.ShloMosaic.Lib.Pointwise

@[expose] public section

set_option maxRecDepth 16384

noncomputable section

namespace Cert.Reference5Ideal.Residual

open Idealize.ShloMosaic Idealize.ShloMosaic.TcCoe
open Cert.Reference5Ideal Cert.Reference5Ideal.Read

variable (M : FVec Ideal S9216x2048 .bf16) (W : FVec Ideal S2x2048x2048 .f32) (X : FVec Ideal S9216x2048 .f32) (A : FVec Ideal S2x24x12288 .f32)

/-- The layer's weight. -/
theorem weight_at (q l : Fin 2048) : val_main_v4 (F := Ideal) W (ix2 q l) = W (ix3 1 q l) := by
  rw [val_main_v4_apply, val_main_v3_apply]
  refine congrArg W (funext fun a => Fin.ext ?_)
  match a with
  | ⟨0, _⟩ => rfl
  | ⟨1, _⟩ => show (q.val * 2048 + l.val) / 2048 % 2048 = q.val; omega
  | ⟨2, _⟩ => show (q.val * 2048 + l.val) % 2048 = l.val; omega

/-- The gates of the sequences. -/
theorem gates_at (b : Fin 24) (l : Fin 2048) : val_main_v1 (F := Ideal) A (ix2 b l) = A (ix3 1 b ⟨4096 + l.val, by omega⟩) := by
  rw [val_main_v1_apply, val_main_v0_apply]
  refine congrArg A (funext fun a => Fin.ext ?_)
  match a with
  | ⟨0, _⟩ => rfl
  | ⟨1, _⟩ => show (b.val * 2048 + l.val) / 2048 % 24 = b.val; omega
  | ⟨2, _⟩ => show 4096 + (b.val * 2048 + l.val) % 2048 = 4096 + l.val; omega

/-- The prompts' rows. -/
theorem prompt_at (b : Fin 2) (r : Fin 4096) (l : Fin 2048) :
    val_main_v14 (F := Ideal) M W X A (ix3 b r l) = Cert.Out.row M W X A ⟨b.val * 4096 + r.val, by omega⟩ l := by
  have hx : val_main_v6 (F := Ideal) X (ix3 b r l) = X (ix2 ⟨b.val * 4096 + r.val, by omega⟩ l) := by
    rw [val_main_v6_apply, val_main_v5_apply]
    refine congrArg X (funext fun a => Fin.ext ?_)
    match a with
    | ⟨0, _⟩ => show ((b.val * 4096 + r.val) * 2048 + l.val) / 2048 = b.val * 4096 + r.val; omega
    | ⟨1, _⟩ => show ((b.val * 4096 + r.val) * 2048 + l.val) % 2048 = l.val; omega
  have hm : ∀ q : Fin 2048, val_main_v8 (F := Ideal) M (ix3 b r q) = M (ix2 ⟨b.val * 4096 + r.val, by omega⟩ q) := by
    intro q
    rw [val_main_v8_apply, val_main_v7_apply, val_main_v2_apply]
    refine congrArg M (funext fun a => Fin.ext ?_)
    match a with
    | ⟨0, _⟩ => show ((b.val * 4096 + r.val) * 2048 + q.val) / 2048 = b.val * 4096 + r.val; omega
    | ⟨1, _⟩ => show ((b.val * 4096 + r.val) * 2048 + q.val) % 2048 = q.val; omega
  have hd : val_main_v11 (F := Ideal) M W (ix3 b r l) = ∑ q : Fin 2048, M (ix2 ⟨b.val * 4096 + r.val, by omega⟩ q) * W (ix3 1 q l) := by
    rw [val_main_v11_apply]
    refine Finset.sum_congr rfl fun q _ => congrArg₂ (fun a b : EReal => a * b) (Eq.trans (congrArg _ (eq_ix3 _)) (hm q)) (Eq.trans (congrArg _ (eq_ix2 _)) (weight_at W q l))
  have hg : val_main_v12 (F := Ideal) A (ix3 b r l) = A (ix3 1 ⟨Cert.Out.seqOf (b.val * 4096 + r.val), Cert.Out.seqOf_lt (by omega)⟩ ⟨4096 + l.val, by omega⟩) := by
    rw [val_main_v12_apply, val_main_v10_apply, val_main_v9_apply]
    refine Eq.trans (congrArg _ (eq_ix2 _)) ((gates_at A ⟨b.val, by omega⟩ l).trans (congrArg (fun s => A (ix3 1 s _)) (Fin.ext ?_)))
    show b.val = Cert.Out.seqOf (b.val * 4096 + r.val)
    unfold Cert.Out.seqOf
    rw [if_pos (by omega)]
    omega
  rw [val_main_v14_apply, val_main_v13_apply]
  refine congrArg₂ (fun a b : EReal => a + b) hx ?_
  exact (congrArg₂ (fun a b : EReal => a * b) hg hd).trans (mul_comm _ _)

/-- The samples' rows. -/
theorem sample_at (b : Fin 16) (r : Fin 64) (l : Fin 2048) :
    val_main_v24 (F := Ideal) M W X A (ix3 b r l) = Cert.Out.row M W X A ⟨8192 + (b.val * 64 + r.val), by omega⟩ l := by
  have hx : val_main_v16 (F := Ideal) X (ix3 b r l) = X (ix2 ⟨8192 + (b.val * 64 + r.val), by omega⟩ l) := by
    rw [val_main_v16_apply, val_main_v15_apply]
    refine congrArg X (funext fun a => Fin.ext ?_)
    match a with
    | ⟨0, _⟩ => show 8192 + ((b.val * 64 + r.val) * 2048 + l.val) / 2048 = 8192 + (b.val * 64 + r.val); omega
    | ⟨1, _⟩ => show ((b.val * 64 + r.val) * 2048 + l.val) % 2048 = l.val; omega
  have hm : ∀ q : Fin 2048, val_main_v18 (F := Ideal) M (ix3 b r q) = M (ix2 ⟨8192 + (b.val * 64 + r.val), by omega⟩ q) := by
    intro q
    rw [val_main_v18_apply, val_main_v17_apply, val_main_v2_apply]
    refine congrArg M (funext fun a => Fin.ext ?_)
    match a with
    | ⟨0, _⟩ => show 8192 + ((b.val * 64 + r.val) * 2048 + q.val) / 2048 = 8192 + (b.val * 64 + r.val); omega
    | ⟨1, _⟩ => show ((b.val * 64 + r.val) * 2048 + q.val) % 2048 = q.val; omega
  have hd : val_main_v21 (F := Ideal) M W (ix3 b r l) = ∑ q : Fin 2048, M (ix2 ⟨8192 + (b.val * 64 + r.val), by omega⟩ q) * W (ix3 1 q l) := by
    rw [val_main_v21_apply]
    refine Finset.sum_congr rfl fun q _ => congrArg₂ (fun a b : EReal => a * b) (Eq.trans (congrArg _ (eq_ix3 _)) (hm q)) (Eq.trans (congrArg _ (eq_ix2 _)) (weight_at W q l))
  have hg : val_main_v22 (F := Ideal) A (ix3 b r l) = A (ix3 1 ⟨Cert.Out.seqOf (8192 + (b.val * 64 + r.val)), Cert.Out.seqOf_lt (by omega)⟩ ⟨4096 + l.val, by omega⟩) := by
    rw [val_main_v22_apply, val_main_v20_apply, val_main_v19_apply]
    refine Eq.trans (congrArg _ (eq_ix2 _)) ((gates_at A ⟨2 + b.val, by omega⟩ l).trans (congrArg (fun s => A (ix3 1 s _)) (Fin.ext ?_)))
    show 2 + b.val = Cert.Out.seqOf (8192 + (b.val * 64 + r.val))
    unfold Cert.Out.seqOf
    rw [if_neg (by omega)]
    omega
  rw [val_main_v24_apply, val_main_v23_apply]
  refine congrArg₂ (fun a b : EReal => a + b) hx ?_
  exact (congrArg₂ (fun a b : EReal => a * b) hg hd).trans (mul_comm _ _)

/-- The reference's array. -/
theorem rows_at (R : Fin 9216) (l : Fin 2048) : val_main_v27 (F := Ideal) M W X A (ix2 R l) = Cert.Out.row M W X A R l := by
  have h25 : ∀ r : Fin 8192, val_main_v25 (F := Ideal) M W X A (ix2 r l) = Cert.Out.row M W X A ⟨r.val, by omega⟩ l := by
    intro r
    rw [val_main_v25_apply]
    refine Eq.trans (congrArg _ (eq_ix3 _)) ((prompt_at M W X A ⟨(r.val * 2048 + l.val) / 8388608, by omega⟩ ⟨(r.val * 2048 + l.val) / 2048 % 4096, by omega⟩ ⟨(r.val * 2048 + l.val) % 2048, by omega⟩).trans
      (congrArg₂ (Cert.Out.row M W X A) (Fin.ext ?_) (Fin.ext ?_)))
    · show (r.val * 2048 + l.val) / 8388608 * 4096 + (r.val * 2048 + l.val) / 2048 % 4096 = r.val; omega
    · show (r.val * 2048 + l.val) % 2048 = l.val; omega
  have h26 : ∀ r : Fin 1024, val_main_v26 (F := Ideal) M W X A (ix2 r l) = Cert.Out.row M W X A ⟨8192 + r.val, by omega⟩ l := by
    intro r
    rw [val_main_v26_apply]
    refine Eq.trans (congrArg _ (eq_ix3 _)) ((sample_at M W X A ⟨(r.val * 2048 + l.val) / 131072, by omega⟩ ⟨(r.val * 2048 + l.val) / 2048 % 64, by omega⟩ ⟨(r.val * 2048 + l.val) % 2048, by omega⟩).trans
      (congrArg₂ (Cert.Out.row M W X A) (Fin.ext ?_) (Fin.ext ?_)))
    · show 8192 + ((r.val * 2048 + l.val) / 131072 * 64 + (r.val * 2048 + l.val) / 2048 % 64) = 8192 + r.val; omega
    · show (r.val * 2048 + l.val) % 2048 = l.val; omega
  unfold val_main_v27
  generalize val_main_v25 (F := Ideal) M W X A = P at h25 ⊢
  generalize val_main_v26 (F := Ideal) M W X A = Q at h26 ⊢
  pointwise
  split
  · exact (h25 _).trans (congrArg (fun R => Cert.Out.row M W X A R l) (Fin.ext rfl))
  · rename_i h
    exact (h26 _).trans (congrArg (fun R => Cert.Out.row M W X A R l) (Fin.ext (by show 8192 + (R.val - 8192) = R.val; omega)))

end Cert.Reference5Ideal.Residual

end
-- ==== Proof.OutPre.lean ====
/-
The claims about the output projection with its gated residual: the two programs' runs beside each other.
-/
module

public import proofs.«01_k».proof.Defs
public import proofs.«01_k».proof.Proof.OutRows
public import proofs.«01_k».proof.Proof.OutRef
public import proofs.«01_k».proof.Proof.Gen.Kernel5Ideal
public import proofs.«01_k».proof.Proof.Gen.Reference5Ideal
public import Idealize.ShloMosaic.Adequacy
public import Idealize.ShloMosaic.Init

@[expose] public section

noncomputable section

namespace Cert.Proof.Out

open Idealize.ShloMosaic Idealize.ShloMosaic.TcCoe Idealize.SL.Sem

/-- The reference runs, keeps its arguments, and declares no semaphore. -/
theorem frame_reference5 : Cert.quiescent_Reference5Ideal := fun m g _ =>
  (θ_run (Cert.Reference5Ideal.defs (F := Ideal)) _ _).mono
    (fun r h => And.intro (fun c => (h c).2) (sem_eq_zero_of_no_sems (by decide) r.2))
    (Cert.Reference5Ideal.Value.run (F := Ideal) m g)

/-- From equal arguments the two programs end with equal results. -/
theorem algebraic5 : Cert.algebraic_Kernel5Ideal_Reference5Ideal := by
  intro m g m' g' _ hagree
  refine ⟨fun c i => Cert.Out.row (Cert.Kernel5Ideal.Residual.merged m c) (Cert.Kernel5Ideal.Residual.weight m c)
    (Cert.Kernel5Ideal.Residual.rows m c) (Cert.Kernel5Ideal.Residual.ada m c) (i 0) (i 1), Cert.Kernel5Ideal.Residual.run m g, ?_⟩
  refine (θ_run (Cert.Reference5Ideal.defs (F := Ideal)) _ _).mono (fun r h c => ⟨((h c).1.trans ?_), (h c).2⟩)
    (Cert.Reference5Ideal.Value.run (F := Ideal) m' g')
  obtain ⟨e0, e1, e2, e3⟩ := hagree c
  refine (Cert.Reference5Ideal.Read.val_main_v27_eq _ _ _ _).trans (Eq.trans
    (congr (congr (congr (congrArg (Cert.Reference5Ideal.Read.val_main_v27 (F := Ideal)) e0) e1) e2) e3) ?_)
  funext i
  obtain ⟨R, l, rfl⟩ : ∃ (R : Fin 9216) (l : Fin 2048), i = ix2 R l := ⟨i 0, i 1, eq_ix2 i⟩
  exact Cert.Reference5Ideal.Residual.rows_at _ _ _ _ R l

end Cert.Proof.Out

end
-- ==== Proof.lean ====
module

public import proofs.«01_k».proof.Proof.MoeRef
public import proofs.«01_k».proof.Proof.MoeLaunch
public import proofs.«01_k».proof.Proof.Gen.Kernel2
public import proofs.«01_k».proof.Proof.Gen.Pre_experts_in_range
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.ReferenceIdeal.Read
public import proofs.«01_k».proof.Proof.Finite
public import proofs.«01_k».proof.Proof.MoePre
public import proofs.«01_k».proof.Proof.KvPre
public import proofs.«01_k».proof.Proof.FfnPre
public import proofs.«01_k».proof.Proof.OutPre
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read

@[expose] public section

noncomputable section

namespace Cert.Proof

open Idealize.ShloMosaic Idealize.SL.Sem Cert.Kernel

/-- The reference's run, read at its arguments; it declares no semaphore. -/
theorem frame_reference : Cert.quiescent_ReferenceIdeal := fun m g _ =>
  (θ_run (Cert.ReferenceIdeal.defs (F := Ideal)) _ _).mono
    (fun r h => And.intro (fun c => (h c).2) (Idealize.ShloMosaic.sem_eq_zero_of_no_sems (by decide) r.2))
    (Cert.ReferenceIdeal.Value.run (F := Ideal) m g)

/-- From equal arguments whose entries are numbers the two programs end with equal results. -/
theorem algebraic : Cert.algebraic_KernelIdeal_ReferenceIdeal_pre_finite (hPre_finite := Cert.Attention.facts) := by
  intro m g m' g' hpre hagree
  refine ⟨fun c => Cert.KernelIdeal.Value.G8 m c, Cert.KernelIdeal.Value.run (F := Ideal) m g, ?_⟩
  refine (θ_run (Cert.ReferenceIdeal.defs (F := Ideal)) _ _).mono (fun r h c => ⟨((h c).1.trans ?_), (h c).2⟩)
    (Cert.ReferenceIdeal.Value.run (F := Ideal) m' g')
  have hn := Cert.Attention.num_of_pre _ _ (hpre c)
  rw [Cert.ReferenceIdeal.Read.val_main_v92_eq, (hagree c).1, (hagree c).2]
  show _ = Cert.KernelIdeal.Value.G8 m c
  rw [← Cert.KernelIdeal.Value.final8, Cert.KernelIdeal.Value.final]
  funext i
  refine Eq.trans ?_ (Cert.Attention.value_eq _ _ _ hn.1 hn.2 (Cert.KernelIdeal.Value.bias_apply m c) (i 0) (i 1)).symm
  exact congrArg _ (eq_ix2 i)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Attention.facts, Cert.Pre_experts_in_range.Gen.facts,
  fun m g _ => Cert.Kernel.Gen.frame m g, fun m g _ => Cert.KernelIdeal.Gen.frame m g, fun m g _ => Cert.KernelIdeal.Gen.frame m g,
  frame_reference, fun m g _ => frame_reference m g trivial,
  Moe.frame_kernel2, Moe.frame_kernel2Ideal, Moe.frame_reference2, fun m g _ => Moe.frame_reference2 m g trivial,
  fun m g _ => Cert.Kernel3.Gen.frame m g, fun m g _ => Cert.Kernel3Ideal.Gen.frame m g, Kv.frame_reference3,
  fun m g _ => Cert.Kernel4.Gen.frame m g, fun m g _ => Cert.Kernel4Ideal.Gen.frame m g, Ffn.frame_reference4,
  fun m g _ => Cert.Kernel5.Gen.frame m g, fun m g _ => Cert.Kernel5Ideal.Gen.frame m g, Out.frame_reference5,
  IdealRules.named_const.statement Cert.KernelIdeal.κ "mask" .f32 0xF149F2CA#32 ⊥ rfl,
  algebraic, trivial, Moe.algebraic2, trivial, Kv.algebraic3, trivial, Ffn.algebraic4, trivial, Out.algebraic5⟩

end Cert.Proof

end
